-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_clear_of_overflow [hPre_lengths_clear_of_overflow : Cert.Pre_lengths_clear_of_overflow.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_clear_of_overflow.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_clear_of_overflow [hPre_lengths_clear_of_overflow : Cert.Pre_lengths_clear_of_overflow.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_clear_of_overflow.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_lengths_clear_of_overflow [hKernelIdeal : Cert.KernelIdeal.Facts] [hPre_lengths_clear_of_overflow : Cert.Pre_lengths_clear_of_overflow.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_clear_of_overflow m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_lengths_clear_of_overflow [hReferenceIdeal : Cert.ReferenceIdeal.Facts] [hPre_lengths_clear_of_overflow : Cert.Pre_lengths_clear_of_overflow.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_clear_of_overflow m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S96x128 Cert.KernelIdeal.S48x128

def algebraic_KernelIdeal_ReferenceIdeal_pre_lengths_clear_of_overflow [hKernelIdeal : Cert.KernelIdeal.Facts] [hReferenceIdeal : Cert.ReferenceIdeal.Facts] [hPre_lengths_clear_of_overflow : Cert.Pre_lengths_clear_of_overflow.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_clear_of_overflow m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_lengths_clear_of_overflow : Cert.Pre_lengths_clear_of_overflow.Facts),
    quiescent_Kernel (hKernel := hKernel)
    ∧ quiescent_KernelIdeal (hKernelIdeal := hKernelIdeal)
    ∧ quiescent_KernelIdeal_pre_lengths_clear_of_overflow (hKernelIdeal := hKernelIdeal) (hPre_lengths_clear_of_overflow := hPre_lengths_clear_of_overflow)
    ∧ quiescent_ReferenceIdeal (hReferenceIdeal := hReferenceIdeal)
    ∧ quiescent_ReferenceIdeal_pre_lengths_clear_of_overflow (hReferenceIdeal := hReferenceIdeal) (hPre_lengths_clear_of_overflow := hPre_lengths_clear_of_overflow)
    ∧ preserves_Kernel_KernelIdeal
    ∧ algebraic_KernelIdeal_ReferenceIdeal_pre_lengths_clear_of_overflow (hKernelIdeal := hKernelIdeal) (hReferenceIdeal := hReferenceIdeal) (hPre_lengths_clear_of_overflow := hPre_lengths_clear_of_overflow)
-- ==== Pre_lengths_clear_of_overflow.lean ====
abbrev S2x4096x32x96 : Shape := ⟨4, ![2, 4096, 32, 96]⟩
abbrev S2x4096x32 : Shape := ⟨3, ![2, 4096, 32]⟩
abbrev S2 : Shape := ⟨1, ![2]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : IVec S2x4096x32x96 8) (main_arg1 : FVec F S2x4096x32 .f32) (main_arg2 : IVec S2 32) (main_arg3 : IVec S2 32) : IVec S_ 1 :=
  let main_c : IVec S_ 32 := constantI S_ 32 2147487616#32
  let main_v0 : IVec S2 32 := broadcastInDim S2 ![] bcast_S_S2 main_c
  let main_v1 : IVec S2 1 := cmpi .sge main_arg2 main_v0
  let main_c_0 : IVec S_ 1 := constantI S_ 1 1#1
  let main_v2 : IVec S_ 1 := (fun x v => Host.reduce IntOp.andi x v reducesTo_S2_S_d0 h_S_) main_v1 main_c_0
  let main_c_1 : IVec S_ 32 := constantI S_ 32 2147483136#32
  let main_v3 : IVec S2 32 := broadcastInDim S2 ![] bcast_S_S2 main_c_1
  let main_v4 : IVec S2 1 := cmpi .sle main_arg2 main_v3
  let main_c_2 : IVec S_ 1 := constantI S_ 1 1#1
  let main_v5 : IVec S_ 1 := (fun x v => Host.reduce IntOp.andi x v reducesTo_S2_S_d0 h_S_) main_v4 main_c_2
  let main_v6 : IVec S_ 1 := andi main_v2 main_v5
  main_v6
-- ==== Kernel.lean ====
abbrev S2x4096x32x96 : Shape := ⟨4, ![2, 4096, 32, 96]⟩
abbrev S2x4096x32 : Shape := ⟨3, ![2, 4096, 32]⟩
abbrev S2 : Shape := ⟨1, ![2]⟩
abbrev S48 : Shape := ⟨1, ![48]⟩
abbrev S_ : Shape := ⟨0, ![]⟩
abbrev S2x1 : Shape := ⟨2, ![2, 1]⟩
abbrev S1x48 : Shape := ⟨2, ![1, 48]⟩
abbrev S2x48 : Shape := ⟨2, ![2, 48]⟩
abbrev S2x48x1 : Shape := ⟨3, ![2, 48, 1]⟩
abbrev S2x48x128 : Shape := ⟨3, ![2, 48, 128]⟩
abbrev S2x32x96x4096 : Shape := ⟨4, ![2, 32, 96, 4096]⟩
abbrev S2x32x4096 : Shape := ⟨3, ![2, 32, 4096]⟩
abbrev S1x48x128 : Shape := ⟨3, ![1, 48, 128]⟩
abbrev S1x32x96x512 : Shape := ⟨4, ![1, 32, 96, 512]⟩
abbrev S1 : Shape := ⟨1, ![1]⟩
abbrev S1x32x512 : Shape := ⟨3, ![1, 32, 512]⟩
abbrev S32x2x48x128 : Shape := ⟨4, ![32, 2, 48, 128]⟩
abbrev S4x72x128 : Shape := ⟨3, ![4, 72, 128]⟩
abbrev S32x128 : Shape := ⟨2, ![32, 128]⟩
abbrev S8x128 : Shape := ⟨2, ![8, 128]⟩
abbrev S1x1x96x128 : Shape := ⟨4, ![1, 1, 96, 128]⟩
abbrev S96x128 : Shape := ⟨2, ![96, 128]⟩
abbrev S48x128 : Shape := ⟨2, ![48, 128]⟩
abbrev S1x1x48x128 : Shape := ⟨4, ![1, 1, 48, 128]⟩
abbrev S6x8x128 : Shape := ⟨3, ![6, 8, 128]⟩
abbrev S1x8x128 : Shape := ⟨3, ![1, 8, 128]⟩
abbrev S32x96x128 : Shape := ⟨3, ![32, 96, 128]⟩
abbrev S1x32x96x128 : Shape := ⟨4, ![1, 32, 96, 128]⟩
abbrev S1x32x128 : Shape := ⟨3, ![1, 32, 128]⟩

abbrev nBuf : Space → Nat
  | .hbm => 35
  | .vmem => 15
  | .smem => 1
  | _ => 0

abbrev bufTy : (tb : Table) → Fin (tcTables nBuf tb) → BufTy
  | .hbm, ⟨0, _⟩ => ⟨S2x4096x32x96, .i8⟩
  | .hbm, ⟨1, _⟩ => ⟨S2x4096x32, .f32⟩
  | .hbm, ⟨2, _⟩ => ⟨S2, .i32⟩
  | .hbm, ⟨3, _⟩ => ⟨S48, .f32⟩
  | .hbm, ⟨4, _⟩ => ⟨S_, .f32⟩
  | .hbm, ⟨5, _⟩ => ⟨S48, .f32⟩
  | .hbm, ⟨6, _⟩ => ⟨S48, .f32⟩
  | .hbm, ⟨7, _⟩ => ⟨S_, .f32⟩
  | .hbm, ⟨8, _⟩ => ⟨S48, .f32⟩
  | .hbm, ⟨9, _⟩ => ⟨S48, .f32⟩
  | .hbm, ⟨10, _⟩ => ⟨S48, .f32⟩
  | .hbm, ⟨11, _⟩ => ⟨S_, .f32⟩
  | .hbm, ⟨12, _⟩ => ⟨S48, .f32⟩
  | .hbm, ⟨13, _⟩ => ⟨S48, .f32⟩
  | .hbm, ⟨14, _⟩ => ⟨S_, .f32⟩
  | .hbm, ⟨15, _⟩ => ⟨S48, .f32⟩
  | .hbm, ⟨16, _⟩ => ⟨S48, .f32⟩
  | .hbm, ⟨17, _⟩ => ⟨S2, .f32⟩
  | .hbm, ⟨18, _⟩ => ⟨S2x1, .f32⟩
  | .hbm, ⟨19, _⟩ => ⟨S1x48, .f32⟩
  | .hbm, ⟨20, _⟩ => ⟨S2x48, .f32⟩
  | .hbm, ⟨21, _⟩ => ⟨S2x48, .f32⟩
  | .hbm, ⟨22, _⟩ => ⟨S2x48, .f32⟩
  | .hbm, ⟨23, _⟩ => ⟨S2x48, .f32⟩
  | .hbm, ⟨24, _⟩ => ⟨S2x48, .f32⟩
  | .hbm, ⟨25, _⟩ => ⟨S2x48x1, .f32⟩
  | .hbm, ⟨26, _⟩ => ⟨S2x48x128, .f32⟩
  | .hbm, ⟨27, _⟩ => ⟨S2x48x1, .f32⟩
  | .hbm, ⟨28, _⟩ => ⟨S2x48x128, .f32⟩
  | .hbm, ⟨29, _⟩ => ⟨S2x32x96x4096, .i8⟩
  | .hbm, ⟨30, _⟩ => ⟨S2x32x4096, .f32⟩
  | .hbm, ⟨31, _⟩ => ⟨S2x32x96x4096, .i8⟩
  | .hbm, ⟨32, _⟩ => ⟨S2x32x4096, .f32⟩
  | .hbm, ⟨33, _⟩ => ⟨S2x4096x32x96, .i8⟩
  | .hbm, ⟨34, _⟩ => ⟨S2x4096x32, .f32⟩
  | .local _ .vmem, ⟨0, _⟩ => ⟨S1x48x128, .f32⟩
  | .local _ .vmem, ⟨1, _⟩ => ⟨S1x48x128, .f32⟩
  | .local _ .vmem, ⟨2, _⟩ => ⟨S1x48x128, .f32⟩
  | .local _ .vmem, ⟨3, _⟩ => ⟨S1x48x128, .f32⟩
  | .local _ .vmem, ⟨4, _⟩ => ⟨S1x32x96x512, .i8⟩
  | .local _ .vmem, ⟨5, _⟩ => ⟨S1x32x96x512, .i8⟩
  | .local _ .vmem, ⟨6, _⟩ => ⟨S1x32x512, .f32⟩
  | .local _ .vmem, ⟨7, _⟩ => ⟨S1x32x512, .f32⟩
  | .local _ .vmem, ⟨8, _⟩ => ⟨S1x32x96x512, .i8⟩
  | .local _ .vmem, ⟨9, _⟩ => ⟨S1x32x96x512, .i8⟩
  | .local _ .vmem, ⟨10, _⟩ => ⟨S1x32x512, .f32⟩
  | .local _ .vmem, ⟨11, _⟩ => ⟨S1x32x512, .f32⟩
  | .local _ .vmem, ⟨12, _⟩ => ⟨S32x2x48x128, .f32⟩
  | .local _ .vmem, ⟨13, _⟩ => ⟨S4x72x128, .f32⟩
  | .local _ .vmem, ⟨14, _⟩ => ⟨S32x128, .f32⟩
  | .local _ .smem, ⟨0, _⟩ => ⟨S2, .i32⟩
  | _, _ => ⟨S2x4096x32x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev main_v25 : Ref sig .tc := ⟨.hbm, 33, rfl⟩
abbrev main_v26 : Ref sig .tc := ⟨.hbm, 34, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![2, 8], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  v4
def k0_off2 (k0_t1 : Fin k0_t1_loop.trips) : Fin 4 → Nat :=
  let c0 : Index := 0#32
  let c0_5 : Index := 0#32
  let c0_6 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v17 : Index := Scalar.indexCast v5
  ![0, 0, 0, v17.toNat]
def k0_off3 (k0_t1 : Fin k0_t1_loop.trips) : Fin 4 → Nat :=
  let c0_23 : Index := 0#32
  let c1_24 : Index := 1#32
  let c0_25 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v52 : Index := Scalar.indexCast v5
  ![0, 1, 0, v52.toNat]
def k0_off4 (k0_t1 : Fin k0_t1_loop.trips) : Fin 4 → Nat :=
  let c0_46 : Index := 0#32
  let c2 : Index := 2#32
  let c0_47 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v87 : Index := Scalar.indexCast v5
  ![0, 2, 0, v87.toNat]
def k0_off5 (k0_t1 : Fin k0_t1_loop.trips) : Fin 4 → Nat :=
  let c0_68 : Index := 0#32
  let c3 : Index := 3#32
  let c0_69 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v122 : Index := Scalar.indexCast v5
  ![0, 3, 0, v122.toNat]
def k0_off6 (k0_t1 : Fin k0_t1_loop.trips) : Fin 4 → Nat :=
  let c0_90 : Index := 0#32
  let c4 : Index := 4#32
  let c0_91 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v157 : Index := Scalar.indexCast v5
  ![0, 4, 0, v157.toNat]
def k0_off7 (k0_t1 : Fin k0_t1_loop.trips) : Fin 4 → Nat :=
  let c0_112 : Index := 0#32
  let c5 : Index := 5#32
  let c0_113 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v192 : Index := Scalar.indexCast v5
  ![0, 5, 0, v192.toNat]
def k0_off8 (k0_t1 : Fin k0_t1_loop.trips) : Fin 4 → Nat :=
  let c0_134 : Index := 0#32
  let c6 : Index := 6#32
  let c0_135 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v227 : Index := Scalar.indexCast v5
  ![0, 6, 0, v227.toNat]
def k0_off9 (k0_t1 : Fin k0_t1_loop.trips) : Fin 4 → Nat :=
  let c0_156 : Index := 0#32
  let c7 : Index := 7#32
  let c0_157 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v262 : Index := Scalar.indexCast v5
  ![0, 7, 0, v262.toNat]
def k0_off10 (k0_t1 : Fin k0_t1_loop.trips) : Fin 3 → Nat :=
  let c0_195 : Index := 0#32
  let c0_196 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v320 : Index := Scalar.indexCast v5
  ![0, 0, v320.toNat]
def k0_off11 (k0_t1 : Fin k0_t1_loop.trips) : Fin 4 → Nat :=
  let c0_341 : Index := 0#32
  let c8 : Index := 8#32
  let c0_342 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v558 : Index := Scalar.indexCast v5
  ![0, 8, 0, v558.toNat]
def k0_off12 (k0_t1 : Fin k0_t1_loop.trips) : Fin 4 → Nat :=
  let c0_363 : Index := 0#32
  let c9_364 : Index := 9#32
  let c0_365 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v593 : Index := Scalar.indexCast v5
  ![0, 9, 0, v593.toNat]
def k0_off13 (k0_t1 : Fin k0_t1_loop.trips) : Fin 4 → Nat :=
  let c0_386 : Index := 0#32
  let c10 : Index := 10#32
  let c0_387 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v628 : Index := Scalar.indexCast v5
  ![0, 10, 0, v628.toNat]
def k0_off14 (k0_t1 : Fin k0_t1_loop.trips) : Fin 4 → Nat :=
  let c0_408 : Index := 0#32
  let c11 : Index := 11#32
  let c0_409 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v663 : Index := Scalar.indexCast v5
  ![0, 11, 0, v663.toNat]
def k0_off15 (k0_t1 : Fin k0_t1_loop.trips) : Fin 4 → Nat :=
  let c0_430 : Index := 0#32
  let c12 : Index := 12#32
  let c0_431 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v698 : Index := Scalar.indexCast v5
  ![0, 12, 0, v698.toNat]
def k0_off16 (k0_t1 : Fin k0_t1_loop.trips) : Fin 4 → Nat :=
  let c0_452 : Index := 0#32
  let c13 : Index := 13#32
  let c0_453 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v733 : Index := Scalar.indexCast v5
  ![0, 13, 0, v733.toNat]
def k0_off17 (k0_t1 : Fin k0_t1_loop.trips) : Fin 4 → Nat :=
  let c0_474 : Index := 0#32
  let c14 : Index := 14#32
  let c0_475 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v768 : Index := Scalar.indexCast v5
  ![0, 14, 0, v768.toNat]
def k0_off18 (k0_t1 : Fin k0_t1_loop.trips) : Fin 4 → Nat :=
  let c0_496 : Index := 0#32
  let c15 : Index := 15#32
  let c0_497 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v803 : Index := Scalar.indexCast v5
  ![0, 15, 0, v803.toNat]
def k0_off19 (k0_t1 : Fin k0_t1_loop.trips) : Fin 3 → Nat :=
  let c0_542 : Index := 0#32
  let c8_543 : Index := 8#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v861 : Index := Scalar.indexCast v5
  ![0, 8, v861.toNat]
def k0_off20 (k0_t1 : Fin k0_t1_loop.trips) : Fin 4 → Nat :=
  let c0_688 : Index := 0#32
  let c16 : Index := 16#32
  let c0_689 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1099 : Index := Scalar.indexCast v5
  ![0, 16, 0, v1099.toNat]
def k0_off21 (k0_t1 : Fin k0_t1_loop.trips) : Fin 4 → Nat :=
  let c0_710 : Index := 0#32
  let c17 : Index := 17#32
  let c0_711 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1134 : Index := Scalar.indexCast v5
  ![0, 17, 0, v1134.toNat]
def k0_off22 (k0_t1 : Fin k0_t1_loop.trips) : Fin 4 → Nat :=
  let c0_732 : Index := 0#32
  let c18_733 : Index := 18#32
  let c0_734 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1169 : Index := Scalar.indexCast v5
  ![0, 18, 0, v1169.toNat]
def k0_off23 (k0_t1 : Fin k0_t1_loop.trips) : Fin 4 → Nat :=
  let c0_755 : Index := 0#32
  let c19 : Index := 19#32
  let c0_756 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1204 : Index := Scalar.indexCast v5
  ![0, 19, 0, v1204.toNat]
def k0_off24 (k0_t1 : Fin k0_t1_loop.trips) : Fin 4 → Nat :=
  let c0_777 : Index := 0#32
  let c20 : Index := 20#32
  let c0_778 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1239 : Index := Scalar.indexCast v5
  ![0, 20, 0, v1239.toNat]
def k0_off25 (k0_t1 : Fin k0_t1_loop.trips) : Fin 4 → Nat :=
  let c0_799 : Index := 0#32
  let c21 : Index := 21#32
  let c0_800 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1274 : Index := Scalar.indexCast v5
  ![0, 21, 0, v1274.toNat]
def k0_off26 (k0_t1 : Fin k0_t1_loop.trips) : Fin 4 → Nat :=
  let c0_821 : Index := 0#32
  let c22 : Index := 22#32
  let c0_822 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1309 : Index := Scalar.indexCast v5
  ![0, 22, 0, v1309.toNat]
def k0_off27 (k0_t1 : Fin k0_t1_loop.trips) : Fin 4 → Nat :=
  let c0_843 : Index := 0#32
  let c23 : Index := 23#32
  let c0_844 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1344 : Index := Scalar.indexCast v5
  ![0, 23, 0, v1344.toNat]
def k0_off28 (k0_t1 : Fin k0_t1_loop.trips) : Fin 3 → Nat :=
  let c0_889 : Index := 0#32
  let c16_890 : Index := 16#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1402 : Index := Scalar.indexCast v5
  ![0, 16, v1402.toNat]
def k0_off29 (k0_t1 : Fin k0_t1_loop.trips) : Fin 4 → Nat :=
  let c0_1035 : Index := 0#32
  let c24 : Index := 24#32
  let c0_1036 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1640 : Index := Scalar.indexCast v5
  ![0, 24, 0, v1640.toNat]
def k0_off30 (k0_t1 : Fin k0_t1_loop.trips) : Fin 4 → Nat :=
  let c0_1057 : Index := 0#32
  let c25 : Index := 25#32
  let c0_1058 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1675 : Index := Scalar.indexCast v5
  ![0, 25, 0, v1675.toNat]
def k0_off31 (k0_t1 : Fin k0_t1_loop.trips) : Fin 4 → Nat :=
  let c0_1079 : Index := 0#32
  let c26 : Index := 26#32
  let c0_1080 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1710 : Index := Scalar.indexCast v5
  ![0, 26, 0, v1710.toNat]
def k0_off32 (k0_t1 : Fin k0_t1_loop.trips) : Fin 4 → Nat :=
  let c0_1101 : Index := 0#32
  let c27_1102 : Index := 27#32
  let c0_1103 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1745 : Index := Scalar.indexCast v5
  ![0, 27, 0, v1745.toNat]
def k0_off33 (k0_t1 : Fin k0_t1_loop.trips) : Fin 4 → Nat :=
  let c0_1124 : Index := 0#32
  let c28 : Index := 28#32
  let c0_1125 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1780 : Index := Scalar.indexCast v5
  ![0, 28, 0, v1780.toNat]
def k0_off34 (k0_t1 : Fin k0_t1_loop.trips) : Fin 4 → Nat :=
  let c0_1146 : Index := 0#32
  let c29 : Index := 29#32
  let c0_1147 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1815 : Index := Scalar.indexCast v5
  ![0, 29, 0, v1815.toNat]
def k0_off35 (k0_t1 : Fin k0_t1_loop.trips) : Fin 4 → Nat :=
  let c0_1168 : Index := 0#32
  let c30 : Index := 30#32
  let c0_1169 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1850 : Index := Scalar.indexCast v5
  ![0, 30, 0, v1850.toNat]
def k0_off36 (k0_t1 : Fin k0_t1_loop.trips) : Fin 4 → Nat :=
  let c0_1190 : Index := 0#32
  let c31 : Index := 31#32
  let c0_1191 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1885 : Index := Scalar.indexCast v5
  ![0, 31, 0, v1885.toNat]
def k0_off37 (k0_t1 : Fin k0_t1_loop.trips) : Fin 3 → Nat :=
  let c0_1236 : Index := 0#32
  let c24_1237 : Index := 24#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v1943 : Index := Scalar.indexCast v5
  ![0, 24, v1943.toNat]
def k0_off38 (k0_t1 : Fin k0_t1_loop.trips) : Fin 4 → Nat :=
  let c0 : Index := 0#32
  let c0_5 : Index := 0#32
  let c0_6 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v15 : Index := Scalar.indexCast v5
  ![0, 0, 0, v15.toNat]
def k0_off39 (k0_t1 : Fin k0_t1_loop.trips) : Fin 3 → Nat :=
  let c0_7 : Index := 0#32
  let c0_8 : Index := 0#32
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v20 : Index := Scalar.indexCast v5
  ![0, 0, v20.toNat]
def k0_cond1 (i : grid0.Coords) (v2 : BitVec 32) (k0_t1 : Fin k0_t1_loop.trips) : BitVec 1 :=
  let arg1 : BitVec 32 := BitVec.ofNat 32 (i 1).val
  let c512_i32 : BitVec 32 := 512#32
  let v0 : BitVec 32 := Scalar.muli arg1 c512_i32
  let v6 : BitVec 32 := Scalar.subi v2 v0
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v7 : BitVec 32 := Scalar.subi v6 v5
  let c0_i32_1 : BitVec 32 := 0#32
  let v8 : BitVec 1 := Scalar.cmpi .sgt v7 c0_i32_1
  let v9 : BitVec 32 := Scalar.extui v8
  let c0_i32_2 : BitVec 32 := 0#32
  let v10 : BitVec 1 := Scalar.cmpi .ne v9 c0_i32_2
  v10

def k0_cond2 (i : grid0.Coords) (v2 : BitVec 32) (k0_t1 : Fin k0_t1_loop.trips) : BitVec 1 :=
  let arg1 : BitVec 32 := BitVec.ofNat 32 (i 1).val
  let c512_i32 : BitVec 32 := 512#32
  let v0 : BitVec 32 := Scalar.muli arg1 c512_i32
  let v6 : BitVec 32 := Scalar.subi v2 v0
  let c0_i32 : BitVec 32 := 0#32
  let c1_i32 : BitVec 32 := 1#32
  let arg12 : BitVec 32 := Scf.iv c0_i32 c1_i32 k0_t1
  let c128_i32 : BitVec 32 := 128#32
  let v4 : BitVec 32 := Scalar.muli arg12 c128_i32
  let v5 : BitVec 32 := v4
  let v7 : BitVec 32 := Scalar.subi v6 v5
  let c0_i32_3 : BitVec 32 := 0#32
  let v11 : BitVec 1 := Scalar.cmpi .sle v7 c0_i32_3
  let v12 : BitVec 32 := Scalar.extui v11
  let c0_i32_4 : BitVec 32 := 0#32
  let v13 : BitVec 1 := Scalar.cmpi .ne v12 c0_i32_4
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c511_i32 : BitVec 32 := 511#32
  let v2 : BitVec 32 := Scalar.addi v1 c511_i32
  let c512_i32 : BitVec 32 := 512#32
  let v3 : BitVec 32 := Scalar.divsi v2 c512_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  let c0_i32_2 : BitVec 32 := 0#32
  ![arg0.toNat, c0_i32_0.toNat, c0_i32_1.toNat, v6.toNat]

def cc0_transform_3 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c511_i32 : BitVec 32 := 511#32
  let v2 : BitVec 32 := Scalar.addi v1 c511_i32
  let c512_i32 : BitVec 32 := 512#32
  let v3 : BitVec 32 := Scalar.divsi v2 c512_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, c0_i32_0.toNat, v6.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x48x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x48x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x96x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x96x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F]
-- ==== ReferenceIdeal.lean ====
abbrev S2x4096x32x96 : Shape := ⟨4, ![2, 4096, 32, 96]⟩
abbrev S2x4096x32 : Shape := ⟨3, ![2, 4096, 32]⟩
abbrev S2 : Shape := ⟨1, ![2]⟩
abbrev S2x4096x32x1 : Shape := ⟨4, ![2, 4096, 32, 1]⟩
abbrev S2x1 : Shape := ⟨2, ![2, 1]⟩
abbrev S48 : Shape := ⟨1, ![48]⟩
abbrev S_ : Shape := ⟨0, ![]⟩
abbrev S1x48 : Shape := ⟨2, ![1, 48]⟩
abbrev S2x48 : Shape := ⟨2, ![2, 48]⟩
abbrev S96 : Shape := ⟨1, ![96]⟩
abbrev S2x48x2 : Shape := ⟨3, ![2, 48, 2]⟩
abbrev S2x96 : Shape := ⟨2, ![2, 96]⟩
abbrev S1x96 : Shape := ⟨2, ![1, 96]⟩
abbrev S2x4096x3072 : Shape := ⟨3, ![2, 4096, 3072]⟩
abbrev S1x2x1x96 : Shape := ⟨4, ![1, 2, 1, 96]⟩
abbrev S1x2x32x96 : Shape := ⟨4, ![1, 2, 32, 96]⟩
abbrev S2x3072 : Shape := ⟨2, ![2, 3072]⟩
abbrev S2x1x3072 : Shape := ⟨3, ![2, 1, 3072]⟩
abbrev S32x96 : Shape := ⟨2, ![32, 96]⟩
abbrev S3072 : Shape := ⟨1, ![3072]⟩
abbrev S1x1x3072 : Shape := ⟨3, ![1, 1, 3072]⟩
abbrev S2x4096x3071 : Shape := ⟨3, ![2, 4096, 3071]⟩
abbrev S2x4096x1 : Shape := ⟨3, ![2, 4096, 1]⟩
abbrev S4096 : Shape := ⟨1, ![4096]⟩
abbrev S1x4096 : Shape := ⟨2, ![1, 4096]⟩
abbrev S2x4096 : Shape := ⟨2, ![2, 4096]⟩

abbrev nBuf : Space → Nat
  | .hbm => 129
  | .vmem => 0
  | .smem => 0
  | _ => 0

abbrev hbmTy0_0 (i : Nat) : BufTy := match i % 128 with
  | 0 => ⟨S2x4096x32x96, .i8⟩
  | 1 => ⟨S2x4096x32, .f32⟩
  | 2 => ⟨S2, .i32⟩
  | 3 => ⟨S2, .i32⟩
  | 4 => ⟨S2x4096x32x96, .i32⟩
  | 5 => ⟨S2x4096x32x96, .f32⟩
  | 6 => ⟨S2x4096x32x1, .f32⟩
  | 7 => ⟨S2x4096x32x96, .f32⟩
  | 8 => ⟨S2x4096x32x96, .f32⟩
  | 9 => ⟨S2, .f32⟩
  | 10 => ⟨S2x1, .f32⟩
  | 11 => ⟨S48, .f32⟩
  | 12 => ⟨S_, .f32⟩
  | 13 => ⟨S48, .f32⟩
  | 14 => ⟨S48, .f32⟩
  | 15 => ⟨S_, .f32⟩
  | 16 => ⟨S48, .f32⟩
  | 17 => ⟨S48, .f32⟩
  | 18 => ⟨S48, .f32⟩
  | 19 => ⟨S_, .f32⟩
  | 20 => ⟨S48, .f32⟩
  | 21 => ⟨S48, .f32⟩
  | 22 => ⟨S_, .f32⟩
  | 23 => ⟨S48, .f32⟩
  | 24 => ⟨S48, .f32⟩
  | 25 => ⟨S1x48, .f32⟩
  | 26 => ⟨S2x48, .f32⟩
  | 27 => ⟨S2x48, .f32⟩
  | 28 => ⟨S2x48, .f32⟩
  | 29 => ⟨S2x48, .f32⟩
  | 30 => ⟨S2x48, .f32⟩
  | 31 => ⟨S96, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S96, .i32⟩
  | 39 => ⟨S96, .i32⟩
  | 40 => ⟨S_, .i32⟩
  | 41 => ⟨S96, .i32⟩
  | 42 => ⟨S96, .i1⟩
  | 43 => ⟨S_, .i32⟩
  | 44 => ⟨S96, .i32⟩
  | 45 => ⟨S96, .i1⟩
  | 46 => ⟨S_, .i32⟩
  | 47 => ⟨S_, .i1⟩
  | 48 => ⟨S96, .i1⟩
  | 49 => ⟨S96, .i1⟩
  | 50 => ⟨S96, .i1⟩
  | 51 => ⟨S96, .i32⟩
  | 52 => ⟨S96, .i32⟩
  | 53 => ⟨S96, .i32⟩
  | 54 => ⟨S_, .i32⟩
  | 55 => ⟨S96, .i32⟩
  | 56 => ⟨S96, .i1⟩
  | 57 => ⟨S2x48x2, .f32⟩
  | 58 => ⟨S2x96, .f32⟩
  | 59 => ⟨S2x48x2, .f32⟩
  | 60 => ⟨S2x96, .f32⟩
  | 61 => ⟨S1x96, .i1⟩
  | 62 => ⟨S2x96, .f32⟩
  | 63 => ⟨S2x96, .i1⟩
  | 64 => ⟨S2x96, .f32⟩
  | 65 => ⟨S2x4096x3072, .f32⟩
  | 66 => ⟨S1x2x1x96, .f32⟩
  | 67 => ⟨S1x2x32x96, .f32⟩
  | 68 => ⟨S2x3072, .f32⟩
  | 69 => ⟨S2x1x3072, .f32⟩
  | 70 => ⟨S1x2x1x96, .f32⟩
  | 71 => ⟨S1x2x32x96, .f32⟩
  | 72 => ⟨S2x3072, .f32⟩
  | 73 => ⟨S2x1x3072, .f32⟩
  | 74 => ⟨S1x96, .i1⟩
  | 75 => ⟨S32x96, .i1⟩
  | 76 => ⟨S3072, .i1⟩
  | 77 => ⟨S1x1x3072, .i1⟩
  | 78 => ⟨S2x4096x3071, .f32⟩
  | 79 => ⟨S2x4096x1, .f32⟩
  | 80 => ⟨S2x4096x3072, .f32⟩
  | 81 => ⟨S2x4096x1, .f32⟩
  | 82 => ⟨S2x4096x3071, .f32⟩
  | 83 => ⟨S2x4096x3072, .f32⟩
  | 84 => ⟨S2x4096x3072, .i1⟩
  | 85 => ⟨S2x4096x3072, .f32⟩
  | 86 => ⟨S2x4096x3072, .f32⟩
  | 87 => ⟨S2x4096x3072, .f32⟩
  | 88 => ⟨S2x4096x3072, .f32⟩
  | 89 => ⟨S2x4096x3072, .f32⟩
  | 90 => ⟨S2x4096x3072, .f32⟩
  | 91 => ⟨S4096, .i32⟩
  | 92 => ⟨S1x4096, .i32⟩
  | 93 => ⟨S2x1, .i32⟩
  | 94 => ⟨S2x4096, .i32⟩
  | 95 => ⟨S2x4096, .i32⟩
  | 96 => ⟨S2x4096, .i1⟩
  | 97 => ⟨S2x4096x1, .i1⟩
  | 98 => ⟨S_, .f32⟩
  | 99 => ⟨S2x4096x3072, .i1⟩
  | 100 => ⟨S2x4096x3072, .f32⟩
  | 101 => ⟨S2x4096x3072, .f32⟩
  | 102 => ⟨S2x4096x32x96, .f32⟩
  | 103 => ⟨S2x4096x32x96, .f32⟩
  | 104 => ⟨S_, .f32⟩
  | 105 => ⟨S2x4096x32, .f32⟩
  | 106 => ⟨S_, .f32⟩
  | 107 => ⟨S2x4096x32, .f32⟩
  | 108 => ⟨S2x4096x32, .i1⟩
  | 109 => ⟨S_, .f32⟩
  | 110 => ⟨S2x4096x32, .f32⟩
  | 111 => ⟨S2x4096x32, .f32⟩
  | 112 => ⟨S_, .f32⟩
  | 113 => ⟨S2x4096x32, .f32⟩
  | 114 => ⟨S2x4096x32, .f32⟩
  | 115 => ⟨S2x4096x32x1, .f32⟩
  | 116 => ⟨S2x4096x32x96, .f32⟩
  | 117 => ⟨S2x4096x32x96, .f32⟩
  | 118 => ⟨S2x4096x32x96, .f32⟩
  | 119 => ⟨S_, .f32⟩
  | 120 => ⟨S_, .f32⟩
  | 121 => ⟨S_, .f32⟩
  | 122 => ⟨S2x4096x32x96, .f32⟩
  | 123 => ⟨S2x4096x32x96, .f32⟩
  | 124 => ⟨S_, .f32⟩
  | 125 => ⟨S2x4096x32x96, .f32⟩
  | 126 => ⟨S2x4096x32x96, .f32⟩
  | 127 => ⟨S2x4096x32x96, .i32⟩
  | _ => ⟨S2x4096x32x96, .i8⟩

abbrev hbmTy0_1 (i : Nat) : BufTy := match i % 128 with
  | 0 => ⟨S2x4096x32x96, .i8⟩
  | _ => ⟨S2x4096x32x96, .i8⟩

abbrev hbmTy (i : Nat) : BufTy := match i / 128 with
  | 0 => hbmTy0_0 i
  | 1 => hbmTy0_1 i
  | _ => ⟨S2x4096x32x96, .i8⟩

abbrev bufTy : (tb : Table) → Fin (tcTables nBuf tb) → BufTy
  | .hbm, ⟨i, _⟩ => hbmTy i
  | _, _ => ⟨S2x4096x32x96, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v24 : Ref sig .tc := ⟨.hbm, 53, rfl⟩
abbrev main_c_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call1_v0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call2_v0 : Ref sig .tc := ⟨.hbm, 78, rfl⟩
abbrev main_call2_v1 : Ref sig .tc := ⟨.hbm, 79, rfl⟩
abbrev main_v47 : Ref sig .tc := ⟨.hbm, 80, rfl⟩
abbrev main_call3_v0 : Ref sig .tc := ⟨.hbm, 81, rfl⟩
abbrev main_call3_v1 : Ref sig .tc := ⟨.hbm, 82, rfl⟩
abbrev main_v48 : Ref sig .tc := ⟨.hbm, 83, rfl⟩
abbrev main_call4_v0 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_4 : Ref sig .tc := ⟨.hbm, 98, rfl⟩
abbrev main_call5_v0 : Ref sig .tc := ⟨.hbm, 99, rfl⟩
abbrev main_call5_v1 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_5 : Ref sig .tc := ⟨.hbm, 104, rfl⟩
abbrev main_v65 : Ref sig .tc := ⟨.hbm, 105, rfl⟩
abbrev main_cst_6 : Ref sig .tc := ⟨.hbm, 106, rfl⟩
abbrev main_v66 : Ref sig .tc := ⟨.hbm, 107, rfl⟩
abbrev main_v67 : Ref sig .tc := ⟨.hbm, 108, rfl⟩
abbrev main_cst_7 : Ref sig .tc := ⟨.hbm, 109, rfl⟩
abbrev main_v68 : Ref sig .tc := ⟨.hbm, 110, rfl⟩
abbrev main_v69 : Ref sig .tc := ⟨.hbm, 111, rfl⟩
abbrev main_cst_8 : Ref sig .tc := ⟨.hbm, 112, rfl⟩
abbrev main_call6_v0 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_9 : Ref sig .tc := ⟨.hbm, 119, rfl⟩
abbrev main_cst_10 : Ref sig .tc := ⟨.hbm, 120, rfl⟩
abbrev main_call8_v0 : Ref sig .tc := ⟨.hbm, 121, rfl⟩
abbrev main_call8_v1 : Ref sig .tc := ⟨.hbm, 122, rfl⟩
abbrev main_call8_v2 : Ref sig .tc := ⟨.hbm, 123, rfl⟩
abbrev main_call8_v3 : Ref sig .tc := ⟨.hbm, 124, rfl⟩
abbrev main_call8_v4 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩

abbrev nD : Nat := 1
abbrev τ : Topo := Topo.v7x

variable {F : FTy → Type} [FloatOps F]
-- ==== Proof.Steps.lean ====
/- Straight-line kernel code as a function on the contents of the buffers it holds. A program of loads, stores and returned values
   takes what its buffers hold to what they hold afterwards; `Runs` says so of a program and a function on a state, given how the
   state is held as buffers (`Slot`: one buffer of it). The load, the store, the sequence and the list of programs are here once,
   for any program over any buffers. -/
module

public import Idealize.ShloMosaic.Lib.Exec
public import Idealize.ShloMosaic.Lib.Tactic
public import Idealize.ShloMosaic.Lib.Memref

@[expose] public section

noncomputable section

namespace Cert.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What an array holds once `w` is put on the rectangle `r`: `w` on the rectangle, the old contents elsewhere. -/
def upd {s : Shape} {A : Type} (r : Rect s) (w : r.shape.Idx → A) (X : s.Idx → A) : s.Idx → A :=
  fun y => match preimage? r.emb y with
    | some x => w x
    | none => X y

theorem upd_emb {s : Shape} {A : Type} (r : Rect s) (w : r.shape.Idx → A) (X : s.Idx → A) (x : r.shape.Idx) :
    upd r w X (r.emb x) = w x := by
  simp [upd, preimage?_emb]

theorem upd_of_forall_ne {s : Shape} {A : Type} (r : Rect s) (w : r.shape.Idx → A) (X : s.Idx → A) (y : s.Idx)
    (h : ∀ x, r.emb x ≠ y) : upd r w X y = X y := by
  unfold upd
  rw [preimage?_eq_none h]

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable (defs : Defs nD τ sig Val Λ) (𝒱 : Variants) (c : Thread nD τ) (bd : Option 𝒱.V) (E : Set Name)

/-- A state `S` held as `H`: the memref `m` is one buffer of it, whose contents are `get` and are replaced by `put`. -/
def Slot {S : Type} (H : S → sProp 𝕄) {sp : Space} {s : Shape} {e : EltTy} (m : Memref sig c.2.kind sp s e)
    (get : S → s.Idx → Val e) (put : S → (s.Idx → Val e) → S) : Prop :=
  ∀ σ, H σ ⊢ iprop(owns c m fullShare (get σ) ∗ (∀ X, owns c m fullShare X -∗ H (put σ X)))

/-- The program `p` returns `(f σ).1` and takes the buffers held at `σ` to `(f σ).2`. -/
def Runs {S α : Type} (H : S → sProp 𝕄) (p : Prog (TpuEff nD τ sig Val Λ c.2) α) (f : S → α × S) : Prop :=
  ∀ σ, H σ ⊢ wp frame (wpE defs 𝒱 c bd) E p fun a => iprop(⌜a = (f σ).1⌝ ∗ H (f σ).2)

variable {defs 𝒱 c bd E}

theorem runs_pure {S α : Type} {H : S → sProp 𝕄} (a : α) : Runs defs 𝒱 c bd E H (.ret a) fun σ => (a, σ) := by
  intro σ
  rw [wp_ret]
  iintro HH
  imodintro
  isplitr
  · ipureintro; rfl
  · iexact HH

theorem runs_bind {S α β : Type} {H : S → sProp 𝕄} {p : Prog (TpuEff nD τ sig Val Λ c.2) α} {f : S → α × S}
    {k : α → Prog (TpuEff nD τ sig Val Λ c.2) β} {g : α → S → β × S}
    (hp : Runs defs 𝒱 c bd E H p f) (hk : ∀ a, Runs defs 𝒱 c bd E H (k a) (g a)) :
    Runs defs 𝒱 c bd E H (p >>= k) fun σ => g (f σ).1 (f σ).2 := by
  intro σ
  rw [wp_bind]
  refine (hp σ).trans (wp_mono _ _ _ fun a => ?_)
  iintro ⟨%h, HH⟩
  subst h
  iapply (hk _ _) $$ HH

theorem runs_load {S : Type} {H : S → sProp 𝕄} {cs : CoreSpace} {s : Shape} {e : EltTy} {m : Memref sig c.2.kind cs s e}
    {get : S → s.Idx → Val e} {put : S → (s.Idx → Val e) → S} (hs : Slot c H m get put) (hput : ∀ σ, put σ (get σ) = σ)
    (r : LoadRect s) (hl : m.view.LoadsAt r) :
    Runs defs 𝒱 c bd E H (Prog.lift (.load m r hl)) fun σ => ((fun j => get σ (r.idx j)), σ) := by
  intro σ
  refine (hs σ).trans ?_
  unfold owns
  iintro ⟨⟨%f, %hf, Hm⟩, Hk⟩
  iapply (wp_load 𝒱 c bd E (m := m) (r := r) (hl := hl) (S := m.view.set) (f := f) (by
    exact Finset.map_subset_map.mpr (Finset.subset_univ _))) $$ Hm
  iintro Hm
  rw [wp_ret]
  imodintro
  isplitr
  · ipureintro
    exact funext fun j => congrFun hf (r.idx j)
  · ihave HH := Hk $$ %(get σ) [Hm]
    · iexists f
      isplitr
      · ipureintro; exact hf
      · iexact Hm
    rw [hput]
    iexact HH

theorem runs_store {S : Type} {H : S → sProp 𝕄} {cs : CoreSpace} {s : Shape} {e : EltTy} {m : Memref sig c.2.kind cs s e}
    {get : S → s.Idx → Val e} {put : S → (s.Idx → Val e) → S} (hs : Slot c H m get put)
    (r : Rect s) (w : r.shape.Idx → Val e) (hx : (m.access r).Stores Finset.univ)
    (hm : (Finset.univ : Finset r.shape.Idx) = Finset.univ ∨ ∀ a, r.stride a = 1) :
    Runs defs 𝒱 c bd E H (Prog.lift (.store m r w Finset.univ hx hm)) fun σ => (⟨⟩, put σ (upd r w (get σ))) := by
  intro σ
  refine (hs σ).trans ?_
  unfold owns
  iintro ⟨⟨%f, %hf, Hm⟩, Hk⟩
  iapply (wp_store 𝒱 c bd E (m := m) (r := r) (w := w) (Mk := Finset.univ) (hx := hx) (hm := hm) (S := m.view.set) (f := f) (by
    rw [View.setOn_univ]; exact View.set_slice_subset _ _)) $$ Hm
  iintro Hm
  rw [wp_ret]
  imodintro
  isplitr
  · ipureintro; rfl
  · iapply Hk
    iexists _
    isplitr
    · ipureintro
      funext y
      rw [← hf]
      by_cases hy : ∃ x, r.emb x = y
      · obtain ⟨x, rfl⟩ := hy
        rw [upd_emb]
        exact View.read_slice_write_emb r f w (Finset.mem_univ x)
      · rw [upd_of_forall_ne _ _ _ _ fun x h => hy ⟨x, h⟩]
        exact View.read_slice_write_of_not_mem r f w Finset.univ (by simpa using fun x h => hy ⟨x, h⟩)
    · iexact Hm

theorem Runs.congr {S α : Type} {H : S → sProp 𝕄} {p : Prog (TpuEff nD τ sig Val Λ c.2) α} {f g : S → α × S}
    (h : Runs defs 𝒱 c bd E H p f) (e : f = g) : Runs defs 𝒱 c bd E H p g := e ▸ h

/-- The programs of a list, one after another. -/
def seqAll {Λ' : Labels} {κ : Proc τ} : List (Prog (TpuEff nD τ sig Val Λ' κ) PUnit) → Prog (TpuEff nD τ sig Val Λ' κ) PUnit
  | [] => .ret ⟨⟩
  | p :: ps => p >>= fun _ => seqAll ps

theorem runs_seqAll {S ι : Type} {H : S → sProp 𝕄} (p : ι → Prog (TpuEff nD τ sig Val Λ c.2) PUnit) (f : ι → S → S)
    (h : ∀ i, Runs defs 𝒱 c bd E H (p i) fun σ => (PUnit.unit, f i σ)) (l : List ι) :
    Runs defs 𝒱 c bd E H (seqAll (l.map p)) fun σ => (PUnit.unit, l.foldl (fun σ i => f i σ) σ) := by
  induction l with
  | nil => exact runs_pure PUnit.unit
  | cons i l ih => exact runs_bind (h i) fun _ => ih

end Cert.Steps

end
-- ==== Proof.Program.lean ====
/- The kernel's work on one column of 128 tokens, written by head and by group of eight heads instead of statement by statement: for
   each group its eight heads are turned (`rot`), their scales formed (`scales`), and the eight heads requantised (`quant`). The
   printed column of the loop is this program. -/
module

public import proofs.«01_k».proof.Proof.Steps
public import proofs.«01_k».proof.Proof.Gen.KernelIdeal.Skeleton
public import Idealize.ShloMosaic.Lib.Pipeline.Regions

@[expose] public section

set_option maxRecDepth 16384

noncomputable section

namespace Cert.KernelIdeal.Body

open Idealize.ShloMosaic Idealize.SL.Sem Cert.KernelIdeal Cert.KernelIdeal.Gen

variable {F : FTy → Type} [FloatOps F]

/-! ## What one head and one group compute -/

/-- A head's codes as numbers, one row for each coordinate of the head. -/
def asFloat (v : Vec F S1x1x96x128 .i8) : FVec F S96x128 .bf16 :=
  sitofp .bf16 (shapeCast S96x128 v shapeCasts_S1x1x96x128_S96x128)

/-- The even coordinates of a head. -/
def evens (v : Vec F S1x1x96x128 .i8) : FVec F S48x128 .f32 :=
  extf .f32 (rowsOfParity 0 S48x128 (asFloat v) bitcasts_S96x128_w16_S48x128_w32)

/-- The odd coordinates of a head. -/
def odds (v : Vec F S1x1x96x128 .i8) : FVec F S48x128 .f32 :=
  extf .f32 (rowsOfParity 1 S48x128 (asFloat v) bitcasts_S96x128_w16_S48x128_w32)

/-- The even coordinates of a head turned by the angle of cosine `c` and sine `s`. -/
def turnEven (v : Vec F S1x1x96x128 .i8) (c s : Vec F S1x48x128 .f32) : FVec F S48x128 .f32 :=
  subf (mulf (evens v) (shapeCast S48x128 c shapeCasts_S1x48x128_S48x128))
    (mulf (odds v) (shapeCast S48x128 s shapeCasts_S1x48x128_S48x128))

/-- The odd coordinates of a head turned by the angle of cosine `c` and sine `s`. -/
def turnOdd (v : Vec F S1x1x96x128 .i8) (c s : Vec F S1x48x128 .f32) : FVec F S48x128 .f32 :=
  addf (mulf (odds v) (shapeCast S48x128 c shapeCasts_S1x48x128_S48x128))
    (mulf (evens v) (shapeCast S48x128 s shapeCasts_S1x48x128_S48x128))

/-- The largest magnitude of a turned head over every eighth pair. -/
def headPeak (v : Vec F S1x1x96x128 .i8) (c s : Vec F S1x48x128 .f32) : FVec F S8x128 .f32 :=
  multiReduction .maximumf [0] S8x128
    (shapeCast S6x8x128 (maximumf (absf (turnEven v c s)) (absf (turnOdd v c s))) shapeCasts_S48x128_S6x8x128)
    0xFF800000#32 reduces_S6x8x128_S8x128 (.inl rfl) rfl

/-- The lanes of a column that are tokens of the cache, `live` being their number. -/
def validLanes (live : BitVec 32) : IVec S8x128 1 :=
  cmpi .slt (iota .tc S8x128 32 [1] iota_S8x128_d1_w32) (broadcast S8x128 live)

/-- The largest of eight slab rows. -/
def slabPeak (p : Fin 8 → Vec F S1x8x128 .f32) : FVec F S8x128 .f32 :=
  let q : Fin 8 → FVec F S8x128 .f32 := fun j => shapeCast S8x128 (p j) shapeCasts_S1x8x128_S8x128
  maximumf (maximumf (maximumf (maximumf (maximumf (maximumf (maximumf (q 0) (q 1)) (q 2)) (q 3)) (q 4)) (q 5)) (q 6)) (q 7)

/-- The largest magnitude of each head of a group, from its old scale and the peaks of its codes. -/
def groupMax (p : Fin 8 → Vec F S1x8x128 .f32) (a : Vec F S1x8x128 .f32) : FVec F S8x128 .f32 :=
  mulf (slabPeak p) (absf (shapeCast S8x128 a shapeCasts_S1x8x128_S8x128))

/-- The new scale of each head of a group. -/
def newScale (live : BitVec 32) (p : Fin 8 → Vec F S1x8x128 .f32) (a : Vec F S1x8x128 .f32) : FVec F S8x128 .f32 :=
  select (andi (validLanes live) (cmpf .one (groupMax p a) (broadcast S8x128 (Scalar.ofBits .f32 0x00000000#32))))
    (divf (groupMax p a) (broadcast S8x128 (Scalar.ofBits .f32 0x42FE0000#32)))
    (broadcast S8x128 (Scalar.ofBits .f32 0x3F800000#32))

/-- What the turned codes of each head of a group are multiplied by. -/
def ratio (live : BitVec 32) (p : Fin 8 → Vec F S1x8x128 .f32) (a : Vec F S1x8x128 .f32) : FVec F S8x128 .f32 :=
  select (validLanes live) (divf (shapeCast S8x128 a shapeCasts_S1x8x128_S8x128) (newScale live p a))
    (broadcast S8x128 (Scalar.ofBits .f32 0x00000000#32))

/-- The factor of one head, repeated over its 48 pairs. -/
def rows48 (r : Vec F S8x128 .f32) : FVec F S48x128 .f32 :=
  concatenate S48x128 0 [⟨S8x128, r⟩, ⟨S8x128, r⟩, ⟨S8x128, r⟩, ⟨S8x128, r⟩, ⟨S8x128, r⟩, ⟨S8x128, r⟩]
    concatenates_S8x128_S8x128_S8x128_S8x128_S8x128_S8x128_S48x128_d0

/-- Turned codes times the factor, rounded and clipped, as integers. -/
def quantise (y : Vec F S1x1x48x128 .f32) (r : Vec F S8x128 .f32) : IVec S48x128 32 :=
  fptosi 32 (minimumf (broadcast S48x128 (Scalar.ofBits .f32 0x42FE0000#32))
    (maximumf (broadcast S48x128 (Scalar.ofBits .f32 0xC2FE0000#32))
      (roundeven (mulf (shapeCast S48x128 y shapeCasts_S1x1x48x128_S48x128) (rows48 r)))))

/-- The new codes of a head: its even and odd coordinates side by side. -/
def newCodes (r : Vec F S8x128 .f32) (ye yo : Vec F S1x1x48x128 .f32) : IVec S1x1x96x128 8 :=
  shapeCast S1x1x96x128 (trunci 8 (bitcast S96x128 16 (packElementwiseI16 (quantise ye r) (quantise yo r))
    bitcasts_S48x128_w32_S96x128_w16) natLt_8_16) shapeCasts_S96x128_S1x1x96x128

/-! ## The rectangles -/

/-- The first token of column `k` of a block. -/
def col (k : Fin k0_t1_loop.trips) : Nat :=
  (Scalar.indexCast (Scalar.muli (Scf.iv 0#32 1#32 k) 128#32)).toNat

theorem col_eq : ∀ k : Fin k0_t1_loop.trips, col k = 128 * k.val ∧ k.val < 4 := by decide +kernel

/-- Head `h`'s codes at column `k`. -/
def codesOff (k : Fin k0_t1_loop.trips) (h : Nat) : Fin 4 → Nat := ![0, h, 0, col k]

theorem codesOff_inb (k : Fin k0_t1_loop.trips) (h : Nat) (hh : h < 32) :
    ∀ a, codesOff k h a + S1x1x96x128.size a ≤ S1x32x96x512.size a := by
  have := col_eq k
  have hc : col k + 128 ≤ 512 := by omega
  intro a
  fin_cases a
  · exact Nat.le_refl 1
  · exact hh
  · exact Nat.le_refl 96
  · exact hc

theorem codesOff_packed : ∀ (k : Fin k0_t1_loop.trips) (h : Fin 32),
    (Rect.unit (s := S1x32x96x512) (codesOff k h.val) S1x1x96x128.size (codesOff_inb k h.val h.isLt)).PackedRows (EltTy.packing .i8) := by
  decide +kernel

/-- Group `g`'s scales at column `k`. -/
def scaleOff (k : Fin k0_t1_loop.trips) (g : Nat) : Fin 3 → Nat := ![0, g * 8, col k]

theorem scaleOff_inb (k : Fin k0_t1_loop.trips) (g : Nat) (hg : g < 4) :
    ∀ a, scaleOff k g a + S1x8x128.size a ≤ S1x32x512.size a := by
  have := col_eq k
  have hc : col k + 128 ≤ 512 := by omega
  intro a
  fin_cases a
  · exact Nat.le_refl 1
  · show g * 8 + 8 ≤ 32; omega
  · exact hc

/-- The even (`e = 0`) or odd (`e = 1`) turned coordinates of head `h`. -/
theorem turnOff_inb (h e : Nat) (hh : h < 32) (he : e < 2) :
    ∀ a, (![h, e, 0, 0] : Fin 4 → Nat) a + S1x1x48x128.size a ≤ S32x2x48x128.size a := by
  intro a
  fin_cases a
  · exact hh
  · exact he
  · exact Nat.le_refl 48
  · exact Nat.le_refl 128

/-- Row `i` and every ninth row after it of group `g`'s slab. -/
theorem slabRow_inb (g i : Nat) (hg : g < 4) (hi : i < 8) :
    ∀ a, S1x8x128.size a = 0 ∨ (![g, i, 0] : Fin 3 → Nat) a + (![1, 9, 1] : Fin 3 → Nat) a * (S1x8x128.size a - 1) < S4x72x128.size a := by
  intro a
  fin_cases a
  · right; show g + 1 * 0 < 4; omega
  · right; show i + 9 * 7 < 72; omega
  · right; show 0 + 1 * 127 < 128; omega

/-- Eight rows of group `g`'s slab from row `j`. -/
theorem slabRows_inb (g j : Nat) (hg : g < 4) (hj : j < 8) :
    ∀ a, (![g, 9 * j, 0] : Fin 3 → Nat) a + S1x8x128.size a ≤ S4x72x128.size a := by
  intro a
  fin_cases a
  · exact hg
  · show 9 * j + 8 ≤ 72; omega
  · exact Nat.le_refl 128

theorem factor_inb (g : Nat) (hg : g < 4) : ∀ a, (![g * 8, 0] : Fin 2 → Nat) a + S8x128.size a ≤ S32x128.size a := by
  intro a
  fin_cases a
  · show g * 8 + 8 ≤ 32; omega
  · exact Nat.le_refl 128

/-- The row of head `h` in the factors, read eight times. -/
theorem factorRow_inb (h : Nat) (hh : h < 32) :
    ∀ a, S8x128.size a = 0 ∨ (![h, 0] : Fin 2 → Nat) a + (![0, 1] : Fin 2 → Nat) a * (S8x128.size a - 1) < S32x128.size a := by
  intro a
  fin_cases a
  · right; show h + 0 * 7 < 32; omega
  · right; show 0 + 1 * 127 < 128; omega

/-- The head at place `i` of group `g`. -/
abbrev head (g : Fin 4) (i : Fin 8) : Fin 32 := ⟨g.val * 8 + i.val, by omega⟩

abbrev codesRect (k : Fin k0_t1_loop.trips) (h : Fin 32) : Rect S1x32x96x512 :=
  Rect.unit (s := S1x32x96x512) (codesOff k h.val) S1x1x96x128.size (codesOff_inb k h.val h.isLt)
abbrev scaleRect (k : Fin k0_t1_loop.trips) (g : Fin 4) : Rect S1x32x512 :=
  Rect.unit (s := S1x32x512) (scaleOff k g.val) S1x8x128.size (scaleOff_inb k g.val g.isLt)
abbrev angleRect : Rect S1x48x128 := Rect.unit (s := S1x48x128) ![0, 0, 0] S1x48x128.size inb_S1x48x128_S1x48x128_0_0_0
abbrev turnRect (h : Fin 32) (e : Fin 2) : Rect S32x2x48x128 :=
  Rect.unit (s := S32x2x48x128) ![h.val, e.val, 0, 0] S1x1x48x128.size (turnOff_inb h.val e.val h.isLt e.isLt)
abbrev slabRow (g : Fin 4) (i : Fin 8) : Rect S4x72x128 :=
  ⟨(⟨![g.val, i.val, 0], S1x8x128.size, ![1, 9, 1], slabRow_inb g.val i.val g.isLt i.isLt⟩ : LoadRect S4x72x128), spos_1_9_1⟩
abbrev slabRows (g : Fin 4) (j : Fin 8) : Rect S4x72x128 :=
  Rect.unit (s := S4x72x128) ![g.val, 9 * j.val, 0] S1x8x128.size (slabRows_inb g.val j.val g.isLt j.isLt)
abbrev factorRect (g : Fin 4) : Rect S32x128 :=
  Rect.unit (s := S32x128) ![g.val * 8, 0] S8x128.size (factor_inb g.val g.isLt)
abbrev factorRow (h : Fin 32) : LoadRect S32x128 :=
  ⟨![h.val, 0], S8x128.size, ![0, 1], factorRow_inb h.val h.isLt⟩
abbrev deadCodes (k : Fin k0_t1_loop.trips) : Rect S1x32x96x512 :=
  Rect.unit (s := S1x32x96x512) (k0_off38 k) S1x32x96x128.size (k0_off38_inb k)
abbrev deadScale (k : Fin k0_t1_loop.trips) : Rect S1x32x512 :=
  Rect.unit (s := S1x32x512) (k0_off39 k) S1x32x128.size (k0_off39_inb k)

/-! ## The program -/

variable (arg3 : Memref sig .tc .vmem S1x48x128 .f32) (arg4 : Memref sig .tc .vmem S1x48x128 .f32)
  (arg5 : Memref sig .tc .vmem S1x32x96x512 .i8) (arg6 : Memref sig .tc .vmem S1x32x512 .f32)
  (arg7 : Memref sig .tc .vmem S1x32x96x512 .i8) (harg7 : arg7.IsWhole) (arg8 : Memref sig .tc .vmem S1x32x512 .f32)
  (arg9 : Memref sig .tc .vmem S32x2x48x128 .f32) (arg10 : Memref sig .tc .vmem S4x72x128 .f32)
  (arg11 : Memref sig .tc .vmem S32x128 .f32) (k : Fin k0_t1_loop.trips)

/-- A program of the core's main processor. -/
abbrev Code (F : FTy → Type) (α : Type) := Prog (TpuEff nD τ sig (Elt F) Λ₀ .tc) α

/-- Turn the head at place `i` of group `g` and put its peaks in the group's slab. -/
def rot (g : Fin 4) (i : Fin 8) : Code F PUnit := do
  let v ← Prog.lift (.load arg5 (codesRect k (head g i)).toLoadRect (View.loadsAt_vmem h_S1x1x96x128))
  let c ← Prog.lift (.load arg3 angleRect.toLoadRect (View.loadsAt_vmem h_S1x48x128))
  let s ← Prog.lift (.load arg4 angleRect.toLoadRect (View.loadsAt_vmem h_S1x48x128))
  let _ ← Prog.lift (.load arg9 (turnRect (head g i) 0).toLoadRect (View.loadsAt_vmem h_S1x1x48x128))
  Prog.lift (.store arg9 (turnRect (head g i) 0) (shapeCast S1x1x48x128 (turnEven v c s) shapeCasts_S48x128_S1x1x48x128)
    Finset.univ (View.stores_vmem_bits_univ h_S1x1x48x128 rfl) (.inl rfl))
  let _ ← Prog.lift (.load arg9 (turnRect (head g i) 1).toLoadRect (View.loadsAt_vmem h_S1x1x48x128))
  Prog.lift (.store arg9 (turnRect (head g i) 1) (shapeCast S1x1x48x128 (turnOdd v c s) shapeCasts_S48x128_S1x1x48x128)
    Finset.univ (View.stores_vmem_bits_univ h_S1x1x48x128 rfl) (.inl rfl))
  let _ ← Prog.lift (.load arg10 (slabRow g i).toLoadRect (View.loadsAt_vmem h_S1x8x128))
  Prog.lift (.store arg10 (slabRow g i) (shapeCast S1x8x128 (headPeak v c s) shapeCasts_S8x128_S1x8x128)
    Finset.univ (View.stores_vmem_bits_univ h_S1x8x128 rfl) (.inl rfl))

/-- Load the rows of group `g`'s slab that start at row `j`. -/
abbrev loadSlab (g : Fin 4) (j : Fin 8) : Code F (Vec F S1x8x128 .f32) :=
  Prog.lift (.load arg10 (slabRows g j).toLoadRect (View.loadsAt_vmem h_S1x8x128))

/-- Form the new scales of group `g` and the factors of its heads. -/
def scales (live : BitVec 32) (g : Fin 4) : Code F PUnit := do
  let p0 ← loadSlab arg10 g 0
  let p1 ← loadSlab arg10 g 1
  let p2 ← loadSlab arg10 g 2
  let p3 ← loadSlab arg10 g 3
  let p4 ← loadSlab arg10 g 4
  let p5 ← loadSlab arg10 g 5
  let p6 ← loadSlab arg10 g 6
  let p7 ← loadSlab arg10 g 7
  let a ← Prog.lift (.load arg6 (scaleRect k g).toLoadRect (View.loadsAt_vmem h_S1x8x128))
  let _ ← Prog.lift (.load arg8 (scaleRect k g).toLoadRect (View.loadsAt_vmem h_S1x8x128))
  Prog.lift (.store arg8 (scaleRect k g)
    (shapeCast S1x8x128 (newScale live ![p0, p1, p2, p3, p4, p5, p6, p7] a) shapeCasts_S8x128_S1x8x128)
    Finset.univ (View.stores_vmem_bits_univ h_S1x8x128 rfl) (.inl rfl))
  let _ ← Prog.lift (.load arg11 (factorRect g).toLoadRect (View.loadsAt_vmem h_S8x128))
  Prog.lift (.store arg11 (factorRect g)
    (shapeCast S8x128 (ratio live ![p0, p1, p2, p3, p4, p5, p6, p7] a) shapeCasts_S8x128_S8x128)
    Finset.univ (View.stores_vmem_bits_univ h_S8x128 rfl) (.inl rfl))

/-- Requantise the head at place `i` of group `g`. -/
def quant (g : Fin 4) (i : Fin 8) : Code F PUnit := do
  let r ← Prog.lift (.load arg11 (factorRow (head g i)) (View.loadsAt_vmem h_S8x128))
  let ye ← Prog.lift (.load arg9 (turnRect (head g i) 0).toLoadRect (View.loadsAt_vmem h_S1x1x48x128))
  let yo ← Prog.lift (.load arg9 (turnRect (head g i) 1).toLoadRect (View.loadsAt_vmem h_S1x1x48x128))
  let _ ← Prog.lift (.load arg7 (codesRect k (head g i)).toLoadRect (View.loadsAt_vmem h_S1x1x96x128))
  Prog.lift (.store arg7 (codesRect k (head g i)) (newCodes r ye yo) Finset.univ
    (View.stores_vmem h_S1x1x96x128 (harg7.storeExact_slice rfl _ (codesOff_packed k (head g i))) (fun _ => rfl)) (.inl rfl))

/-- The places of a group. -/
abbrev eight : List (Fin 8) := [0, 1, 2, 3, 4, 5, 6, 7]
/-- The groups. -/
abbrev four : List (Fin 4) := [0, 1, 2, 3]

/-- One group of eight heads. -/
def group (live : BitVec 32) (g : Fin 4) : Code F PUnit := do
  Steps.seqAll (eight.map (rot arg3 arg4 arg5 arg9 arg10 k g))
  scales arg6 arg8 arg10 arg11 k live g
  Steps.seqAll (eight.map (quant arg7 harg7 arg9 arg11 k g))

/-- A column with `live` tokens of the cache. -/
def liveColumn (live : BitVec 32) : Code F PUnit :=
  Steps.seqAll (four.map (group arg3 arg4 arg5 arg6 arg7 harg7 arg8 arg9 arg10 arg11 k live))

/-- A column past the cache's tokens: codes zero, scales one. -/
def deadColumn : Code F PUnit := do
  let _ ← Prog.lift (.load arg7 (deadCodes k).toLoadRect (View.loadsAt_vmem h_S1x32x96x128))
  Prog.lift (.store arg7 (deadCodes k) k0_pay2 Finset.univ
    (View.stores_vmem h_S1x32x96x128 (harg7.storeExact_slice rfl _ (k0_off38_packedi8 k)) (fun _ => rfl)) (.inl rfl))
  let _ ← Prog.lift (.load arg8 (deadScale k).toLoadRect (View.loadsAt_vmem h_S1x32x128))
  Prog.lift (.store arg8 (deadScale k) (k0_pay3 (F := F)) Finset.univ (View.stores_vmem_bits_univ h_S1x32x128 rfl) (.inl rfl))

/-- The tokens of the cache from column `k` of the block on. -/
def liveOf (v0 v2 : BitVec 32) : BitVec 32 := Scalar.subi (Scalar.subi v2 v0) (Scalar.muli (Scf.iv 0#32 1#32 k) 128#32)

/-- A column: the live one, then the one past the tokens, each under the kernel's test. -/
def column (i : grid0.Coords) (v0 v2 : BitVec 32) : Code F PUnit := do
  if k0_h1 : k0_cond1 i v2 k = 1#1 then
    liveColumn arg3 arg4 arg5 arg6 arg7 harg7 arg8 arg9 arg10 arg11 k (liveOf k v0 v2)
  else pure ⟨⟩
  if k0_h2 : k0_cond2 i v2 k = 1#1 then deadColumn arg7 harg7 arg8 k else pure ⟨⟩

/-- The printed column is the program above. -/
theorem body_eq (i : grid0.Coords) (arg2 : Memref sig .tc .smem S2 .i32) (harg2 : arg2.IsWhole) (harg3 : arg3.IsWhole) (harg4 : arg4.IsWhole)
    (harg5 : arg5.IsWhole) (harg6 : arg6.IsWhole) (harg8 : arg8.IsWhole) (harg9 : arg9.IsWhole) (harg10 : arg10.IsWhole)
    (harg11 : arg11.IsWhole) (v0 v2 : BitVec 32) :
    k0_t1_body (F := F) i arg2 harg2 arg3 harg3 arg4 harg4 arg5 harg5 arg6 harg6 arg7 harg7 arg8 harg8 arg9 harg9 arg10 harg10 arg11 harg11
      v0 v2 k () =
    column arg3 arg4 arg5 arg6 arg7 harg7 arg8 arg9 arg10 arg11 k i v0 v2 := by
  chain_rfl

end Cert.KernelIdeal.Body

end
-- ==== Proof.Column.lean ====
/- What the kernel's loop does to the buffers it holds: the state of its nine buffers, one function on that state for each piece of the
   program, and the proof that the program computes these functions. -/
module

public import proofs.«01_k».proof.Proof.Program
public import Idealize.ShloMosaic.Lib.Scf

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Steps

variable {F : FTy → Type} [FloatOps F]

/-! ## The state -/

/-- What the nine buffers of the body hold: cosines, sines, codes and scales read; codes and scales written; and the three it keeps
    turned codes, peaks and factors in. -/
structure St (F : FTy → Type) where
  cos : S1x48x128.Idx → Elt F .f32
  sin : S1x48x128.Idx → Elt F .f32
  codes : S1x32x96x512.Idx → Elt F .i8
  scale : S1x32x512.Idx → Elt F .f32
  outCodes : S1x32x96x512.Idx → Elt F .i8
  outScale : S1x32x512.Idx → Elt F .f32
  turned : S32x2x48x128.Idx → Elt F .f32
  slab : S4x72x128.Idx → Elt F .f32
  factor : S32x128.Idx → Elt F .f32

variable (k : Fin k0_t1_loop.trips)

def St.v (σ : St F) (h : Fin 32) : Vec F S1x1x96x128 .i8 := fun j => σ.codes ((codesRect k h).toLoadRect.idx j)
def St.c (σ : St F) : Vec F S1x48x128 .f32 := fun j => σ.cos (angleRect.toLoadRect.idx j)
def St.s (σ : St F) : Vec F S1x48x128 .f32 := fun j => σ.sin (angleRect.toLoadRect.idx j)
/-- The peaks that the eight heads of group `g` have in the slab. -/
def St.p (σ : St F) (g : Fin 4) : Fin 8 → Vec F S1x8x128 .f32 :=
  let q : Fin 8 → Vec F S1x8x128 .f32 := fun j i => σ.slab ((slabRows g j).toLoadRect.idx i)
  ![q 0, q 1, q 2, q 3, q 4, q 5, q 6, q 7]
def St.a (σ : St F) (g : Fin 4) : Vec F S1x8x128 .f32 := fun j => σ.scale ((scaleRect k g).toLoadRect.idx j)
def St.r (σ : St F) (h : Fin 32) : Vec F S8x128 .f32 := fun j => σ.factor ((factorRow h).idx j)
def St.y (σ : St F) (h : Fin 32) (e : Fin 2) : Vec F S1x1x48x128 .f32 := fun j => σ.turned ((turnRect h e).toLoadRect.idx j)

/-- One head turned. -/
def rotF (g : Fin 4) (i : Fin 8) (σ : St F) : St F :=
  { σ with
    turned := upd (turnRect (head g i) 1) (shapeCast S1x1x48x128 (turnOdd (σ.v k (head g i)) σ.c σ.s) shapeCasts_S48x128_S1x1x48x128)
      (upd (turnRect (head g i) 0) (shapeCast S1x1x48x128 (turnEven (σ.v k (head g i)) σ.c σ.s) shapeCasts_S48x128_S1x1x48x128) σ.turned)
    slab := upd (slabRow g i) (shapeCast S1x8x128 (headPeak (σ.v k (head g i)) σ.c σ.s) shapeCasts_S8x128_S1x8x128) σ.slab }

/-- The scales of one group formed. -/
def scalesF (live : BitVec 32) (g : Fin 4) (σ : St F) : St F :=
  { σ with
    outScale := upd (scaleRect k g) (shapeCast S1x8x128 (newScale live (σ.p g) (σ.a k g)) shapeCasts_S8x128_S1x8x128) σ.outScale
    factor := upd (factorRect g) (shapeCast S8x128 (ratio live (σ.p g) (σ.a k g)) shapeCasts_S8x128_S8x128) σ.factor }

/-- One head requantised. -/
def quantF (g : Fin 4) (i : Fin 8) (σ : St F) : St F :=
  { σ with
    outCodes := upd (codesRect k (head g i)) (newCodes (σ.r (head g i)) (σ.y (head g i) 0) (σ.y (head g i) 1)) σ.outCodes }

/-- One group. -/
def groupF (live : BitVec 32) (g : Fin 4) (σ : St F) : St F :=
  eight.foldl (fun σ i => quantF k g i σ) (scalesF k live g (eight.foldl (fun σ i => rotF k g i σ) σ))

/-- A column with tokens of the cache. -/
def liveF (live : BitVec 32) (σ : St F) : St F := four.foldl (fun σ g => groupF k live g σ) σ

/-- A column past the tokens of the cache. -/
def deadF (σ : St F) : St F :=
  { σ with outCodes := upd (deadCodes k) k0_pay2 σ.outCodes, outScale := upd (deadScale k) (k0_pay3 (F := F)) σ.outScale }

/-- A column. -/
def columnF (i : grid0.Coords) (v0 v2 : BitVec 32) (σ : St F) : St F :=
  let σ' := if k0_cond1 i v2 k = 1#1 then liveF k (liveOf k v0 v2) σ else σ
  if k0_cond2 i v2 k = 1#1 then deadF k σ' else σ'

/-- The state after the first `n` columns. -/
def columnsF (i : grid0.Coords) (v0 v2 : BitVec 32) (σ : St F) : Nat → St F
  | 0 => σ
  | n + 1 => if h : n < k0_t1_loop.trips then columnF ⟨n, h⟩ i v0 v2 (columnsF i v0 v2 σ n) else columnsF i v0 v2 σ n

/-! ## The state held -/

variable {Ix : Type} [DecidableEq Ix] {Name : Type} [DecidableEq Name] {U : Type} [URA U] {Lvl : Type} [Preorder Lvl]

local notation "𝕄" => MT nD τ sig Ix (Elt F) Name U Lvl

variable (c : Dev nD) (𝒱 : Variants) (bd : Option 𝒱.V) (E : Set Name)
variable (arg3 : Memref sig .tc .vmem S1x48x128 .f32) (arg4 : Memref sig .tc .vmem S1x48x128 .f32)
  (arg5 : Memref sig .tc .vmem S1x32x96x512 .i8) (arg6 : Memref sig .tc .vmem S1x32x512 .f32)
  (arg7 : Memref sig .tc .vmem S1x32x96x512 .i8) (harg7 : arg7.IsWhole) (arg8 : Memref sig .tc .vmem S1x32x512 .f32)
  (arg9 : Memref sig .tc .vmem S32x2x48x128 .f32) (arg10 : Memref sig .tc .vmem S4x72x128 .f32)
  (arg11 : Memref sig .tc .vmem S32x128 .f32)

/-- The nine buffers at the state `σ`. -/
def held (σ : St F) : sProp 𝕄 :=
  iprop(owns (c : Thread nD τ) arg3 fullShare σ.cos ∗ owns (c : Thread nD τ) arg4 fullShare σ.sin ∗ owns (c : Thread nD τ) arg5 fullShare σ.codes
    ∗ owns (c : Thread nD τ) arg6 fullShare σ.scale ∗ owns (c : Thread nD τ) arg7 fullShare σ.outCodes
    ∗ owns (c : Thread nD τ) arg8 fullShare σ.outScale ∗ owns (c : Thread nD τ) arg9 fullShare σ.turned
    ∗ owns (c : Thread nD τ) arg10 fullShare σ.slab ∗ owns (c : Thread nD τ) arg11 fullShare σ.factor)

local notation "ℍ" => held (F := F) (Ix := Ix) (Name := Name) (U := U) (Lvl := Lvl) c arg3 arg4 arg5 arg6 arg7 arg8 arg9 arg10 arg11

theorem slot_cos : Slot (c : Thread nD τ) ℍ arg3 St.cos (fun σ X => { σ with cos := X }) := by
  intro σ; unfold held; iintro ⟨H3, H4, H5, H6, H7, H8, H9, H10, H11⟩; isplitl [H3]
  · iexact H3
  · iintro %X H; iframe
theorem slot_sin : Slot (c : Thread nD τ) ℍ arg4 St.sin (fun σ X => { σ with sin := X }) := by
  intro σ; unfold held; iintro ⟨H3, H4, H5, H6, H7, H8, H9, H10, H11⟩; isplitl [H4]
  · iexact H4
  · iintro %X H; iframe
theorem slot_codes : Slot (c : Thread nD τ) ℍ arg5 St.codes (fun σ X => { σ with codes := X }) := by
  intro σ; unfold held; iintro ⟨H3, H4, H5, H6, H7, H8, H9, H10, H11⟩; isplitl [H5]
  · iexact H5
  · iintro %X H; iframe
theorem slot_scale : Slot (c : Thread nD τ) ℍ arg6 St.scale (fun σ X => { σ with scale := X }) := by
  intro σ; unfold held; iintro ⟨H3, H4, H5, H6, H7, H8, H9, H10, H11⟩; isplitl [H6]
  · iexact H6
  · iintro %X H; iframe
theorem slot_outCodes : Slot (c : Thread nD τ) ℍ arg7 St.outCodes (fun σ X => { σ with outCodes := X }) := by
  intro σ; unfold held; iintro ⟨H3, H4, H5, H6, H7, H8, H9, H10, H11⟩; isplitl [H7]
  · iexact H7
  · iintro %X H; iframe
theorem slot_outScale : Slot (c : Thread nD τ) ℍ arg8 St.outScale (fun σ X => { σ with outScale := X }) := by
  intro σ; unfold held; iintro ⟨H3, H4, H5, H6, H7, H8, H9, H10, H11⟩; isplitl [H8]
  · iexact H8
  · iintro %X H; iframe
theorem slot_turned : Slot (c : Thread nD τ) ℍ arg9 St.turned (fun σ X => { σ with turned := X }) := by
  intro σ; unfold held; iintro ⟨H3, H4, H5, H6, H7, H8, H9, H10, H11⟩; isplitl [H9]
  · iexact H9
  · iintro %X H; iframe
theorem slot_slab : Slot (c : Thread nD τ) ℍ arg10 St.slab (fun σ X => { σ with slab := X }) := by
  intro σ; unfold held; iintro ⟨H3, H4, H5, H6, H7, H8, H9, H10, H11⟩; isplitl [H10]
  · iexact H10
  · iintro %X H; iframe
theorem slot_factor : Slot (c : Thread nD τ) ℍ arg11 St.factor (fun σ X => { σ with factor := X }) := by
  intro σ; unfold held; iintro ⟨H3, H4, H5, H6, H7, H8, H9, H10, H11⟩; isplitl [H11]
  · iexact H11
  · iintro %X H; iframe

/-! ## The program computes the functions -/

theorem runs_rot (g : Fin 4) (i : Fin 8) :
    Runs (defs₀ (F := F)) 𝒱 (c : Thread nD τ) bd E ℍ (rot arg3 arg4 arg5 arg9 arg10 k g i) fun σ => (PUnit.unit, rotF k g i σ) := by
  unfold rot
  refine Runs.congr (
    runs_bind (runs_load (slot_codes c arg3 arg4 arg5 arg6 arg7 arg8 arg9 arg10 arg11) (fun _ => rfl) _ _) fun _ =>
    runs_bind (runs_load (slot_cos c arg3 arg4 arg5 arg6 arg7 arg8 arg9 arg10 arg11) (fun _ => rfl) _ _) fun _ =>
    runs_bind (runs_load (slot_sin c arg3 arg4 arg5 arg6 arg7 arg8 arg9 arg10 arg11) (fun _ => rfl) _ _) fun _ =>
    runs_bind (runs_load (slot_turned c arg3 arg4 arg5 arg6 arg7 arg8 arg9 arg10 arg11) (fun _ => rfl) _ _) fun _ =>
    runs_bind (runs_store (slot_turned c arg3 arg4 arg5 arg6 arg7 arg8 arg9 arg10 arg11) _ _ _ _) fun _ =>
    runs_bind (runs_load (slot_turned c arg3 arg4 arg5 arg6 arg7 arg8 arg9 arg10 arg11) (fun _ => rfl) _ _) fun _ =>
    runs_bind (runs_store (slot_turned c arg3 arg4 arg5 arg6 arg7 arg8 arg9 arg10 arg11) _ _ _ _) fun _ =>
    runs_bind (runs_load (slot_slab c arg3 arg4 arg5 arg6 arg7 arg8 arg9 arg10 arg11) (fun _ => rfl) _ _) fun _ =>
    (runs_store (slot_slab c arg3 arg4 arg5 arg6 arg7 arg8 arg9 arg10 arg11) _ _ _ _)) (by chain_rfl)

theorem runs_scales (live : BitVec 32) (g : Fin 4) :
    Runs (defs₀ (F := F)) 𝒱 (c : Thread nD τ) bd E ℍ (scales arg6 arg8 arg10 arg11 k live g) fun σ => (PUnit.unit, scalesF k live g σ) := by
  unfold scales
  refine Runs.congr (
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_scale c arg3 arg4 arg5 arg6 arg7 arg8 arg9 arg10 arg11) (fun _ => rfl) _ _) fun _ =>
    runs_bind (runs_load (slot_outScale c arg3 arg4 arg5 arg6 arg7 arg8 arg9 arg10 arg11) (fun _ => rfl) _ _) fun _ =>
    runs_bind (runs_store (slot_outScale c arg3 arg4 arg5 arg6 arg7 arg8 arg9 arg10 arg11) _ _ _ _) fun _ =>
    runs_bind (runs_load (slot_factor c arg3 arg4 arg5 arg6 arg7 arg8 arg9 arg10 arg11) (fun _ => rfl) _ _) fun _ =>
    (runs_store (slot_factor c arg3 arg4 arg5 arg6 arg7 arg8 arg9 arg10 arg11) _ _ _ _)) (by chain_rfl)

theorem runs_quant (g : Fin 4) (i : Fin 8) :
    Runs (defs₀ (F := F)) 𝒱 (c : Thread nD τ) bd E ℍ (quant arg7 harg7 arg9 arg11 k g i) fun σ => (PUnit.unit, quantF k g i σ) := by
  unfold quant
  refine Runs.congr (
    runs_bind (runs_load (slot_factor c arg3 arg4 arg5 arg6 arg7 arg8 arg9 arg10 arg11) (fun _ => rfl) _ _) fun _ =>
    runs_bind (runs_load (slot_turned c arg3 arg4 arg5 arg6 arg7 arg8 arg9 arg10 arg11) (fun _ => rfl) _ _) fun _ =>
    runs_bind (runs_load (slot_turned c arg3 arg4 arg5 arg6 arg7 arg8 arg9 arg10 arg11) (fun _ => rfl) _ _) fun _ =>
    runs_bind (runs_load (slot_outCodes c arg3 arg4 arg5 arg6 arg7 arg8 arg9 arg10 arg11) (fun _ => rfl) _ _) fun _ =>
    (runs_store (slot_outCodes c arg3 arg4 arg5 arg6 arg7 arg8 arg9 arg10 arg11) _ _ _ _)) (by chain_rfl)

theorem runs_dead :
    Runs (defs₀ (F := F)) 𝒱 (c : Thread nD τ) bd E ℍ (deadColumn arg7 harg7 arg8 k) fun σ => (PUnit.unit, deadF k σ) := by
  unfold deadColumn
  refine Runs.congr (
    runs_bind (runs_load (slot_outCodes c arg3 arg4 arg5 arg6 arg7 arg8 arg9 arg10 arg11) (fun _ => rfl) _ _) fun _ =>
    runs_bind (runs_store (slot_outCodes c arg3 arg4 arg5 arg6 arg7 arg8 arg9 arg10 arg11) _ _ _ _) fun _ =>
    runs_bind (runs_load (slot_outScale c arg3 arg4 arg5 arg6 arg7 arg8 arg9 arg10 arg11) (fun _ => rfl) _ _) fun _ =>
    (runs_store (slot_outScale c arg3 arg4 arg5 arg6 arg7 arg8 arg9 arg10 arg11) _ _ _ _)) (by chain_rfl)

theorem runs_group (live : BitVec 32) (g : Fin 4) :
    Runs (defs₀ (F := F)) 𝒱 (c : Thread nD τ) bd E ℍ (group arg3 arg4 arg5 arg6 arg7 harg7 arg8 arg9 arg10 arg11 k live g) fun σ => (PUnit.unit, groupF k live g σ) := by
  unfold group
  exact Runs.congr (runs_bind (runs_seqAll _ _ (fun i => runs_rot k c 𝒱 bd E arg3 arg4 arg5 arg6 arg7 arg8 arg9 arg10 arg11 g i) eight) fun _ =>
    runs_bind (runs_scales k c 𝒱 bd E arg3 arg4 arg5 arg6 arg7 arg8 arg9 arg10 arg11 live g) fun _ =>
    runs_seqAll _ _ (fun i => runs_quant k c 𝒱 bd E arg3 arg4 arg5 arg6 arg7 harg7 arg8 arg9 arg10 arg11 g i) eight) rfl

theorem runs_live (live : BitVec 32) :
    Runs (defs₀ (F := F)) 𝒱 (c : Thread nD τ) bd E ℍ (liveColumn arg3 arg4 arg5 arg6 arg7 harg7 arg8 arg9 arg10 arg11 k live) fun σ => (PUnit.unit, liveF k live σ) :=
  runs_seqAll _ _ (fun g => runs_group k c 𝒱 bd E arg3 arg4 arg5 arg6 arg7 harg7 arg8 arg9 arg10 arg11 live g) four

/-- A column of the program takes the state to `columnF` of it. -/
theorem runs_column (i : grid0.Coords) (v0 v2 : BitVec 32) :
    Runs (defs₀ (F := F)) 𝒱 (c : Thread nD τ) bd E ℍ (column arg3 arg4 arg5 arg6 arg7 harg7 arg8 arg9 arg10 arg11 k i v0 v2) fun σ => (PUnit.unit, columnF k i v0 v2 σ) := by
  unfold column columnF
  by_cases h1 : k0_cond1 i v2 k = 1#1 <;> by_cases h2 : k0_cond2 i v2 k = 1#1 <;> simp only [h1, h2, dif_pos, if_pos, dif_neg, if_neg, not_false_eq_true, reduceDIte, reduceIte]
  · exact Runs.congr (runs_bind (runs_live k c 𝒱 bd E arg3 arg4 arg5 arg6 arg7 harg7 arg8 arg9 arg10 arg11 _) fun _ => runs_dead k c 𝒱 bd E arg3 arg4 arg5 arg6 arg7 harg7 arg8 arg9 arg10 arg11) rfl
  · exact Runs.congr (runs_bind (runs_live k c 𝒱 bd E arg3 arg4 arg5 arg6 arg7 harg7 arg8 arg9 arg10 arg11 _) fun _ => runs_pure _) rfl
  · exact runs_dead k c 𝒱 bd E arg3 arg4 arg5 arg6 arg7 harg7 arg8 arg9 arg10 arg11
  · exact runs_pure _

/-- The loop takes the state to that after all its columns. -/
theorem runs_loop (i : grid0.Coords) (arg2 : Memref sig .tc .smem S2 .i32) (harg2 : arg2.IsWhole) (harg3 : arg3.IsWhole) (harg4 : arg4.IsWhole)
    (harg5 : arg5.IsWhole) (harg6 : arg6.IsWhole) (harg8 : arg8.IsWhole) (harg9 : arg9.IsWhole) (harg10 : arg10.IsWhole)
    (harg11 : arg11.IsWhole) (v0 v2 : BitVec 32) :
    Runs (defs₀ (F := F)) 𝒱 (c : Thread nD τ) bd E ℍ (Scf.Loop.for k0_t1_loop k0_t1_ok ⟨⟩
      (k0_t1_body (F := F) i arg2 harg2 arg3 harg3 arg4 harg4 arg5 harg5 arg6 harg6 arg7 harg7 arg8 harg8 arg9 harg9 arg10 harg10 arg11 harg11
        v0 v2)) fun σ => (PUnit.unit, columnsF i v0 v2 σ k0_t1_loop.trips) := by
  intro σ
  have hstep : ∀ (k : Fin k0_t1_loop.trips) (acc : Unit), ℍ (columnsF i v0 v2 σ k.val) ⊢
      wp frame (wpE (defs₀ (F := F)) 𝒱 (c : Thread nD τ) bd) E (k0_t1_body (F := F) i arg2 harg2 arg3 harg3 arg4 harg4 arg5 harg5 arg6 harg6
        arg7 harg7 arg8 harg8 arg9 harg9 arg10 harg10 arg11 harg11 v0 v2 k acc) fun _ => ℍ (columnsF i v0 v2 σ (k.val + 1)) := by
    intro k acc
    rw [body_eq]
    refine (runs_column k c 𝒱 bd E arg3 arg4 arg5 arg6 arg7 harg7 arg8 arg9 arg10 arg11 i v0 v2 _).trans (wp_mono _ _ _ fun a => ?_)
    iintro ⟨%h, H⟩
    rw [columnsF, dif_pos k.isLt]
    iexact H
  refine BIBase.Entails.trans ?_ (Scf.wp_for frame (wpE (defs₀ (F := F)) 𝒱 (c : Thread nD τ) bd) E k0_t1_loop.lb k0_t1_loop.ub k0_t1_loop.st
    k0_t1_ok () (k0_t1_body (F := F) i arg2 harg2 arg3 harg3 arg4 harg4 arg5 harg5 arg6 harg6 arg7 harg7 arg8 harg8 arg9 harg9 arg10 harg10
        arg11 harg11 v0 v2) (fun n _ => ℍ (columnsF i v0 v2 σ n)) hstep)
  iintro HH
  isplitl [HH]
  · iexact HH
  · iintro %a H
    isplitr
    · ipureintro; rfl
    · iexact H

end Cert.KernelIdeal.Body

end
-- ==== Proof.Table.lean ====
/- The table of cache lengths: whatever it holds, the blocks it selects lie in the arrays, so the region may be entered with the table of
   any launch memory. -/
module

public import proofs.«01_k».proof.Proof.Gen.KernelIdeal.Launch

@[expose] public section

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]

/-- The smaller of a block number and a number that is not negative is a block number. -/
theorem minsi_lt (a : Fin 8) (x : BitVec 32) :
    (Scalar.minsi (BitVec.ofNat 32 a.val) (Scalar.maxsi x 0#32)).toNat ≤ a.val := by
  have ha : (BitVec.ofNat 32 a.val).toNat = a.val := by
    rw [BitVec.toNat_ofNat]; omega
  have hA : (BitVec.ofNat 32 a.val).toInt = a.val := by
    rw [BitVec.toInt_eq_toNat_of_lt (by rw [ha]; omega), ha]
  have h0 : (0 : Int) ≤ (Scalar.maxsi x 0#32).toInt := by
    show (0 : Int) ≤ (IntOp.maxsi x 0#32).toInt
    unfold IntOp.maxsi
    split
    · rename_i h
      rw [BitVec.slt_iff_toInt_lt] at h
      simp at h; omega
    · simp
  show (IntOp.minsi _ _).toNat ≤ _
  unfold IntOp.minsi
  split
  · exact ha.le
  · rename_i h
    rw [Bool.not_eq_true, ← Bool.not_eq_true, BitVec.slt_iff_toInt_lt, hA] at h
    have h1 := BitVec.toInt_eq_toNat_cond (Scalar.maxsi x 0#32)
    have h2 := (Scalar.maxsi x 0#32).isLt
    split at h1 <;> omega

/-- The word of the table that point `i` reads: the length of its sequence. -/
def word (pf : pre0.Contents (Elt F)) (i : grid0.Coords) : BitVec 32 :=
  pf.at 0 (Rect.unit (s := S2) ![(Scalar.indexCast (BitVec.ofNat 32 (i 0).val)).toNat] S1.size (k0_off1_inb i)) numel1_S1

/-- The token block that point `i` fetches. -/
def last (pf : pre0.Contents (Elt F)) (i : grid0.Coords) : BitVec 32 :=
  Scalar.minsi (BitVec.ofNat 32 (i 1).val)
    (Scalar.maxsi (Scalar.subi (Scalar.divsi (Scalar.addi (word pf i) 511#32) 512#32) 1#32) 0#32)

theorem last_le (pf : pre0.Contents (Elt F)) (i : grid0.Coords) : (last pf i).toNat ≤ (i 1).val := minsi_lt (i 1) _

/-- The point whose own block point `i` fetches. -/
def src (pf : pre0.Contents (Elt F)) (i : grid0.Coords) : grid0.Coords
  | 0 => i 0
  | 1 => ⟨(last pf i).toNat, Nat.lt_of_le_of_lt (last_le pf i) (i 1).isLt⟩

theorem ofNat_last (pf : pre0.Contents (Elt F)) (i : grid0.Coords) : (BitVec.ofNat 32 (last pf i).toNat).toNat = (last pf i).toNat := by
  rw [BitVec.toNat_ofNat]; exact Nat.mod_eq_of_lt (last pf i).isLt

theorem transform_2_eq (pf : pre0.Contents (Elt F)) (i : grid0.Coords) :
    cc0_transform_2 k0_off1_inb numel1_S1 pf i = cc0_transform_4 (src pf i) := by
  have h2 : cc0_transform_2 k0_off1_inb numel1_S1 pf i =
      ![(BitVec.ofNat 32 (i 0).val).toNat, (0#32).toNat, (0#32).toNat, (last pf i).toNat] := by chain_rfl
  have h4 : cc0_transform_4 (src pf i) =
      ![(BitVec.ofNat 32 (i 0).val).toNat, (0#32).toNat, (0#32).toNat, (BitVec.ofNat 32 (last pf i).toNat).toNat] := by chain_rfl
  rw [h2, h4, ofNat_last]

theorem transform_3_eq (pf : pre0.Contents (Elt F)) (i : grid0.Coords) :
    cc0_transform_3 k0_off1_inb numel1_S1 pf i = cc0_transform_5 (src pf i) := by
  have h3 : cc0_transform_3 k0_off1_inb numel1_S1 pf i =
      ![(BitVec.ofNat 32 (i 0).val).toNat, (0#32).toNat, (last pf i).toNat] := by chain_rfl
  have h5 : cc0_transform_5 (src pf i) =
      ![(BitVec.ofNat 32 (i 0).val).toNat, (0#32).toNat, (BitVec.ofNat 32 (last pf i).toNat).toNat] := by chain_rfl
  rw [h3, h5, ofNat_last]

/-- Any table may be prefetched. -/
theorem ok_all (pf : pre0.Contents (Elt F)) : ok0 pf := by
  have h : ∀ (i : grid0.Coords) (f : Fin 4 → Nat), f = cc0_transform_4 (src pf i) →
      ∃ h : (∀ a, (f a + 1) * S1x32x96x512.size a ≤ S2x32x96x4096.size a), EltTy.bits .i8 = 32 ∨
        (Rect.block (s := S2x32x96x4096) S1x32x96x512.size f h).WholeWords (EltTy.packing .i8) := by
    rintro i _ rfl
    exact ⟨hinb0_4 _, hwx0_4 _⟩
  have h' : ∀ (i : grid0.Coords) (f : Fin 3 → Nat), f = cc0_transform_5 (src pf i) →
      ∃ h : (∀ a, (f a + 1) * S1x32x512.size a ≤ S2x32x4096.size a), EltTy.bits .f32 = 32 ∨
        (Rect.block (s := S2x32x4096) S1x32x512.size f h).WholeWords (EltTy.packing .f32) := by
    rintro i _ rfl
    exact ⟨hinb0_5 _, hwx0_5 _⟩
  exact ⟨fun i => h i _ (transform_2_eq pf i), fun i => h' i _ (transform_3_eq pf i)⟩

/-! ## The host's work before the region -/

variable (m : (ℓ : Loc nD τ sig) → Buf (Elt F) ℓ)

/-- What the buffers hold when the region is entered. -/
def entry (c : Dev nD) : Valuation τ sig (Elt F) :=
  StableHlo.after (hostOps0 (F := F)) fun b => m (c, b)

/-- The table the region reads. -/
def tbl : pre0.Contents (Elt F)
  | 0 => entry m 0 (Proc.devRef .tc main_arg2)
  | ⟨_ + 1, h⟩ => absurd h (Nat.not_lt.2 (Nat.le_add_left _ _))

/-- The table as contents the pipeline admits. -/
def adm : (p : Fin 1) → (pcfgs (F := F) p).Adm := fun _ => ⟨tbl m, ok_all _⟩

/-- The host's work before the region writes none of the arguments. -/
theorem entry_arg (c : Dev nD) (b : Ref sig .tc)
    (h : b = main_arg0 ∨ b = main_arg1 ∨ b = main_arg2 ∨ b = main_arg3) :
    entry m c (Proc.devRef .tc b) = m (c, Proc.devRef .tc b) := by
  unfold entry
  rw [StableHlo.after_of_forall_not_mem]
  intro op hop
  have h28 : (hostOps0 (F := F)).Forall fun op => Proc.devRef .tc b ∉ op.writes := by
    rcases h with rfl | rfl | rfl | rfl <;>
      simp only [List.Forall, StableHlo.nullary_writes, StableHlo.unary_writes, StableHlo.binary_writes, Finset.mem_singleton] <;> decide
  exact (List.forall_iff_forall_mem.mp h28) op hop

end Cert.KernelIdeal.Body

end
-- ==== Proof.Body.lean ====
/- One point of the grid: the kernel's body, holding its nine buffers and a share of the table of lengths, reads the length of its
   sequence and takes the buffers through all columns of the block. -/
module

public import proofs.«01_k».proof.Proof.Column
public import proofs.«01_k».proof.Proof.Table

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Steps

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The first token of point `i`'s block. -/
def firstToken (i : grid0.Coords) : BitVec 32 := Scalar.muli (BitVec.ofNat 32 (i 1).val) 512#32

variable (c : Dev nD) (𝒱 : Variants) (bd : Option 𝒱.V) (E : Set Name)
variable (arg3 : Memref sig .tc .vmem S1x48x128 .f32) (arg4 : Memref sig .tc .vmem S1x48x128 .f32)
  (arg5 : Memref sig .tc .vmem S1x32x96x512 .i8) (arg6 : Memref sig .tc .vmem S1x32x512 .f32)
  (arg7 : Memref sig .tc .vmem S1x32x96x512 .i8) (arg8 : Memref sig .tc .vmem S1x32x512 .f32)
  (arg9 : Memref sig .tc .vmem S32x2x48x128 .f32) (arg10 : Memref sig .tc .vmem S4x72x128 .f32)
  (arg11 : Memref sig .tc .vmem S32x128 .f32)

/-- The body at point `i` takes the buffers from the state `σ` to the state after all columns, and gives the table back. -/
theorem run_body (i : grid0.Coords) (harg2 : (Memref.whole main_arg2 : Memref sig .tc .smem S2 .i32).IsWhole) (harg3 : arg3.IsWhole) (harg4 : arg4.IsWhole)
    (harg5 : arg5.IsWhole) (harg6 : arg6.IsWhole) (harg7 : arg7.IsWhole) (harg8 : arg8.IsWhole) (harg9 : arg9.IsWhole) (harg10 : arg10.IsWhole)
    (harg11 : arg11.IsWhole) (pf : pre0.Contents (Elt F)) (q : PosShare TreeShare) (σ : St F) :
    iprop(held (F := F) (Ix := Ix) (Name := Name) (U := U) (Lvl := Lvl) c arg3 arg4 arg5 arg6 arg7 arg8 arg9 arg10 arg11 σ
        ∗ (((c : Thread nD τ).loc main_arg2) ↦{q} (pf 0 : Buf (Elt F) ((c : Thread nD τ).loc main_arg2))))
      ⊢ wp frame (wpE (defs₀ (F := F)) 𝒱 (c : Thread nD τ) bd) E
          (cc0_rope_shift (F := F) i (Memref.whole main_arg2) harg2 arg3 harg3 arg4 harg4 arg5 harg5 arg6 harg6 arg7 harg7 arg8 harg8
            arg9 harg9 arg10 harg10 arg11 harg11) fun _ =>
          iprop(held (F := F) (Ix := Ix) (Name := Name) (U := U) (Lvl := Lvl) c arg3 arg4 arg5 arg6 arg7 arg8 arg9 arg10 arg11
              (columnsF i (firstToken i) (word pf i) σ k0_t1_loop.trips)
            ∗ (((c : Thread nD τ).loc main_arg2) ↦{q} (pf 0 : Buf (Elt F) ((c : Thread nD τ).loc main_arg2)))) := by
  rw [cc0_rope_shift_eq_skeleton]
  have hload : (((c : Thread nD τ).loc main_arg2) ↦{q} (pf 0 : Buf (Elt F) ((c : Thread nD τ).loc main_arg2)) : sProp 𝕄)
      ⊢ wp frame (wpE (defs₀ (F := F)) 𝒱 (c : Thread nD τ) bd) E
          (smemLoad (Memref.whole main_arg2 : Memref sig .tc .smem S2 .i32) (Rect.unit (s := S2) (k0_off1 i) S1.size (k0_off1_inb i)) numel1_S1 rfl)
          fun a => iprop(⌜a = word pf i⌝ ∗ (((c : Thread nD τ).loc main_arg2) ↦{q} (pf 0 : Buf (Elt F) ((c : Thread nD τ).loc main_arg2)))) := by
    unfold smemLoad
    iintro HT
    iapply (wp_smemLoadElt (defs := defs₀ (F := F)) 𝒱 (c : Thread nD τ) bd E (m := (Memref.whole main_arg2 : Memref sig .tc .smem S2 .i32))
      (r := Rect.unit (s := S2) (k0_off1 i) S1.size (k0_off1_inb i)) (S := Finset.univ) (q := q) (f := pf 0) (Finset.subset_univ _)) $$ HT
    iintro HT
    rw [wp_ret]
    imodintro
    isplitr
    · ipureintro; chain_rfl
    · iexact HT
  unfold cc0_rope_shift_skel
  iintro ⟨HH, HT⟩
  rw [wp_bind]
  ihave HL := hload $$ HT
  iapply (wp_wand _ _ _) $$ HL
  iintro %a ⟨%ha, HT⟩
  subst ha
  rw [wp_bind]
  ihave HB := (runs_loop c 𝒱 bd E arg3 arg4 arg5 arg6 arg7 harg7 arg8 arg9 arg10 arg11 i (Memref.whole main_arg2) harg2 harg3 harg4 harg5 harg6
    harg8 harg9 harg10 harg11 (firstToken i) (word pf i) σ) $$ HH
  iapply (wp_wand _ _ _) $$ HB
  iintro %a ⟨%ha, HH⟩
  rw [wp_pure]
  imodintro
  iframe

end Cert.KernelIdeal.Body

end
-- ==== Proof.Launch.lean ====
/- The frame of the program: from every memory it runs to its end, its arguments are unchanged and its semaphores are back at zero. The
   host's work before the region, the region point by point, the host's work after it. What the region writes is not named here. -/
module

public import proofs.«01_k».proof.Proof.Body
public import Idealize.ShloMosaic.Lib.Pipeline.FrameSuffix
public import Idealize.ShloMosaic.Lib.Pipeline.FrameBody

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)
open Cert.KernelIdeal Cert.KernelIdeal.Gen Cert.Steps

variable {F : FTy → Type} [FloatOps F]

variable (m : (ℓ : Loc nD τ sig) → Buf (Elt F) ℓ)

/-- The pipeline at the table of the launch memory. -/
abbrev Cf : Cfg sig Λ₀ := Pipeline.pin (pcfgs (F := F)) (adm m) 0

/-- What window `w`'s array holds in its block at point `t`, as the region is entered. -/
def entryBlock (c : Dev nD) (w : Fin (Cf m).W) (t : Fin (Cf m).N) : ((Cf m).win w).block.Idx → Elt F ((Cf m).win w).elt :=
  (((Cf m).win w).blk t).view.read (Elt F) (entry m c (Proc.devRef .tc (Pipeline.arrRef (Cf m).spec w)))

/-- The pipeline's data: inputs stay, outputs hold `Y`. -/
def datsOf (Y : (c : Dev nD) → (w : Fin (Cf m).W) → (t : Fin (Cf m).N) → ((Cf m).win w).block.Idx → Elt F ((Cf m).win w).elt) :
    (p : Fin 1) → (c : Dev nD) → Dat τ (Elt F) Unit ℕ (UR sig nD τ) ℕ (Pipeline.pin (pcfgs (F := F)) (adm m) p) c
  | 0 => fun c =>
    { A := fun w => entry m c (Proc.devRef .tc (Pipeline.arrRef (Cf m).spec w))
      after := fun w t => match w with
        | 0 => entryBlock m c 0 t
        | 1 => entryBlock m c 1 t
        | 2 => entryBlock m c 2 t
        | 3 => entryBlock m c 3 t
        | 4 => Y c 4 t
        | 5 => Y c 5 t
        | ⟨_ + 6, h⟩ => absurd h (Nat.not_lt.2 (Nat.le_add_left _ _))
      Φ := fun _ => iprop(Pipeline.ΦA (U := UR sig nD τ) (Cf m).spec c ∗ Pipeline.ΦT (U := UR sig nD τ) pre0 (tbl m) c)
      q := fun _ => fullShare
      owed := fun _ => 0 }
  | ⟨_ + 1, h⟩ => absurd h (Nat.not_lt.2 (Nat.le_add_left _ _))

variable (Y : (c : Dev nD) → (w : Fin (Cf m).W) → (t : Fin (Cf m).N) → ((Cf m).win w).block.Idx → Elt F ((Cf m).win w).elt)

theorem before_0 (c : Dev nD) (t : Fin (Cf m).N) (d) : (datsOf m Y 0 c).before 0 t d = entryBlock m c 0 t :=
  (datsOf m Y 0 c).before_in_eq_fetched 0 rfl (fun _ => rfl) (fun _ _ _ => rfl) (fun _ => rfl) t d
theorem before_1 (c : Dev nD) (t : Fin (Cf m).N) (d) : (datsOf m Y 0 c).before 1 t d = entryBlock m c 1 t :=
  (datsOf m Y 0 c).before_in_eq_fetched 1 rfl (fun _ => rfl) (fun _ _ _ => rfl) (fun _ => rfl) t d
theorem before_2 (c : Dev nD) (t : Fin (Cf m).N) (d) : (datsOf m Y 0 c).before 2 t d = entryBlock m c 2 t :=
  (datsOf m Y 0 c).before_in_eq_fetched 2 rfl (fun _ => rfl) (fun _ _ _ => rfl) (fun _ => rfl) t d
theorem before_3 (c : Dev nD) (t : Fin (Cf m).N) (d) : (datsOf m Y 0 c).before 3 t d = entryBlock m c 3 t :=
  (datsOf m Y 0 c).before_in_eq_fetched 3 rfl (fun _ => rfl) (fun _ _ _ => rfl) (fun _ => rfl) t d

/-! ## What the body reads stays -/

/-- What the body reads: cosines, sines, codes, scales. -/
def St.inputs (σ : St F) := (σ.cos, σ.sin, σ.codes, σ.scale)

theorem foldl_inputs {α : Type} (f : St F → α → St F) (h : ∀ σ a, (f σ a).inputs = σ.inputs) (l : List α) (σ : St F) :
    (l.foldl f σ).inputs = σ.inputs := by
  induction l generalizing σ with
  | nil => rfl
  | cons a l ih => rw [List.foldl_cons, ih, h]

theorem rotF_inputs (k : Fin k0_t1_loop.trips) (g : Fin 4) (i : Fin 8) (σ : St F) : (rotF k g i σ).inputs = σ.inputs := by
  unfold rotF St.inputs; rfl
theorem scalesF_inputs (k : Fin k0_t1_loop.trips) (live : BitVec 32) (g : Fin 4) (σ : St F) : (scalesF k live g σ).inputs = σ.inputs := by
  unfold scalesF St.inputs; rfl
theorem quantF_inputs (k : Fin k0_t1_loop.trips) (g : Fin 4) (i : Fin 8) (σ : St F) : (quantF k g i σ).inputs = σ.inputs := by
  unfold quantF St.inputs; rfl
theorem deadF_inputs (k : Fin k0_t1_loop.trips) (σ : St F) : (deadF k σ).inputs = σ.inputs := by
  unfold deadF St.inputs; rfl

theorem groupF_inputs (k : Fin k0_t1_loop.trips) (live : BitVec 32) (g : Fin 4) (σ : St F) : (groupF k live g σ).inputs = σ.inputs := by
  unfold groupF
  exact ((foldl_inputs (fun σ i => quantF k g i σ) (fun σ i => quantF_inputs k g i σ) eight _).trans (scalesF_inputs k live g _)).trans
    (foldl_inputs (fun σ i => rotF k g i σ) (fun σ i => rotF_inputs k g i σ) eight σ)

theorem columnF_inputs (k : Fin k0_t1_loop.trips) (i : grid0.Coords) (v0 v2 : BitVec 32) (σ : St F) :
    (columnF k i v0 v2 σ).inputs = σ.inputs := by
  have hl : ∀ live (σ : St F), (liveF k live σ).inputs = σ.inputs := fun live σ =>
    foldl_inputs (fun σ g => groupF k live g σ) (fun σ g => groupF_inputs k live g σ) four σ
  have hd : ∀ σ : St F, (deadF k σ).inputs = σ.inputs := fun σ => deadF_inputs k σ
  unfold columnF
  dsimp only
  split <;> split <;> simp only [hl, hd]

theorem columnsF_inputs (i : grid0.Coords) (v0 v2 : BitVec 32) (σ : St F) (n : Nat) : (columnsF i v0 v2 σ n).inputs = σ.inputs := by
  induction n with
  | zero => rfl
  | succ n ih =>
    rw [columnsF]
    split
    · rw [columnF_inputs, ih]
    · exact ih

/-! ## One point -/

local notation "𝕄" => MT nD τ sig Unit (Elt F) ℕ (UR sig nD τ) ℕ

/-- Point `t`'s staging buffer of window `w`. -/
abbrev stg (w : Fin (Cf m).W) (t : Fin (Cf m).N) := ((Cf m).win w).stage ((Cf m).slots t w)

/-- The state a point ends in that starts from the blocks `b0` … `b3`, its outputs holding `x` and `y`, its scratch `a`, `b`, `d`. -/
def finishOf (pf : pre0.Contents (Elt F)) (i : grid0.Coords) (b0 b1 : S1x48x128.Idx → Elt F .f32) (b2 : S1x32x96x512.Idx → Elt F .i8)
    (b3 : S1x32x512.Idx → Elt F .f32) (x : S1x32x96x512.Idx → Elt F .i8) (y : S1x32x512.Idx → Elt F .f32)
    (a : S32x2x48x128.Idx → Elt F .f32) (b : S4x72x128.Idx → Elt F .f32) (d : S32x128.Idx → Elt F .f32) : St F :=
  columnsF i (firstToken i) (word pf i) ⟨b0, b1, b2, b3, x, y, a, b, d⟩ k0_t1_loop.trips

/-- The scratch buffers, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The body's half of the table. -/
def table (c : Dev nD) (pf : pre0.Contents (Elt F)) : sProp 𝕄 :=
  (((c : Thread nD τ).loc main_arg2) ↦{fullShare.right} (pf 0 : Buf (Elt F) ((c : Thread nD τ).loc main_arg2)))

/-- One point of the grid over any six staging buffers: the inputs stay, the outputs hold what the columns leave. -/
theorem point_of (c : Dev nD) (i : grid0.Coords) (pf : pre0.Contents (Elt F))
    (arg3 : Memref sig .tc .vmem S1x48x128 .f32) (harg3 : arg3.IsWhole) (arg4 : Memref sig .tc .vmem S1x48x128 .f32) (harg4 : arg4.IsWhole)
    (arg5 : Memref sig .tc .vmem S1x32x96x512 .i8) (harg5 : arg5.IsWhole) (arg6 : Memref sig .tc .vmem S1x32x512 .f32) (harg6 : arg6.IsWhole)
    (arg7 : Memref sig .tc .vmem S1x32x96x512 .i8) (harg7 : arg7.IsWhole) (arg8 : Memref sig .tc .vmem S1x32x512 .f32) (harg8 : arg8.IsWhole)
    (b0 b1 : S1x48x128.Idx → Elt F .f32) (b2 : S1x32x96x512.Idx → Elt F .i8)
    (b3 : S1x32x512.Idx → Elt F .f32) (x : S1x32x96x512.Idx → Elt F .i8) (y : S1x32x512.Idx → Elt F .f32) (R : sProp 𝕄) :
    iprop(((scratch (F := F) c ∗ R) ∗ table c pf)
        ∗ owns (c : Thread nD τ) arg3 fullShare b0 ∗ owns (c : Thread nD τ) arg4 fullShare b1 ∗ owns (c : Thread nD τ) arg5 fullShare b2
        ∗ owns (c : Thread nD τ) arg6 fullShare b3 ∗ owns (c : Thread nD τ) arg7 fullShare x ∗ owns (c : Thread nD τ) arg8 fullShare y)
      ⊢ (wp frame (wpE (defs₀ (F := F)) Variants.none (c : Thread nD τ) none) Set.univ
          (cc0_rope_shift (F := F) i (Memref.whole main_arg2) (Memref.isWhole_whole _) arg3 harg3 arg4 harg4 arg5 harg5 arg6 harg6 arg7 harg7
            arg8 harg8 (Memref.whole cc0_scratch0) (Memref.isWhole_whole _) (Memref.whole cc0_scratch1) (Memref.isWhole_whole _)
            (Memref.whole cc0_scratch2) (Memref.isWhole_whole _)) fun _ =>
        iprop(((scratch (F := F) c ∗ R) ∗ table c pf)
        ∗ owns (c : Thread nD τ) arg3 fullShare b0 ∗ owns (c : Thread nD τ) arg4 fullShare b1 ∗ owns (c : Thread nD τ) arg5 fullShare b2
        ∗ owns (c : Thread nD τ) arg6 fullShare b3
        ∗ ∃ a b d, owns (c : Thread nD τ) arg7 fullShare (finishOf pf i b0 b1 b2 b3 x y a b d).outCodes
          ∗ owns (c : Thread nD τ) arg8 fullShare (finishOf pf i b0 b1 b2 b3 x y a b d).outScale) : sProp 𝕄) := by
  iintro ⟨⟨⟨HA, HR⟩, HT⟩, H0, H1, H2, H3, H4, H5⟩
  unfold scratch table
  icases HA with ⟨⟨%a, Ha⟩, ⟨%b, Hb⟩, ⟨%d, Hd⟩⟩
  ihave HB := (run_body c Variants.none none Set.univ arg3 arg4 arg5 arg6 arg7 arg8
    (Memref.whole cc0_scratch0) (Memref.whole cc0_scratch1) (Memref.whole cc0_scratch2) i (Memref.isWhole_whole _)
    harg3 harg4 harg5 harg6 harg7 harg8
    (Memref.isWhole_whole _) (Memref.isWhole_whole _) (Memref.isWhole_whole _) pf fullShare.right ⟨b0, b1, b2, b3, x, y, a, b, d⟩) $$ [H0 H1 H2 H3 H4 H5 Ha Hb Hd HT]
  · unfold held
    simp only [owns_whole]
    isplitr [HT]
    · isplitl [H0]; · iexact H0
      isplitl [H1]; · iexact H1
      isplitl [H2]; · iexact H2
      isplitl [H3]; · iexact H3
      isplitl [H4]; · iexact H4
      isplitl [H5]; · iexact H5
      isplitl [Ha]; · iexact Ha
      isplitl [Hb]; · iexact Hb
      iexact Hd
    · iexact HT
  iapply (wp_wand _ _ _) $$ HB
  iintro %u ⟨HH, HT⟩
  have hin := columnsF_inputs i (firstToken i) (word pf i) ⟨b0, b1, b2, b3, x, y, a, b, d⟩ k0_t1_loop.trips
  have hfin : finishOf pf i b0 b1 b2 b3 x y a b d = columnsF i (firstToken i) (word pf i) ⟨b0, b1, b2, b3, x, y, a, b, d⟩ k0_t1_loop.trips := rfl
  rw [← hfin] at hin ⊢
  generalize hf : finishOf pf i b0 b1 b2 b3 x y a b d = σ at hin ⊢
  simp only [St.inputs, Prod.mk.injEq] at hin
  obtain ⟨h0, h1, h2, h3⟩ := hin
  unfold held
  rw [h0, h1, h2, h3]
  simp only [owns_whole]
  icases HH with ⟨H0, H1, H2, H3, H4, H5, Ha, Hb, Hd⟩
  isplitr [H0 H1 H2 H3 H4 H5]
  · isplitr [HT]
    · isplitr [HR]
      · isplitl [Ha]; · iexists _; iexact Ha
        isplitl [Hb]; · iexists _; iexact Hb
        iexists _; iexact Hd
      · iexact HR
    · iexact HT
  · isplitl [H0]; · iexact H0
    isplitl [H1]; · iexact H1
    isplitl [H2]; · iexact H2
    isplitl [H3]; · iexact H3
    iexists a; iexists b; iexists d
    rw [hf]
    isplitl [H4]; · iexact H4
    iexact H5

/-- The invariant in full: scratch buffers, generator, the body's half of the table. -/
theorem Φ_eq (c : Dev nD) (t : Fin ((Cf m).N + 1)) :
    (datsOf m Y 0 c).Φ t = iprop((scratch (F := F) c ∗ ∃ r, prngReg c r) ∗ table c (tbl m)) := by
  have hT : (Pipeline.prefHeld (Ix := Unit) (Name := ℕ) (U := UR sig nD τ) (Lvl := ℕ) pre0 c (fun _ => fullShare.right) (tbl m) : sProp 𝕄)
      = table c (tbl m) := bigSep_univ_eq_bigSepL [(0 : Fin 1)] (by decide) (by decide) _
  have hA : (Pipeline.ΦA (U := UR sig nD τ) spec0 c : sProp 𝕄) = iprop(scratch (F := F) c ∗ ∃ r, prngReg c r) := by
    unfold Pipeline.ΦA
    rw [scopedRest0_eq]
    rfl
  have h : (datsOf m Y 0 c).Φ t = iprop(Pipeline.ΦA (U := UR sig nD τ) spec0 c
      ∗ Pipeline.prefHeld (Ix := Unit) (Name := ℕ) (U := UR sig nD τ) (Lvl := ℕ) pre0 c (fun _ => fullShare.right) (tbl m)) := by chain_rfl
  rw [h, hA, hT]

/-- What the body is: the kernel at the point's coordinates and staging buffers. -/
theorem body_at (t : Fin (Cf m).N) :
    defs₀ (F := F) .tc (Cf m).body ((Cf m).bodyArgs t ((Cf m).slots t))
      = cc0_rope_shift (F := F) (grid0.coords t) (Memref.whole main_arg2) (Memref.isWhole_whole _)
          (stg m 0 t) (hstage0_0 (((Cf m).slots t 0).cast nbuf0_0)) (stg m 1 t) (hstage0_1 (((Cf m).slots t 1).cast nbuf0_1))
          (stg m 2 t) (hstage0_2 (((Cf m).slots t 2).cast nbuf0_2)) (stg m 3 t) (hstage0_3 (((Cf m).slots t 3).cast nbuf0_3))
          (stg m 4 t) (hstage0_4 (((Cf m).slots t 4).cast nbuf0_4)) (stg m 5 t) (hstage0_5 (((Cf m).slots t 5).cast nbuf0_5))
          (Memref.whole cc0_scratch0) (Memref.isWhole_whole _) (Memref.whole cc0_scratch1) (Memref.isWhole_whole _)
          (Memref.whole cc0_scratch2) (Memref.isWhole_whole _) := by chain_rfl

/-- The windows whose contents the frame does not name: the two outputs. -/
def outs : Fin (Cf m).W → Bool
  | 4 => true
  | 5 => true
  | _ => false

/-- A point from what the pipeline hands the body, to the outputs it leaves. -/
theorem point (c : Dev nD) (t : Fin (Cf m).N) :
    iprop(((scratch (F := F) c ∗ ∃ r, prngReg c r) ∗ table c (tbl m)) ∗ (datsOf m Y 0 c).owesAt () t.castSucc
        ∗ (∃ d, owns (c : Thread nD τ) (stg m 0 t) fullShare ((datsOf m Y 0 c).before 0 t d)) ∗ (∃ d, owns (c : Thread nD τ) (stg m 1 t) fullShare ((datsOf m Y 0 c).before 1 t d)) ∗ (∃ d, owns (c : Thread nD τ) (stg m 2 t) fullShare ((datsOf m Y 0 c).before 2 t d)) ∗ (∃ d, owns (c : Thread nD τ) (stg m 3 t) fullShare ((datsOf m Y 0 c).before 3 t d))
        ∗ (∃ X, owns (c : Thread nD τ) (stg m 4 t) fullShare X) ∗ (∃ X, owns (c : Thread nD τ) (stg m 5 t) fullShare X))
      ⊢ (wp frame (wpE (defs₀ (F := F)) Variants.none (c : Thread nD τ) none) Set.univ
          (cc0_rope_shift (F := F) (grid0.coords t) (Memref.whole main_arg2) (Memref.isWhole_whole _)
          (stg m 0 t) (hstage0_0 (((Cf m).slots t 0).cast nbuf0_0)) (stg m 1 t) (hstage0_1 (((Cf m).slots t 1).cast nbuf0_1))
          (stg m 2 t) (hstage0_2 (((Cf m).slots t 2).cast nbuf0_2)) (stg m 3 t) (hstage0_3 (((Cf m).slots t 3).cast nbuf0_3))
          (stg m 4 t) (hstage0_4 (((Cf m).slots t 4).cast nbuf0_4)) (stg m 5 t) (hstage0_5 (((Cf m).slots t 5).cast nbuf0_5))
          (Memref.whole cc0_scratch0) (Memref.isWhole_whole _) (Memref.whole cc0_scratch1) (Memref.isWhole_whole _)
          (Memref.whole cc0_scratch2) (Memref.isWhole_whole _)) fun _ =>
        iprop(((scratch (F := F) c ∗ ∃ r, prngReg c r) ∗ table c (tbl m)) ∗ (datsOf m Y 0 c).owesAt () t.succ
        ∗ owns (c : Thread nD τ) (stg m 0 t) fullShare ((datsOf m Y 0 c).after 0 t) ∗ owns (c : Thread nD τ) (stg m 1 t) fullShare ((datsOf m Y 0 c).after 1 t) ∗ owns (c : Thread nD τ) (stg m 2 t) fullShare ((datsOf m Y 0 c).after 2 t) ∗ owns (c : Thread nD τ) (stg m 3 t) fullShare ((datsOf m Y 0 c).after 3 t)
        ∗ ∃ x y a b d, owns (c : Thread nD τ) (stg m 4 t) fullShare (finishOf (tbl m) (grid0.coords t) (entryBlock m c 0 t) (entryBlock m c 1 t) (entryBlock m c 2 t) (entryBlock m c 3 t) x y a b d).outCodes ∗ owns (c : Thread nD τ) (stg m 5 t) fullShare (finishOf (tbl m) (grid0.coords t) (entryBlock m c 0 t) (entryBlock m c 1 t) (entryBlock m c 2 t) (entryBlock m c 3 t) x y a b d).outScale) : sProp 𝕄) := by
  have hp := fun x y => point_of (F := F) c (grid0.coords t) (tbl m) (stg m 0 t) (hstage0_0 (((Cf m).slots t 0).cast nbuf0_0)) (stg m 1 t) (hstage0_1 (((Cf m).slots t 1).cast nbuf0_1))
          (stg m 2 t) (hstage0_2 (((Cf m).slots t 2).cast nbuf0_2)) (stg m 3 t) (hstage0_3 (((Cf m).slots t 3).cast nbuf0_3))
          (stg m 4 t) (hstage0_4 (((Cf m).slots t 4).cast nbuf0_4)) (stg m 5 t) (hstage0_5 (((Cf m).slots t 5).cast nbuf0_5))
          (entryBlock m c 0 t) (entryBlock m c 1 t) (entryBlock m c 2 t) (entryBlock m c 3 t) x y iprop(∃ r, prngReg c r)
  iintro ⟨HΦ, HO, ⟨%d0, H0⟩, ⟨%d1, H1⟩, ⟨%d2, H2⟩, ⟨%d3, H3⟩, ⟨%x, H4⟩, ⟨%y, H5⟩⟩
  ihave H0 := (Entails.of_eq (congrArg (owns (c : Thread nD τ) (stg m 0 t) fullShare) (before_0 m Y c t d0))) $$ H0
  ihave H1 := (Entails.of_eq (congrArg (owns (c : Thread nD τ) (stg m 1 t) fullShare) (before_1 m Y c t d1))) $$ H1
  ihave H2 := (Entails.of_eq (congrArg (owns (c : Thread nD τ) (stg m 2 t) fullShare) (before_2 m Y c t d2))) $$ H2
  ihave H3 := (Entails.of_eq (congrArg (owns (c : Thread nD τ) (stg m 3 t) fullShare) (before_3 m Y c t d3))) $$ H3
  ihave HB := (hp x y) $$ [HΦ H0 H1 H2 H3 H4 H5]
  · isplitl [HΦ]; · iexact HΦ
    isplitl [H0]; · iexact H0
    isplitl [H1]; · iexact H1
    isplitl [H2]; · iexact H2
    isplitl [H3]; · iexact H3
    isplitl [H4]; · iexact H4
    iexact H5
  iapply (wp_wand _ _ _) $$ HB
  iintro %u ⟨HΦ, H0, H1, H2, H3, %a, %b, %d, H4, H5⟩
  isplitl [HΦ]; · iexact HΦ
  isplitl [HO]; · iexact HO
  isplitl [H0]; · iexact H0
  isplitl [H1]; · iexact H1
  isplitl [H2]; · iexact H2
  isplitl [H3]; · iexact H3
  iexists x; iexists y; iexists a; iexists b; iexists d
  isplitl [H4]; · iexact H4
  iexact H5

/-- Every point of the grid leaves its inputs' buffers as they were. -/
theorem body_forget (c : Dev nD) : BodyObligationLoose (datsOf m Y 0 c) defs₀ Variants.none () Set.univ (outs m) := by
  intro t
  rw [bigSep_W0, body_at, Φ_eq, Φ_eq]
  simp only [bigSep_W0]
  refine cast ?_ ((point m Y c t).trans (wp_mono _ _ _ fun _ => (?_ : _ ⊢ iprop(((scratch (F := F) c ∗ ∃ r, prngReg c r) ∗ table c (tbl m)) ∗ (datsOf m Y 0 c).owesAt () t.succ
        ∗ owns (c : Thread nD τ) (stg m 0 t) fullShare ((datsOf m Y 0 c).after 0 t) ∗ owns (c : Thread nD τ) (stg m 1 t) fullShare ((datsOf m Y 0 c).after 1 t) ∗ owns (c : Thread nD τ) (stg m 2 t) fullShare ((datsOf m Y 0 c).after 2 t) ∗ owns (c : Thread nD τ) (stg m 3 t) fullShare ((datsOf m Y 0 c).after 3 t)
        ∗ (∃ X, owns (c : Thread nD τ) (stg m 4 t) fullShare X) ∗ (∃ X, owns (c : Thread nD τ) (stg m 5 t) fullShare X)))))
  · chain_rfl
  · iintro ⟨HΦ, HO, H0, H1, H2, H3, %x, %y, %a, %b, %d, H4, H5⟩
    isplitl [HΦ]; · iexact HΦ
    isplitl [HO]; · iexact HO
    isplitl [H0]; · iexact H0
    isplitl [H1]; · iexact H1
    isplitl [H2]; · iexact H2
    isplitl [H3]; · iexact H3
    isplitl [H4]; · iexists _; iexact H4
    iexists _; iexact H5

/-! ## The run -/

theorem sfx_sub : ∀ ops ∈ [hostOps1 (F := F)], ∀ op ∈ ops, op.bufs ⊆ Pipeline.tailRefs (τ := τ) sig (pcfgs (F := F) 0).pre (Cf m).spec := by
  have h : (hostOps1 (F := F)).Forall fun op => ∀ k, Proc.devRef .tc ((pcfgs (F := F) 0).pre.ref k) ∉ op.bufs := by
    simp only [List.Forall, StableHlo.unary_bufs]
    constructor <;> decide
  intro ops hops op hop
  rw [List.mem_singleton] at hops
  subst hops
  exact Pipeline.sub_tailRefs _ _ op ((List.forall_iff_forall_mem.mp hostOps1_sub) op hop) ((List.forall_iff_forall_mem.mp h) op hop)

theorem sfx_fresh : ∀ ops ∈ [hostOps1 (F := F)], ∀ op ∈ ops, op.fresh = ∅ := by
  intro ops hops op hop
  rw [List.mem_singleton] at hops
  subst hops
  have h : (hostOps1 (F := F)).Forall fun op => op.fresh = ∅ := ⟨rfl, rfl⟩
  exact (List.forall_iff_forall_mem.mp h) op hop

theorem sfx_keeps : ∀ ops ∈ [hostOps1 (F := F)], ∀ op ∈ ops, ∀ w, Proc.devRef .tc (Pipeline.arrRef (Cf m).spec w) ∉ op.writes := by
  intro ops hops op hop
  rw [List.mem_singleton] at hops
  subst hops
  have h : (hostOps1 (F := F)).Forall fun op => ∀ w : Fin 6, Proc.devRef .tc (Pipeline.arrRef spec0 w) ∉ op.writes := by
    simp only [List.Forall, StableHlo.unary_writes, Finset.mem_singleton]
    constructor <;> decide
  exact (List.forall_iff_forall_mem.mp h) op hop

/-- The host buffers written after the region: the two results. -/
def written : Finset (Ref sig .tc) := {main_v25, main_v26}

theorem sfx_writes : ∀ ops ∈ [hostOps1 (F := F)], ∀ op ∈ ops, ∀ b : Ref sig .tc, Proc.devRef .tc b ∈ op.writes → b ∈ written := by
  intro ops hops op hop
  rw [List.mem_singleton] at hops
  subst hops
  have h : (hostOps1 (F := F)).Forall fun op => ∀ b : Ref sig .tc, Proc.devRef .tc b ∈ op.writes → b ∈ written := by
    simp only [List.Forall, StableHlo.unary_writes, Finset.mem_singleton]
    constructor
    · intro b hb; rw [Proc.devRef_injective _ hb]; decide
    · intro b hb; rw [Proc.devRef_injective _ hb]; decide
  exact (List.forall_iff_forall_mem.mp h) op hop

theorem hostOps0_fresh : [hostOps0 (F := F)].Forall fun ops => ops.Forall fun op => op.fresh = ∅ := by
  simp only [List.Forall]
  repeat' constructor

theorem hmain : Pipeline.HMainPK (Ix := Unit) (Name := ℕ) (U := UR sig nD τ) (Lvl := ℕ) (pcfgs (F := F)) 0 defs₀ Variants.none m main
    (fun c b => entry m c (Proc.devRef .tc b)) (fun _ => Pipeline.chain ([hostOps1 (F := F)].map StableHlo.seq)) := by
  have h := Pipeline.hmainP_around (Ix := Unit) (Name := ℕ) (U := UR sig nD τ) (Lvl := ℕ) (pcfgs (F := F)) 0 defs₀ Variants.none m main
    [hostOps0] [hostOps1] (by simpa only [List.Forall] using hostOps0_sub) hostOps0_fresh (fun c => main_chain c)
  exact h

theorem dev_eq (c : Dev nD) : c = 0 := Subsingleton.elim _ _

theorem tbl_entry (c : Dev nD) (k : Fin (pcfgs (F := F) 0).pre.K) :
    entry m c (Proc.devRef .tc ((pcfgs (F := F) 0).pre.ref k)) = ((adm m 0).1 k) := by
  rw [dev_eq c]
  match k with
  | 0 => rfl

set_option maxHeartbeats 1000000 in
/-- From every memory the program runs to its end; its arguments end unchanged, its semaphores at zero. -/
theorem frame_run (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  let Y : (c : Dev nD) → (w : Fin (Cf m).W) → (t : Fin (Cf m).N) → ((Cf m).win w).block.Idx → Elt F ((Cf m).win w).elt :=
    fun c w t => entryBlock m c w t
  refine Pipeline.θ_run_frameP_around_T_forget (pcfgs (F := F)) (adm m) (datsOf m Y) (0 : Fin 1) launch0 defs₀ Variants.none (outs m) written m g main
    (hbody := fun c => body_forget m Y c) (hshare := fun c w => ?_) (howed := fun _ _ => rfl) (V₀ := entry m) (opss := [hostOps1])
    (hsub := sfx_sub m) (hfresh := sfx_fresh) (hkeep := sfx_keeps m) (hT := sfx_writes)
    (hmain := hmain m) (hA := fun _ _ => rfl) (hpf := tbl_entry m) (hΦ := fun _ _ => rfl) (Q' := _) (hQ' := ?_)
  · unfold Dat.share
    split <;> rfl
  · rintro r ⟨h, hs⟩
    refine ⟨fun c => ?_, hs⟩
    have key : ∀ b : Ref sig .tc, b ∈ Pipeline.restRefs sig spec0 \ written → (b = main_arg0 ∨ b = main_arg1 ∨ b = main_arg2 ∨ b = main_arg3) →
        r.2.mem ((c.tc : Thread nD τ).loc b) = m ((c.tc : Thread nD τ).loc b) :=
      fun b hb hb' => ((h c).2 b hb).trans (entry_arg m c b hb')
    exact ⟨key _ (by decide) (.inl rfl), key _ (by decide) (.inr (.inl rfl)), key _ (by decide) (.inr (.inr (.inl rfl))),
      key _ (by decide) (.inr (.inr (.inr rfl)))⟩

end Cert.KernelIdeal.Body

end
-- ==== Proof.ProgramBits.lean ====
/- The kernel's work on one column of 128 tokens, written by head and by group of eight heads instead of statement by statement: for
   each group its eight heads are turned (`rot`), their scales formed (`scales`), and the eight heads requantised (`quant`). The
   printed column of the loop is this program. -/
module

public import proofs.«01_k».proof.Proof.Steps
public import proofs.«01_k».proof.Proof.Gen.Kernel.Skeleton
public import Idealize.ShloMosaic.Lib.Pipeline.Regions

@[expose] public section

set_option maxRecDepth 16384

noncomputable section

namespace Cert.Kernel.Body

open Idealize.ShloMosaic Idealize.SL.Sem Cert.Kernel Cert.Kernel.Gen

variable {F : FTy → Type} [BitOps F]

/-! ## What one head and one group compute -/

/-- A head's codes as numbers, one row for each coordinate of the head. -/
def asFloat (v : Vec F S1x1x96x128 .i8) : FVec F S96x128 .bf16 :=
  sitofp .bf16 (shapeCast S96x128 v shapeCasts_S1x1x96x128_S96x128)

/-- A head's codes two to a word: pair by pair, the even coordinate in the low half. -/
def asWords (v : Vec F S1x1x96x128 .i8) : IVec S48x128 32 :=
  bitcast S48x128 32 (bitcastToInt (asFloat v)) bitcasts_S96x128_w16_S48x128_w32

/-- The even coordinates of a head. -/
def evens (v : Vec F S1x1x96x128 .i8) : FVec F S48x128 .f32 :=
  bitcastToFloat .f32 (shli (asWords v) (broadcast S48x128 16#32))

/-- The odd coordinates of a head. -/
def odds (v : Vec F S1x1x96x128 .i8) : FVec F S48x128 .f32 :=
  bitcastToFloat .f32 (andi (asWords v) (broadcast S48x128 4294901760#32))

/-- The even coordinates of a head turned by the angle of cosine `c` and sine `s`. -/
def turnEven (v : Vec F S1x1x96x128 .i8) (c s : Vec F S1x48x128 .f32) : FVec F S48x128 .f32 :=
  subf (mulf (evens v) (shapeCast S48x128 c shapeCasts_S1x48x128_S48x128))
    (mulf (odds v) (shapeCast S48x128 s shapeCasts_S1x48x128_S48x128))

/-- The odd coordinates of a head turned by the angle of cosine `c` and sine `s`. -/
def turnOdd (v : Vec F S1x1x96x128 .i8) (c s : Vec F S1x48x128 .f32) : FVec F S48x128 .f32 :=
  addf (mulf (odds v) (shapeCast S48x128 c shapeCasts_S1x48x128_S48x128))
    (mulf (evens v) (shapeCast S48x128 s shapeCasts_S1x48x128_S48x128))

/-- The largest magnitude of a turned head over every eighth pair. -/
def headPeak (v : Vec F S1x1x96x128 .i8) (c s : Vec F S1x48x128 .f32) : FVec F S8x128 .f32 :=
  multiReduction .maximumf [0] S8x128
    (shapeCast S6x8x128 (maximumf (absf (turnEven v c s)) (absf (turnOdd v c s))) shapeCasts_S48x128_S6x8x128)
    0xFF800000#32 reduces_S6x8x128_S8x128 (.inl rfl) rfl

/-- The lanes of a column that are tokens of the cache, `live` being their number. -/
def validLanes (live : BitVec 32) : IVec S8x128 1 :=
  cmpi .slt (iota .tc S8x128 32 [1] iota_S8x128_d1_w32) (broadcast S8x128 live)

/-- The largest of eight slab rows. -/
def slabPeak (p : Fin 8 → Vec F S1x8x128 .f32) : FVec F S8x128 .f32 :=
  let q : Fin 8 → FVec F S8x128 .f32 := fun j => shapeCast S8x128 (p j) shapeCasts_S1x8x128_S8x128
  maximumf (maximumf (maximumf (maximumf (maximumf (maximumf (maximumf (q 0) (q 1)) (q 2)) (q 3)) (q 4)) (q 5)) (q 6)) (q 7)

/-- The largest magnitude of each head of a group, from its old scale and the peaks of its codes. -/
def groupMax (p : Fin 8 → Vec F S1x8x128 .f32) (a : Vec F S1x8x128 .f32) : FVec F S8x128 .f32 :=
  mulf (slabPeak p) (absf (shapeCast S8x128 a shapeCasts_S1x8x128_S8x128))

/-- The new scale of each head of a group. -/
def newScale (live : BitVec 32) (p : Fin 8 → Vec F S1x8x128 .f32) (a : Vec F S1x8x128 .f32) : FVec F S8x128 .f32 :=
  select (andi (validLanes live) (cmpf .one (groupMax p a) (broadcast S8x128 (Scalar.ofBits .f32 0x00000000#32))))
    (divf (groupMax p a) (broadcast S8x128 (Scalar.ofBits .f32 0x42FE0000#32)))
    (broadcast S8x128 (Scalar.ofBits .f32 0x3F800000#32))

/-- What the turned codes of each head of a group are multiplied by. -/
def ratio (live : BitVec 32) (p : Fin 8 → Vec F S1x8x128 .f32) (a : Vec F S1x8x128 .f32) : FVec F S8x128 .f32 :=
  select (validLanes live) (divf (shapeCast S8x128 a shapeCasts_S1x8x128_S8x128) (newScale live p a))
    (broadcast S8x128 (Scalar.ofBits .f32 0x00000000#32))

/-- The factor of one head, repeated over its 48 pairs. -/
def rows48 (r : Vec F S8x128 .f32) : FVec F S48x128 .f32 :=
  concatenate S48x128 0 [⟨S8x128, r⟩, ⟨S8x128, r⟩, ⟨S8x128, r⟩, ⟨S8x128, r⟩, ⟨S8x128, r⟩, ⟨S8x128, r⟩]
    concatenates_S8x128_S8x128_S8x128_S8x128_S8x128_S8x128_S48x128_d0

/-- Turned codes times the factor, rounded and clipped, as integers. -/
def quantise (y : Vec F S1x1x48x128 .f32) (r : Vec F S8x128 .f32) : IVec S48x128 32 :=
  fptosi 32 (minimumf (broadcast S48x128 (Scalar.ofBits .f32 0x42FE0000#32))
    (maximumf (broadcast S48x128 (Scalar.ofBits .f32 0xC2FE0000#32))
      (roundeven (mulf (shapeCast S48x128 y shapeCasts_S1x1x48x128_S48x128) (rows48 r)))))

/-- The new codes of a head: its even and odd coordinates side by side. -/
def newCodes (r : Vec F S8x128 .f32) (ye yo : Vec F S1x1x48x128 .f32) : IVec S1x1x96x128 8 :=
  shapeCast S1x1x96x128 (trunci 8 (bitcast S96x128 16 (packElementwiseI16 (quantise ye r) (quantise yo r))
    bitcasts_S48x128_w32_S96x128_w16) natLt_8_16) shapeCasts_S96x128_S1x1x96x128

/-! ## The rectangles -/

/-- The first token of column `k` of a block. -/
def col (k : Fin k0_t1_loop.trips) : Nat :=
  (Scalar.indexCast (Scalar.muli (Scf.iv 0#32 1#32 k) 128#32)).toNat

theorem col_eq : ∀ k : Fin k0_t1_loop.trips, col k = 128 * k.val ∧ k.val < 4 := by decide +kernel

/-- Head `h`'s codes at column `k`. -/
def codesOff (k : Fin k0_t1_loop.trips) (h : Nat) : Fin 4 → Nat := ![0, h, 0, col k]

theorem codesOff_inb (k : Fin k0_t1_loop.trips) (h : Nat) (hh : h < 32) :
    ∀ a, codesOff k h a + S1x1x96x128.size a ≤ S1x32x96x512.size a := by
  have := col_eq k
  have hc : col k + 128 ≤ 512 := by omega
  intro a
  fin_cases a
  · exact Nat.le_refl 1
  · exact hh
  · exact Nat.le_refl 96
  · exact hc

theorem codesOff_packed : ∀ (k : Fin k0_t1_loop.trips) (h : Fin 32),
    (Rect.unit (s := S1x32x96x512) (codesOff k h.val) S1x1x96x128.size (codesOff_inb k h.val h.isLt)).PackedRows (EltTy.packing .i8) := by
  decide +kernel

/-- Group `g`'s scales at column `k`. -/
def scaleOff (k : Fin k0_t1_loop.trips) (g : Nat) : Fin 3 → Nat := ![0, g * 8, col k]

theorem scaleOff_inb (k : Fin k0_t1_loop.trips) (g : Nat) (hg : g < 4) :
    ∀ a, scaleOff k g a + S1x8x128.size a ≤ S1x32x512.size a := by
  have := col_eq k
  have hc : col k + 128 ≤ 512 := by omega
  intro a
  fin_cases a
  · exact Nat.le_refl 1
  · show g * 8 + 8 ≤ 32; omega
  · exact hc

/-- The even (`e = 0`) or odd (`e = 1`) turned coordinates of head `h`. -/
theorem turnOff_inb (h e : Nat) (hh : h < 32) (he : e < 2) :
    ∀ a, (![h, e, 0, 0] : Fin 4 → Nat) a + S1x1x48x128.size a ≤ S32x2x48x128.size a := by
  intro a
  fin_cases a
  · exact hh
  · exact he
  · exact Nat.le_refl 48
  · exact Nat.le_refl 128

/-- Row `i` and every ninth row after it of group `g`'s slab. -/
theorem slabRow_inb (g i : Nat) (hg : g < 4) (hi : i < 8) :
    ∀ a, S1x8x128.size a = 0 ∨ (![g, i, 0] : Fin 3 → Nat) a + (![1, 9, 1] : Fin 3 → Nat) a * (S1x8x128.size a - 1) < S4x72x128.size a := by
  intro a
  fin_cases a
  · right; show g + 1 * 0 < 4; omega
  · right; show i + 9 * 7 < 72; omega
  · right; show 0 + 1 * 127 < 128; omega

/-- Eight rows of group `g`'s slab from row `j`. -/
theorem slabRows_inb (g j : Nat) (hg : g < 4) (hj : j < 8) :
    ∀ a, (![g, 9 * j, 0] : Fin 3 → Nat) a + S1x8x128.size a ≤ S4x72x128.size a := by
  intro a
  fin_cases a
  · exact hg
  · show 9 * j + 8 ≤ 72; omega
  · exact Nat.le_refl 128

theorem factor_inb (g : Nat) (hg : g < 4) : ∀ a, (![g * 8, 0] : Fin 2 → Nat) a + S8x128.size a ≤ S32x128.size a := by
  intro a
  fin_cases a
  · show g * 8 + 8 ≤ 32; omega
  · exact Nat.le_refl 128

/-- The row of head `h` in the factors, read eight times. -/
theorem factorRow_inb (h : Nat) (hh : h < 32) :
    ∀ a, S8x128.size a = 0 ∨ (![h, 0] : Fin 2 → Nat) a + (![0, 1] : Fin 2 → Nat) a * (S8x128.size a - 1) < S32x128.size a := by
  intro a
  fin_cases a
  · right; show h + 0 * 7 < 32; omega
  · right; show 0 + 1 * 127 < 128; omega

/-- The head at place `i` of group `g`. -/
abbrev head (g : Fin 4) (i : Fin 8) : Fin 32 := ⟨g.val * 8 + i.val, by omega⟩

abbrev codesRect (k : Fin k0_t1_loop.trips) (h : Fin 32) : Rect S1x32x96x512 :=
  Rect.unit (s := S1x32x96x512) (codesOff k h.val) S1x1x96x128.size (codesOff_inb k h.val h.isLt)
abbrev scaleRect (k : Fin k0_t1_loop.trips) (g : Fin 4) : Rect S1x32x512 :=
  Rect.unit (s := S1x32x512) (scaleOff k g.val) S1x8x128.size (scaleOff_inb k g.val g.isLt)
abbrev angleRect : Rect S1x48x128 := Rect.unit (s := S1x48x128) ![0, 0, 0] S1x48x128.size inb_S1x48x128_S1x48x128_0_0_0
abbrev turnRect (h : Fin 32) (e : Fin 2) : Rect S32x2x48x128 :=
  Rect.unit (s := S32x2x48x128) ![h.val, e.val, 0, 0] S1x1x48x128.size (turnOff_inb h.val e.val h.isLt e.isLt)
abbrev slabRow (g : Fin 4) (i : Fin 8) : Rect S4x72x128 :=
  ⟨(⟨![g.val, i.val, 0], S1x8x128.size, ![1, 9, 1], slabRow_inb g.val i.val g.isLt i.isLt⟩ : LoadRect S4x72x128), spos_1_9_1⟩
abbrev slabRows (g : Fin 4) (j : Fin 8) : Rect S4x72x128 :=
  Rect.unit (s := S4x72x128) ![g.val, 9 * j.val, 0] S1x8x128.size (slabRows_inb g.val j.val g.isLt j.isLt)
abbrev factorRect (g : Fin 4) : Rect S32x128 :=
  Rect.unit (s := S32x128) ![g.val * 8, 0] S8x128.size (factor_inb g.val g.isLt)
abbrev factorRow (h : Fin 32) : LoadRect S32x128 :=
  ⟨![h.val, 0], S8x128.size, ![0, 1], factorRow_inb h.val h.isLt⟩
abbrev deadCodes (k : Fin k0_t1_loop.trips) : Rect S1x32x96x512 :=
  Rect.unit (s := S1x32x96x512) (k0_off38 k) S1x32x96x128.size (k0_off38_inb k)
abbrev deadScale (k : Fin k0_t1_loop.trips) : Rect S1x32x512 :=
  Rect.unit (s := S1x32x512) (k0_off39 k) S1x32x128.size (k0_off39_inb k)

/-! ## The program -/

variable (arg3 : Memref sig .tc .vmem S1x48x128 .f32) (arg4 : Memref sig .tc .vmem S1x48x128 .f32)
  (arg5 : Memref sig .tc .vmem S1x32x96x512 .i8) (arg6 : Memref sig .tc .vmem S1x32x512 .f32)
  (arg7 : Memref sig .tc .vmem S1x32x96x512 .i8) (harg7 : arg7.IsWhole) (arg8 : Memref sig .tc .vmem S1x32x512 .f32)
  (arg9 : Memref sig .tc .vmem S32x2x48x128 .f32) (arg10 : Memref sig .tc .vmem S4x72x128 .f32)
  (arg11 : Memref sig .tc .vmem S32x128 .f32) (k : Fin k0_t1_loop.trips)

/-- A program of the core's main processor. -/
abbrev Code (F : FTy → Type) (α : Type) := Prog (TpuEff nD τ sig (Elt F) Λ₀ .tc) α

/-- Turn the head at place `i` of group `g` and put its peaks in the group's slab. -/
def rot (g : Fin 4) (i : Fin 8) : Code F PUnit := do
  let v ← Prog.lift (.load arg5 (codesRect k (head g i)).toLoadRect (View.loadsAt_vmem h_S1x1x96x128))
  let c ← Prog.lift (.load arg3 angleRect.toLoadRect (View.loadsAt_vmem h_S1x48x128))
  let s ← Prog.lift (.load arg4 angleRect.toLoadRect (View.loadsAt_vmem h_S1x48x128))
  let _ ← Prog.lift (.load arg9 (turnRect (head g i) 0).toLoadRect (View.loadsAt_vmem h_S1x1x48x128))
  Prog.lift (.store arg9 (turnRect (head g i) 0) (shapeCast S1x1x48x128 (turnEven v c s) shapeCasts_S48x128_S1x1x48x128)
    Finset.univ (View.stores_vmem_bits_univ h_S1x1x48x128 rfl) (.inl rfl))
  let _ ← Prog.lift (.load arg9 (turnRect (head g i) 1).toLoadRect (View.loadsAt_vmem h_S1x1x48x128))
  Prog.lift (.store arg9 (turnRect (head g i) 1) (shapeCast S1x1x48x128 (turnOdd v c s) shapeCasts_S48x128_S1x1x48x128)
    Finset.univ (View.stores_vmem_bits_univ h_S1x1x48x128 rfl) (.inl rfl))
  let _ ← Prog.lift (.load arg10 (slabRow g i).toLoadRect (View.loadsAt_vmem h_S1x8x128))
  Prog.lift (.store arg10 (slabRow g i) (shapeCast S1x8x128 (headPeak v c s) shapeCasts_S8x128_S1x8x128)
    Finset.univ (View.stores_vmem_bits_univ h_S1x8x128 rfl) (.inl rfl))

/-- Load the rows of group `g`'s slab that start at row `j`. -/
abbrev loadSlab (g : Fin 4) (j : Fin 8) : Code F (Vec F S1x8x128 .f32) :=
  Prog.lift (.load arg10 (slabRows g j).toLoadRect (View.loadsAt_vmem h_S1x8x128))

/-- Form the new scales of group `g` and the factors of its heads. -/
def scales (live : BitVec 32) (g : Fin 4) : Code F PUnit := do
  let p0 ← loadSlab arg10 g 0
  let p1 ← loadSlab arg10 g 1
  let p2 ← loadSlab arg10 g 2
  let p3 ← loadSlab arg10 g 3
  let p4 ← loadSlab arg10 g 4
  let p5 ← loadSlab arg10 g 5
  let p6 ← loadSlab arg10 g 6
  let p7 ← loadSlab arg10 g 7
  let a ← Prog.lift (.load arg6 (scaleRect k g).toLoadRect (View.loadsAt_vmem h_S1x8x128))
  let _ ← Prog.lift (.load arg8 (scaleRect k g).toLoadRect (View.loadsAt_vmem h_S1x8x128))
  Prog.lift (.store arg8 (scaleRect k g)
    (shapeCast S1x8x128 (newScale live ![p0, p1, p2, p3, p4, p5, p6, p7] a) shapeCasts_S8x128_S1x8x128)
    Finset.univ (View.stores_vmem_bits_univ h_S1x8x128 rfl) (.inl rfl))
  let _ ← Prog.lift (.load arg11 (factorRect g).toLoadRect (View.loadsAt_vmem h_S8x128))
  Prog.lift (.store arg11 (factorRect g)
    (shapeCast S8x128 (ratio live ![p0, p1, p2, p3, p4, p5, p6, p7] a) shapeCasts_S8x128_S8x128)
    Finset.univ (View.stores_vmem_bits_univ h_S8x128 rfl) (.inl rfl))

/-- Requantise the head at place `i` of group `g`. -/
def quant (g : Fin 4) (i : Fin 8) : Code F PUnit := do
  let r ← Prog.lift (.load arg11 (factorRow (head g i)) (View.loadsAt_vmem h_S8x128))
  let ye ← Prog.lift (.load arg9 (turnRect (head g i) 0).toLoadRect (View.loadsAt_vmem h_S1x1x48x128))
  let yo ← Prog.lift (.load arg9 (turnRect (head g i) 1).toLoadRect (View.loadsAt_vmem h_S1x1x48x128))
  let _ ← Prog.lift (.load arg7 (codesRect k (head g i)).toLoadRect (View.loadsAt_vmem h_S1x1x96x128))
  Prog.lift (.store arg7 (codesRect k (head g i)) (newCodes r ye yo) Finset.univ
    (View.stores_vmem h_S1x1x96x128 (harg7.storeExact_slice rfl _ (codesOff_packed k (head g i))) (fun _ => rfl)) (.inl rfl))

/-- The places of a group. -/
abbrev eight : List (Fin 8) := [0, 1, 2, 3, 4, 5, 6, 7]
/-- The groups. -/
abbrev four : List (Fin 4) := [0, 1, 2, 3]

/-- One group of eight heads. -/
def group (live : BitVec 32) (g : Fin 4) : Code F PUnit := do
  Steps.seqAll (eight.map (rot arg3 arg4 arg5 arg9 arg10 k g))
  scales arg6 arg8 arg10 arg11 k live g
  Steps.seqAll (eight.map (quant arg7 harg7 arg9 arg11 k g))

/-- A column with `live` tokens of the cache. -/
def liveColumn (live : BitVec 32) : Code F PUnit :=
  Steps.seqAll (four.map (group arg3 arg4 arg5 arg6 arg7 harg7 arg8 arg9 arg10 arg11 k live))

/-- A column past the cache's tokens: codes zero, scales one. -/
def deadColumn : Code F PUnit := do
  let _ ← Prog.lift (.load arg7 (deadCodes k).toLoadRect (View.loadsAt_vmem h_S1x32x96x128))
  Prog.lift (.store arg7 (deadCodes k) k0_pay1 Finset.univ
    (View.stores_vmem h_S1x32x96x128 (harg7.storeExact_slice rfl _ (k0_off38_packedi8 k)) (fun _ => rfl)) (.inl rfl))
  let _ ← Prog.lift (.load arg8 (deadScale k).toLoadRect (View.loadsAt_vmem h_S1x32x128))
  Prog.lift (.store arg8 (deadScale k) (k0_pay2 (F := F)) Finset.univ (View.stores_vmem_bits_univ h_S1x32x128 rfl) (.inl rfl))

/-- The tokens of the cache from column `k` of the block on. -/
def liveOf (v0 v2 : BitVec 32) : BitVec 32 := Scalar.subi (Scalar.subi v2 v0) (Scalar.muli (Scf.iv 0#32 1#32 k) 128#32)

/-- A column: the live one, then the one past the tokens, each under the kernel's test. -/
def column (i : grid0.Coords) (v0 v2 : BitVec 32) : Code F PUnit := do
  if k0_h1 : k0_cond1 i v2 k = 1#1 then
    liveColumn arg3 arg4 arg5 arg6 arg7 harg7 arg8 arg9 arg10 arg11 k (liveOf k v0 v2)
  else pure ⟨⟩
  if k0_h2 : k0_cond2 i v2 k = 1#1 then deadColumn arg7 harg7 arg8 k else pure ⟨⟩

/-- The printed column is the program above. -/
theorem body_eq (i : grid0.Coords) (arg2 : Memref sig .tc .smem S2 .i32) (harg2 : arg2.IsWhole) (harg3 : arg3.IsWhole) (harg4 : arg4.IsWhole)
    (harg5 : arg5.IsWhole) (harg6 : arg6.IsWhole) (harg8 : arg8.IsWhole) (harg9 : arg9.IsWhole) (harg10 : arg10.IsWhole)
    (harg11 : arg11.IsWhole) (v0 v2 : BitVec 32) :
    k0_t1_body (F := F) i arg2 harg2 arg3 harg3 arg4 harg4 arg5 harg5 arg6 harg6 arg7 harg7 arg8 harg8 arg9 harg9 arg10 harg10 arg11 harg11
      v0 v2 k () =
    column arg3 arg4 arg5 arg6 arg7 harg7 arg8 arg9 arg10 arg11 k i v0 v2 := by
  chain_rfl

end Cert.Kernel.Body

end
-- ==== Proof.ColumnBits.lean ====
/- What the kernel's loop does to the buffers it holds: the state of its nine buffers, one function on that state for each piece of the
   program, and the proof that the program computes these functions. -/
module

public import proofs.«01_k».proof.Proof.ProgramBits
public import Idealize.ShloMosaic.Lib.Scf

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Steps

variable {F : FTy → Type} [BitOps F]

/-! ## The state -/

/-- What the nine buffers of the body hold: cosines, sines, codes and scales read; codes and scales written; and the three it keeps
    turned codes, peaks and factors in. -/
structure St (F : FTy → Type) where
  cos : S1x48x128.Idx → Elt F .f32
  sin : S1x48x128.Idx → Elt F .f32
  codes : S1x32x96x512.Idx → Elt F .i8
  scale : S1x32x512.Idx → Elt F .f32
  outCodes : S1x32x96x512.Idx → Elt F .i8
  outScale : S1x32x512.Idx → Elt F .f32
  turned : S32x2x48x128.Idx → Elt F .f32
  slab : S4x72x128.Idx → Elt F .f32
  factor : S32x128.Idx → Elt F .f32

variable (k : Fin k0_t1_loop.trips)

def St.v (σ : St F) (h : Fin 32) : Vec F S1x1x96x128 .i8 := fun j => σ.codes ((codesRect k h).toLoadRect.idx j)
def St.c (σ : St F) : Vec F S1x48x128 .f32 := fun j => σ.cos (angleRect.toLoadRect.idx j)
def St.s (σ : St F) : Vec F S1x48x128 .f32 := fun j => σ.sin (angleRect.toLoadRect.idx j)
/-- The peaks that the eight heads of group `g` have in the slab. -/
def St.p (σ : St F) (g : Fin 4) : Fin 8 → Vec F S1x8x128 .f32 :=
  let q : Fin 8 → Vec F S1x8x128 .f32 := fun j i => σ.slab ((slabRows g j).toLoadRect.idx i)
  ![q 0, q 1, q 2, q 3, q 4, q 5, q 6, q 7]
def St.a (σ : St F) (g : Fin 4) : Vec F S1x8x128 .f32 := fun j => σ.scale ((scaleRect k g).toLoadRect.idx j)
def St.r (σ : St F) (h : Fin 32) : Vec F S8x128 .f32 := fun j => σ.factor ((factorRow h).idx j)
def St.y (σ : St F) (h : Fin 32) (e : Fin 2) : Vec F S1x1x48x128 .f32 := fun j => σ.turned ((turnRect h e).toLoadRect.idx j)

/-- One head turned. -/
def rotF (g : Fin 4) (i : Fin 8) (σ : St F) : St F :=
  { σ with
    turned := upd (turnRect (head g i) 1) (shapeCast S1x1x48x128 (turnOdd (σ.v k (head g i)) σ.c σ.s) shapeCasts_S48x128_S1x1x48x128)
      (upd (turnRect (head g i) 0) (shapeCast S1x1x48x128 (turnEven (σ.v k (head g i)) σ.c σ.s) shapeCasts_S48x128_S1x1x48x128) σ.turned)
    slab := upd (slabRow g i) (shapeCast S1x8x128 (headPeak (σ.v k (head g i)) σ.c σ.s) shapeCasts_S8x128_S1x8x128) σ.slab }

/-- The scales of one group formed. -/
def scalesF (live : BitVec 32) (g : Fin 4) (σ : St F) : St F :=
  { σ with
    outScale := upd (scaleRect k g) (shapeCast S1x8x128 (newScale live (σ.p g) (σ.a k g)) shapeCasts_S8x128_S1x8x128) σ.outScale
    factor := upd (factorRect g) (shapeCast S8x128 (ratio live (σ.p g) (σ.a k g)) shapeCasts_S8x128_S8x128) σ.factor }

/-- One head requantised. -/
def quantF (g : Fin 4) (i : Fin 8) (σ : St F) : St F :=
  { σ with
    outCodes := upd (codesRect k (head g i)) (newCodes (σ.r (head g i)) (σ.y (head g i) 0) (σ.y (head g i) 1)) σ.outCodes }

/-- One group. -/
def groupF (live : BitVec 32) (g : Fin 4) (σ : St F) : St F :=
  eight.foldl (fun σ i => quantF k g i σ) (scalesF k live g (eight.foldl (fun σ i => rotF k g i σ) σ))

/-- A column with tokens of the cache. -/
def liveF (live : BitVec 32) (σ : St F) : St F := four.foldl (fun σ g => groupF k live g σ) σ

/-- A column past the tokens of the cache. -/
def deadF (σ : St F) : St F :=
  { σ with outCodes := upd (deadCodes k) k0_pay1 σ.outCodes, outScale := upd (deadScale k) (k0_pay2 (F := F)) σ.outScale }

/-- A column. -/
def columnF (i : grid0.Coords) (v0 v2 : BitVec 32) (σ : St F) : St F :=
  let σ' := if k0_cond1 i v2 k = 1#1 then liveF k (liveOf k v0 v2) σ else σ
  if k0_cond2 i v2 k = 1#1 then deadF k σ' else σ'

/-- The state after the first `n` columns. -/
def columnsF (i : grid0.Coords) (v0 v2 : BitVec 32) (σ : St F) : Nat → St F
  | 0 => σ
  | n + 1 => if h : n < k0_t1_loop.trips then columnF ⟨n, h⟩ i v0 v2 (columnsF i v0 v2 σ n) else columnsF i v0 v2 σ n

/-! ## The state held -/

variable {Ix : Type} [DecidableEq Ix] {Name : Type} [DecidableEq Name] {U : Type} [URA U] {Lvl : Type} [Preorder Lvl]

local notation "𝕄" => MT nD τ sig Ix (Elt F) Name U Lvl

variable (c : Dev nD) (𝒱 : Variants) (bd : Option 𝒱.V) (E : Set Name)
variable (arg3 : Memref sig .tc .vmem S1x48x128 .f32) (arg4 : Memref sig .tc .vmem S1x48x128 .f32)
  (arg5 : Memref sig .tc .vmem S1x32x96x512 .i8) (arg6 : Memref sig .tc .vmem S1x32x512 .f32)
  (arg7 : Memref sig .tc .vmem S1x32x96x512 .i8) (harg7 : arg7.IsWhole) (arg8 : Memref sig .tc .vmem S1x32x512 .f32)
  (arg9 : Memref sig .tc .vmem S32x2x48x128 .f32) (arg10 : Memref sig .tc .vmem S4x72x128 .f32)
  (arg11 : Memref sig .tc .vmem S32x128 .f32)

/-- The nine buffers at the state `σ`. -/
def held (σ : St F) : sProp 𝕄 :=
  iprop(owns (c : Thread nD τ) arg3 fullShare σ.cos ∗ owns (c : Thread nD τ) arg4 fullShare σ.sin ∗ owns (c : Thread nD τ) arg5 fullShare σ.codes
    ∗ owns (c : Thread nD τ) arg6 fullShare σ.scale ∗ owns (c : Thread nD τ) arg7 fullShare σ.outCodes
    ∗ owns (c : Thread nD τ) arg8 fullShare σ.outScale ∗ owns (c : Thread nD τ) arg9 fullShare σ.turned
    ∗ owns (c : Thread nD τ) arg10 fullShare σ.slab ∗ owns (c : Thread nD τ) arg11 fullShare σ.factor)

local notation "ℍ" => held (F := F) (Ix := Ix) (Name := Name) (U := U) (Lvl := Lvl) c arg3 arg4 arg5 arg6 arg7 arg8 arg9 arg10 arg11

theorem slot_cos : Slot (c : Thread nD τ) ℍ arg3 St.cos (fun σ X => { σ with cos := X }) := by
  intro σ; unfold held; iintro ⟨H3, H4, H5, H6, H7, H8, H9, H10, H11⟩; isplitl [H3]
  · iexact H3
  · iintro %X H; iframe
theorem slot_sin : Slot (c : Thread nD τ) ℍ arg4 St.sin (fun σ X => { σ with sin := X }) := by
  intro σ; unfold held; iintro ⟨H3, H4, H5, H6, H7, H8, H9, H10, H11⟩; isplitl [H4]
  · iexact H4
  · iintro %X H; iframe
theorem slot_codes : Slot (c : Thread nD τ) ℍ arg5 St.codes (fun σ X => { σ with codes := X }) := by
  intro σ; unfold held; iintro ⟨H3, H4, H5, H6, H7, H8, H9, H10, H11⟩; isplitl [H5]
  · iexact H5
  · iintro %X H; iframe
theorem slot_scale : Slot (c : Thread nD τ) ℍ arg6 St.scale (fun σ X => { σ with scale := X }) := by
  intro σ; unfold held; iintro ⟨H3, H4, H5, H6, H7, H8, H9, H10, H11⟩; isplitl [H6]
  · iexact H6
  · iintro %X H; iframe
theorem slot_outCodes : Slot (c : Thread nD τ) ℍ arg7 St.outCodes (fun σ X => { σ with outCodes := X }) := by
  intro σ; unfold held; iintro ⟨H3, H4, H5, H6, H7, H8, H9, H10, H11⟩; isplitl [H7]
  · iexact H7
  · iintro %X H; iframe
theorem slot_outScale : Slot (c : Thread nD τ) ℍ arg8 St.outScale (fun σ X => { σ with outScale := X }) := by
  intro σ; unfold held; iintro ⟨H3, H4, H5, H6, H7, H8, H9, H10, H11⟩; isplitl [H8]
  · iexact H8
  · iintro %X H; iframe
theorem slot_turned : Slot (c : Thread nD τ) ℍ arg9 St.turned (fun σ X => { σ with turned := X }) := by
  intro σ; unfold held; iintro ⟨H3, H4, H5, H6, H7, H8, H9, H10, H11⟩; isplitl [H9]
  · iexact H9
  · iintro %X H; iframe
theorem slot_slab : Slot (c : Thread nD τ) ℍ arg10 St.slab (fun σ X => { σ with slab := X }) := by
  intro σ; unfold held; iintro ⟨H3, H4, H5, H6, H7, H8, H9, H10, H11⟩; isplitl [H10]
  · iexact H10
  · iintro %X H; iframe
theorem slot_factor : Slot (c : Thread nD τ) ℍ arg11 St.factor (fun σ X => { σ with factor := X }) := by
  intro σ; unfold held; iintro ⟨H3, H4, H5, H6, H7, H8, H9, H10, H11⟩; isplitl [H11]
  · iexact H11
  · iintro %X H; iframe

/-! ## The program computes the functions -/

theorem runs_rot (g : Fin 4) (i : Fin 8) :
    Runs (defs₀ (F := F)) 𝒱 (c : Thread nD τ) bd E ℍ (rot arg3 arg4 arg5 arg9 arg10 k g i) fun σ => (PUnit.unit, rotF k g i σ) := by
  unfold rot
  refine Runs.congr (
    runs_bind (runs_load (slot_codes c arg3 arg4 arg5 arg6 arg7 arg8 arg9 arg10 arg11) (fun _ => rfl) _ _) fun _ =>
    runs_bind (runs_load (slot_cos c arg3 arg4 arg5 arg6 arg7 arg8 arg9 arg10 arg11) (fun _ => rfl) _ _) fun _ =>
    runs_bind (runs_load (slot_sin c arg3 arg4 arg5 arg6 arg7 arg8 arg9 arg10 arg11) (fun _ => rfl) _ _) fun _ =>
    runs_bind (runs_load (slot_turned c arg3 arg4 arg5 arg6 arg7 arg8 arg9 arg10 arg11) (fun _ => rfl) _ _) fun _ =>
    runs_bind (runs_store (slot_turned c arg3 arg4 arg5 arg6 arg7 arg8 arg9 arg10 arg11) _ _ _ _) fun _ =>
    runs_bind (runs_load (slot_turned c arg3 arg4 arg5 arg6 arg7 arg8 arg9 arg10 arg11) (fun _ => rfl) _ _) fun _ =>
    runs_bind (runs_store (slot_turned c arg3 arg4 arg5 arg6 arg7 arg8 arg9 arg10 arg11) _ _ _ _) fun _ =>
    runs_bind (runs_load (slot_slab c arg3 arg4 arg5 arg6 arg7 arg8 arg9 arg10 arg11) (fun _ => rfl) _ _) fun _ =>
    (runs_store (slot_slab c arg3 arg4 arg5 arg6 arg7 arg8 arg9 arg10 arg11) _ _ _ _)) (by chain_rfl)

theorem runs_scales (live : BitVec 32) (g : Fin 4) :
    Runs (defs₀ (F := F)) 𝒱 (c : Thread nD τ) bd E ℍ (scales arg6 arg8 arg10 arg11 k live g) fun σ => (PUnit.unit, scalesF k live g σ) := by
  unfold scales
  refine Runs.congr (
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_slab c arg3 arg4 arg5 arg6 arg7 arg8 arg9 arg10 arg11) (fun _ => rfl) _ _) fun _ =>
    runs_bind (runs_load (slot_scale c arg3 arg4 arg5 arg6 arg7 arg8 arg9 arg10 arg11) (fun _ => rfl) _ _) fun _ =>
    runs_bind (runs_load (slot_outScale c arg3 arg4 arg5 arg6 arg7 arg8 arg9 arg10 arg11) (fun _ => rfl) _ _) fun _ =>
    runs_bind (runs_store (slot_outScale c arg3 arg4 arg5 arg6 arg7 arg8 arg9 arg10 arg11) _ _ _ _) fun _ =>
    runs_bind (runs_load (slot_factor c arg3 arg4 arg5 arg6 arg7 arg8 arg9 arg10 arg11) (fun _ => rfl) _ _) fun _ =>
    (runs_store (slot_factor c arg3 arg4 arg5 arg6 arg7 arg8 arg9 arg10 arg11) _ _ _ _)) (by chain_rfl)

theorem runs_quant (g : Fin 4) (i : Fin 8) :
    Runs (defs₀ (F := F)) 𝒱 (c : Thread nD τ) bd E ℍ (quant arg7 harg7 arg9 arg11 k g i) fun σ => (PUnit.unit, quantF k g i σ) := by
  unfold quant
  refine Runs.congr (
    runs_bind (runs_load (slot_factor c arg3 arg4 arg5 arg6 arg7 arg8 arg9 arg10 arg11) (fun _ => rfl) _ _) fun _ =>
    runs_bind (runs_load (slot_turned c arg3 arg4 arg5 arg6 arg7 arg8 arg9 arg10 arg11) (fun _ => rfl) _ _) fun _ =>
    runs_bind (runs_load (slot_turned c arg3 arg4 arg5 arg6 arg7 arg8 arg9 arg10 arg11) (fun _ => rfl) _ _) fun _ =>
    runs_bind (runs_load (slot_outCodes c arg3 arg4 arg5 arg6 arg7 arg8 arg9 arg10 arg11) (fun _ => rfl) _ _) fun _ =>
    (runs_store (slot_outCodes c arg3 arg4 arg5 arg6 arg7 arg8 arg9 arg10 arg11) _ _ _ _)) (by chain_rfl)

theorem runs_dead :
    Runs (defs₀ (F := F)) 𝒱 (c : Thread nD τ) bd E ℍ (deadColumn arg7 harg7 arg8 k) fun σ => (PUnit.unit, deadF k σ) := by
  unfold deadColumn
  refine Runs.congr (
    runs_bind (runs_load (slot_outCodes c arg3 arg4 arg5 arg6 arg7 arg8 arg9 arg10 arg11) (fun _ => rfl) _ _) fun _ =>
    runs_bind (runs_store (slot_outCodes c arg3 arg4 arg5 arg6 arg7 arg8 arg9 arg10 arg11) _ _ _ _) fun _ =>
    runs_bind (runs_load (slot_outScale c arg3 arg4 arg5 arg6 arg7 arg8 arg9 arg10 arg11) (fun _ => rfl) _ _) fun _ =>
    (runs_store (slot_outScale c arg3 arg4 arg5 arg6 arg7 arg8 arg9 arg10 arg11) _ _ _ _)) (by chain_rfl)

theorem runs_group (live : BitVec 32) (g : Fin 4) :
    Runs (defs₀ (F := F)) 𝒱 (c : Thread nD τ) bd E ℍ (group arg3 arg4 arg5 arg6 arg7 harg7 arg8 arg9 arg10 arg11 k live g) fun σ => (PUnit.unit, groupF k live g σ) := by
  unfold group
  exact Runs.congr (runs_bind (runs_seqAll _ _ (fun i => runs_rot k c 𝒱 bd E arg3 arg4 arg5 arg6 arg7 arg8 arg9 arg10 arg11 g i) eight) fun _ =>
    runs_bind (runs_scales k c 𝒱 bd E arg3 arg4 arg5 arg6 arg7 arg8 arg9 arg10 arg11 live g) fun _ =>
    runs_seqAll _ _ (fun i => runs_quant k c 𝒱 bd E arg3 arg4 arg5 arg6 arg7 harg7 arg8 arg9 arg10 arg11 g i) eight) rfl

theorem runs_live (live : BitVec 32) :
    Runs (defs₀ (F := F)) 𝒱 (c : Thread nD τ) bd E ℍ (liveColumn arg3 arg4 arg5 arg6 arg7 harg7 arg8 arg9 arg10 arg11 k live) fun σ => (PUnit.unit, liveF k live σ) :=
  runs_seqAll _ _ (fun g => runs_group k c 𝒱 bd E arg3 arg4 arg5 arg6 arg7 harg7 arg8 arg9 arg10 arg11 live g) four

/-- A column of the program takes the state to `columnF` of it. -/
theorem runs_column (i : grid0.Coords) (v0 v2 : BitVec 32) :
    Runs (defs₀ (F := F)) 𝒱 (c : Thread nD τ) bd E ℍ (column arg3 arg4 arg5 arg6 arg7 harg7 arg8 arg9 arg10 arg11 k i v0 v2) fun σ => (PUnit.unit, columnF k i v0 v2 σ) := by
  unfold column columnF
  by_cases h1 : k0_cond1 i v2 k = 1#1 <;> by_cases h2 : k0_cond2 i v2 k = 1#1 <;> simp only [h1, h2, dif_pos, if_pos, dif_neg, if_neg, not_false_eq_true, reduceDIte, reduceIte]
  · exact Runs.congr (runs_bind (runs_live k c 𝒱 bd E arg3 arg4 arg5 arg6 arg7 harg7 arg8 arg9 arg10 arg11 _) fun _ => runs_dead k c 𝒱 bd E arg3 arg4 arg5 arg6 arg7 harg7 arg8 arg9 arg10 arg11) rfl
  · exact Runs.congr (runs_bind (runs_live k c 𝒱 bd E arg3 arg4 arg5 arg6 arg7 harg7 arg8 arg9 arg10 arg11 _) fun _ => runs_pure _) rfl
  · exact runs_dead k c 𝒱 bd E arg3 arg4 arg5 arg6 arg7 harg7 arg8 arg9 arg10 arg11
  · exact runs_pure _

/-- The loop takes the state to that after all its columns. -/
theorem runs_loop (i : grid0.Coords) (arg2 : Memref sig .tc .smem S2 .i32) (harg2 : arg2.IsWhole) (harg3 : arg3.IsWhole) (harg4 : arg4.IsWhole)
    (harg5 : arg5.IsWhole) (harg6 : arg6.IsWhole) (harg8 : arg8.IsWhole) (harg9 : arg9.IsWhole) (harg10 : arg10.IsWhole)
    (harg11 : arg11.IsWhole) (v0 v2 : BitVec 32) :
    Runs (defs₀ (F := F)) 𝒱 (c : Thread nD τ) bd E ℍ (Scf.Loop.for k0_t1_loop k0_t1_ok ⟨⟩
      (k0_t1_body (F := F) i arg2 harg2 arg3 harg3 arg4 harg4 arg5 harg5 arg6 harg6 arg7 harg7 arg8 harg8 arg9 harg9 arg10 harg10 arg11 harg11
        v0 v2)) fun σ => (PUnit.unit, columnsF i v0 v2 σ k0_t1_loop.trips) := by
  intro σ
  have hstep : ∀ (k : Fin k0_t1_loop.trips) (acc : Unit), ℍ (columnsF i v0 v2 σ k.val) ⊢
      wp frame (wpE (defs₀ (F := F)) 𝒱 (c : Thread nD τ) bd) E (k0_t1_body (F := F) i arg2 harg2 arg3 harg3 arg4 harg4 arg5 harg5 arg6 harg6
        arg7 harg7 arg8 harg8 arg9 harg9 arg10 harg10 arg11 harg11 v0 v2 k acc) fun _ => ℍ (columnsF i v0 v2 σ (k.val + 1)) := by
    intro k acc
    rw [body_eq]
    refine (runs_column k c 𝒱 bd E arg3 arg4 arg5 arg6 arg7 harg7 arg8 arg9 arg10 arg11 i v0 v2 _).trans (wp_mono _ _ _ fun a => ?_)
    iintro ⟨%h, H⟩
    rw [columnsF, dif_pos k.isLt]
    iexact H
  refine BIBase.Entails.trans ?_ (Scf.wp_for frame (wpE (defs₀ (F := F)) 𝒱 (c : Thread nD τ) bd) E k0_t1_loop.lb k0_t1_loop.ub k0_t1_loop.st
    k0_t1_ok () (k0_t1_body (F := F) i arg2 harg2 arg3 harg3 arg4 harg4 arg5 harg5 arg6 harg6 arg7 harg7 arg8 harg8 arg9 harg9 arg10 harg10
        arg11 harg11 v0 v2) (fun n _ => ℍ (columnsF i v0 v2 σ n)) hstep)
  iintro HH
  isplitl [HH]
  · iexact HH
  · iintro %a H
    isplitr
    · ipureintro; rfl
    · iexact H

end Cert.Kernel.Body

end
-- ==== Proof.TableBits.lean ====
/- The table of cache lengths: whatever it holds, the blocks it selects lie in the arrays, so the region may be entered with the table of
   any launch memory. -/
module

public import proofs.«01_k».proof.Proof.Gen.Kernel.Launch

@[expose] public section

set_option maxRecDepth 16384

noncomputable section

namespace Cert.Kernel.Body

open Idealize.ShloMosaic Idealize.ShloMosaic.TcCoe Idealize.SL.Sem
open Cert.Kernel Cert.Kernel.Gen

variable {F : FTy → Type} [BitOps F]

/-- The smaller of a block number and a number that is not negative is a block number. -/
theorem minsi_lt (a : Fin 8) (x : BitVec 32) :
    (Scalar.minsi (BitVec.ofNat 32 a.val) (Scalar.maxsi x 0#32)).toNat ≤ a.val := by
  have ha : (BitVec.ofNat 32 a.val).toNat = a.val := by
    rw [BitVec.toNat_ofNat]; omega
  have hA : (BitVec.ofNat 32 a.val).toInt = a.val := by
    rw [BitVec.toInt_eq_toNat_of_lt (by rw [ha]; omega), ha]
  have h0 : (0 : Int) ≤ (Scalar.maxsi x 0#32).toInt := by
    show (0 : Int) ≤ (IntOp.maxsi x 0#32).toInt
    unfold IntOp.maxsi
    split
    · rename_i h
      rw [BitVec.slt_iff_toInt_lt] at h
      simp at h; omega
    · simp
  show (IntOp.minsi _ _).toNat ≤ _
  unfold IntOp.minsi
  split
  · exact ha.le
  · rename_i h
    rw [Bool.not_eq_true, ← Bool.not_eq_true, BitVec.slt_iff_toInt_lt, hA] at h
    have h1 := BitVec.toInt_eq_toNat_cond (Scalar.maxsi x 0#32)
    have h2 := (Scalar.maxsi x 0#32).isLt
    split at h1 <;> omega

/-- The word of the table that point `i` reads: the length of its sequence. -/
def word (pf : pre0.Contents (Elt F)) (i : grid0.Coords) : BitVec 32 :=
  pf.at 0 (Rect.unit (s := S2) ![(Scalar.indexCast (BitVec.ofNat 32 (i 0).val)).toNat] S1.size (k0_off1_inb i)) numel1_S1

/-- The token block that point `i` fetches. -/
def last (pf : pre0.Contents (Elt F)) (i : grid0.Coords) : BitVec 32 :=
  Scalar.minsi (BitVec.ofNat 32 (i 1).val)
    (Scalar.maxsi (Scalar.subi (Scalar.divsi (Scalar.addi (word pf i) 511#32) 512#32) 1#32) 0#32)

theorem last_le (pf : pre0.Contents (Elt F)) (i : grid0.Coords) : (last pf i).toNat ≤ (i 1).val := minsi_lt (i 1) _

/-- The point whose own block point `i` fetches. -/
def src (pf : pre0.Contents (Elt F)) (i : grid0.Coords) : grid0.Coords
  | 0 => i 0
  | 1 => ⟨(last pf i).toNat, Nat.lt_of_le_of_lt (last_le pf i) (i 1).isLt⟩

theorem ofNat_last (pf : pre0.Contents (Elt F)) (i : grid0.Coords) : (BitVec.ofNat 32 (last pf i).toNat).toNat = (last pf i).toNat := by
  rw [BitVec.toNat_ofNat]; exact Nat.mod_eq_of_lt (last pf i).isLt

theorem transform_2_eq (pf : pre0.Contents (Elt F)) (i : grid0.Coords) :
    cc0_transform_2 k0_off1_inb numel1_S1 pf i = cc0_transform_4 (src pf i) := by
  have h2 : cc0_transform_2 k0_off1_inb numel1_S1 pf i =
      ![(BitVec.ofNat 32 (i 0).val).toNat, (0#32).toNat, (0#32).toNat, (last pf i).toNat] := by chain_rfl
  have h4 : cc0_transform_4 (src pf i) =
      ![(BitVec.ofNat 32 (i 0).val).toNat, (0#32).toNat, (0#32).toNat, (BitVec.ofNat 32 (last pf i).toNat).toNat] := by chain_rfl
  rw [h2, h4, ofNat_last]

theorem transform_3_eq (pf : pre0.Contents (Elt F)) (i : grid0.Coords) :
    cc0_transform_3 k0_off1_inb numel1_S1 pf i = cc0_transform_5 (src pf i) := by
  have h3 : cc0_transform_3 k0_off1_inb numel1_S1 pf i =
      ![(BitVec.ofNat 32 (i 0).val).toNat, (0#32).toNat, (last pf i).toNat] := by chain_rfl
  have h5 : cc0_transform_5 (src pf i) =
      ![(BitVec.ofNat 32 (i 0).val).toNat, (0#32).toNat, (BitVec.ofNat 32 (last pf i).toNat).toNat] := by chain_rfl
  rw [h3, h5, ofNat_last]

/-- Any table may be prefetched. -/
theorem ok_all (pf : pre0.Contents (Elt F)) : ok0 pf := by
  have h : ∀ (i : grid0.Coords) (f : Fin 4 → Nat), f = cc0_transform_4 (src pf i) →
      ∃ h : (∀ a, (f a + 1) * S1x32x96x512.size a ≤ S2x32x96x4096.size a), EltTy.bits .i8 = 32 ∨
        (Rect.block (s := S2x32x96x4096) S1x32x96x512.size f h).WholeWords (EltTy.packing .i8) := by
    rintro i _ rfl
    exact ⟨hinb0_4 _, hwx0_4 _⟩
  have h' : ∀ (i : grid0.Coords) (f : Fin 3 → Nat), f = cc0_transform_5 (src pf i) →
      ∃ h : (∀ a, (f a + 1) * S1x32x512.size a ≤ S2x32x4096.size a), EltTy.bits .f32 = 32 ∨
        (Rect.block (s := S2x32x4096) S1x32x512.size f h).WholeWords (EltTy.packing .f32) := by
    rintro i _ rfl
    exact ⟨hinb0_5 _, hwx0_5 _⟩
  exact ⟨fun i => h i _ (transform_2_eq pf i), fun i => h' i _ (transform_3_eq pf i)⟩

/-! ## The host's work before the region -/

variable (m : (ℓ : Loc nD τ sig) → Buf (Elt F) ℓ)

/-- What the buffers hold when the region is entered. -/
def entry (c : Dev nD) : Valuation τ sig (Elt F) :=
  StableHlo.after (hostOps0 (F := F)) fun b => m (c, b)

/-- The table the region reads. -/
def tbl : pre0.Contents (Elt F)
  | 0 => entry m 0 (Proc.devRef .tc main_arg2)
  | ⟨_ + 1, h⟩ => absurd h (Nat.not_lt.2 (Nat.le_add_left _ _))

/-- The table as contents the pipeline admits. -/
def adm : (p : Fin 1) → (pcfgs (F := F) p).Adm := fun _ => ⟨tbl m, ok_all _⟩

/-- The host's work before the region writes none of the arguments. -/
theorem entry_arg (c : Dev nD) (b : Ref sig .tc)
    (h : b = main_arg0 ∨ b = main_arg1 ∨ b = main_arg2 ∨ b = main_arg3) :
    entry m c (Proc.devRef .tc b) = m (c, Proc.devRef .tc b) := by
  unfold entry
  rw [StableHlo.after_of_forall_not_mem]
  intro op hop
  have h28 : (hostOps0 (F := F)).Forall fun op => Proc.devRef .tc b ∉ op.writes := by
    rcases h with rfl | rfl | rfl | rfl <;>
      simp only [List.Forall, StableHlo.nullary_writes, StableHlo.unary_writes, StableHlo.binary_writes, Finset.mem_singleton] <;> decide
  exact (List.forall_iff_forall_mem.mp h28) op hop

end Cert.Kernel.Body

end
-- ==== Proof.BodyBits.lean ====
/- One point of the grid: the kernel's body, holding its nine buffers and a share of the table of lengths, reads the length of its
   sequence and takes the buffers through all columns of the block. -/
module

public import proofs.«01_k».proof.Proof.ColumnBits
public import proofs.«01_k».proof.Proof.TableBits

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Steps

variable {F : FTy → Type} [BitOps F]
variable {Ix : Type} [DecidableEq Ix] {Name : Type} [DecidableEq Name] {U : Type} [URA U] {Lvl : Type} [Preorder Lvl]

local notation "𝕄" => MT nD τ sig Ix (Elt F) Name U Lvl

/-- The first token of point `i`'s block. -/
def firstToken (i : grid0.Coords) : BitVec 32 := Scalar.muli (BitVec.ofNat 32 (i 1).val) 512#32

variable (c : Dev nD) (𝒱 : Variants) (bd : Option 𝒱.V) (E : Set Name)
variable (arg3 : Memref sig .tc .vmem S1x48x128 .f32) (arg4 : Memref sig .tc .vmem S1x48x128 .f32)
  (arg5 : Memref sig .tc .vmem S1x32x96x512 .i8) (arg6 : Memref sig .tc .vmem S1x32x512 .f32)
  (arg7 : Memref sig .tc .vmem S1x32x96x512 .i8) (arg8 : Memref sig .tc .vmem S1x32x512 .f32)
  (arg9 : Memref sig .tc .vmem S32x2x48x128 .f32) (arg10 : Memref sig .tc .vmem S4x72x128 .f32)
  (arg11 : Memref sig .tc .vmem S32x128 .f32)

/-- The body at point `i` takes the buffers from the state `σ` to the state after all columns, and gives the table back. -/
theorem run_body (i : grid0.Coords) (harg2 : (Memref.whole main_arg2 : Memref sig .tc .smem S2 .i32).IsWhole) (harg3 : arg3.IsWhole) (harg4 : arg4.IsWhole)
    (harg5 : arg5.IsWhole) (harg6 : arg6.IsWhole) (harg7 : arg7.IsWhole) (harg8 : arg8.IsWhole) (harg9 : arg9.IsWhole) (harg10 : arg10.IsWhole)
    (harg11 : arg11.IsWhole) (pf : pre0.Contents (Elt F)) (q : PosShare TreeShare) (σ : St F) :
    iprop(held (F := F) (Ix := Ix) (Name := Name) (U := U) (Lvl := Lvl) c arg3 arg4 arg5 arg6 arg7 arg8 arg9 arg10 arg11 σ
        ∗ (((c : Thread nD τ).loc main_arg2) ↦{q} (pf 0 : Buf (Elt F) ((c : Thread nD τ).loc main_arg2))))
      ⊢ wp frame (wpE (defs₀ (F := F)) 𝒱 (c : Thread nD τ) bd) E
          (cc0_rope_shift (F := F) i (Memref.whole main_arg2) harg2 arg3 harg3 arg4 harg4 arg5 harg5 arg6 harg6 arg7 harg7 arg8 harg8
            arg9 harg9 arg10 harg10 arg11 harg11) fun _ =>
          iprop(held (F := F) (Ix := Ix) (Name := Name) (U := U) (Lvl := Lvl) c arg3 arg4 arg5 arg6 arg7 arg8 arg9 arg10 arg11
              (columnsF i (firstToken i) (word pf i) σ k0_t1_loop.trips)
            ∗ (((c : Thread nD τ).loc main_arg2) ↦{q} (pf 0 : Buf (Elt F) ((c : Thread nD τ).loc main_arg2)))) := by
  rw [cc0_rope_shift_eq_skeleton]
  have hload : (((c : Thread nD τ).loc main_arg2) ↦{q} (pf 0 : Buf (Elt F) ((c : Thread nD τ).loc main_arg2)) : sProp 𝕄)
      ⊢ wp frame (wpE (defs₀ (F := F)) 𝒱 (c : Thread nD τ) bd) E
          (smemLoad (Memref.whole main_arg2 : Memref sig .tc .smem S2 .i32) (Rect.unit (s := S2) (k0_off1 i) S1.size (k0_off1_inb i)) numel1_S1 rfl)
          fun a => iprop(⌜a = word pf i⌝ ∗ (((c : Thread nD τ).loc main_arg2) ↦{q} (pf 0 : Buf (Elt F) ((c : Thread nD τ).loc main_arg2)))) := by
    unfold smemLoad
    iintro HT
    iapply (wp_smemLoadElt (defs := defs₀ (F := F)) 𝒱 (c : Thread nD τ) bd E (m := (Memref.whole main_arg2 : Memref sig .tc .smem S2 .i32))
      (r := Rect.unit (s := S2) (k0_off1 i) S1.size (k0_off1_inb i)) (S := Finset.univ) (q := q) (f := pf 0) (Finset.subset_univ _)) $$ HT
    iintro HT
    rw [wp_ret]
    imodintro
    isplitr
    · ipureintro; chain_rfl
    · iexact HT
  unfold cc0_rope_shift_skel
  iintro ⟨HH, HT⟩
  rw [wp_bind]
  ihave HL := hload $$ HT
  iapply (wp_wand _ _ _) $$ HL
  iintro %a ⟨%ha, HT⟩
  subst ha
  rw [wp_bind]
  ihave HB := (runs_loop c 𝒱 bd E arg3 arg4 arg5 arg6 arg7 harg7 arg8 arg9 arg10 arg11 i (Memref.whole main_arg2) harg2 harg3 harg4 harg5 harg6
    harg8 harg9 harg10 harg11 (firstToken i) (word pf i) σ) $$ HH
  iapply (wp_wand _ _ _) $$ HB
  iintro %a ⟨%ha, HH⟩
  rw [wp_pure]
  imodintro
  iframe

end Cert.Kernel.Body

end
-- ==== Proof.LaunchBits.lean ====
/- The frame of the program: from every memory it runs to its end, its arguments are unchanged and its semaphores are back at zero. The
   host's work before the region, the region point by point, the host's work after it. What the region writes is not named here. -/
module

public import proofs.«01_k».proof.Proof.BodyBits
public import Idealize.ShloMosaic.Lib.Pipeline.FrameSuffix
public import Idealize.ShloMosaic.Lib.Pipeline.FrameBody

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)
open Cert.Kernel Cert.Kernel.Gen Cert.Steps

variable {F : FTy → Type} [BitOps F]

variable (m : (ℓ : Loc nD τ sig) → Buf (Elt F) ℓ)

/-- The pipeline at the table of the launch memory. -/
abbrev Cf : Cfg sig Λ₀ := Pipeline.pin (pcfgs (F := F)) (adm m) 0

/-- What window `w`'s array holds in its block at point `t`, as the region is entered. -/
def entryBlock (c : Dev nD) (w : Fin (Cf m).W) (t : Fin (Cf m).N) : ((Cf m).win w).block.Idx → Elt F ((Cf m).win w).elt :=
  (((Cf m).win w).blk t).view.read (Elt F) (entry m c (Proc.devRef .tc (Pipeline.arrRef (Cf m).spec w)))

/-- The pipeline's data: inputs stay, outputs hold `Y`. -/
def datsOf (Y : (c : Dev nD) → (w : Fin (Cf m).W) → (t : Fin (Cf m).N) → ((Cf m).win w).block.Idx → Elt F ((Cf m).win w).elt) :
    (p : Fin 1) → (c : Dev nD) → Dat τ (Elt F) Unit ℕ (UR sig nD τ) ℕ (Pipeline.pin (pcfgs (F := F)) (adm m) p) c
  | 0 => fun c =>
    { A := fun w => entry m c (Proc.devRef .tc (Pipeline.arrRef (Cf m).spec w))
      after := fun w t => match w with
        | 0 => entryBlock m c 0 t
        | 1 => entryBlock m c 1 t
        | 2 => entryBlock m c 2 t
        | 3 => entryBlock m c 3 t
        | 4 => Y c 4 t
        | 5 => Y c 5 t
        | ⟨_ + 6, h⟩ => absurd h (Nat.not_lt.2 (Nat.le_add_left _ _))
      Φ := fun _ => iprop(Pipeline.ΦA (U := UR sig nD τ) (Cf m).spec c ∗ Pipeline.ΦT (U := UR sig nD τ) pre0 (tbl m) c)
      q := fun _ => fullShare
      owed := fun _ => 0 }
  | ⟨_ + 1, h⟩ => absurd h (Nat.not_lt.2 (Nat.le_add_left _ _))

variable (Y : (c : Dev nD) → (w : Fin (Cf m).W) → (t : Fin (Cf m).N) → ((Cf m).win w).block.Idx → Elt F ((Cf m).win w).elt)

theorem before_0 (c : Dev nD) (t : Fin (Cf m).N) (d) : (datsOf m Y 0 c).before 0 t d = entryBlock m c 0 t :=
  (datsOf m Y 0 c).before_in_eq_fetched 0 rfl (fun _ => rfl) (fun _ _ _ => rfl) (fun _ => rfl) t d
theorem before_1 (c : Dev nD) (t : Fin (Cf m).N) (d) : (datsOf m Y 0 c).before 1 t d = entryBlock m c 1 t :=
  (datsOf m Y 0 c).before_in_eq_fetched 1 rfl (fun _ => rfl) (fun _ _ _ => rfl) (fun _ => rfl) t d
theorem before_2 (c : Dev nD) (t : Fin (Cf m).N) (d) : (datsOf m Y 0 c).before 2 t d = entryBlock m c 2 t :=
  (datsOf m Y 0 c).before_in_eq_fetched 2 rfl (fun _ => rfl) (fun _ _ _ => rfl) (fun _ => rfl) t d
theorem before_3 (c : Dev nD) (t : Fin (Cf m).N) (d) : (datsOf m Y 0 c).before 3 t d = entryBlock m c 3 t :=
  (datsOf m Y 0 c).before_in_eq_fetched 3 rfl (fun _ => rfl) (fun _ _ _ => rfl) (fun _ => rfl) t d

/-! ## What the body reads stays -/

/-- What the body reads: cosines, sines, codes, scales. -/
def St.inputs (σ : St F) := (σ.cos, σ.sin, σ.codes, σ.scale)

theorem foldl_inputs {α : Type} (f : St F → α → St F) (h : ∀ σ a, (f σ a).inputs = σ.inputs) (l : List α) (σ : St F) :
    (l.foldl f σ).inputs = σ.inputs := by
  induction l generalizing σ with
  | nil => rfl
  | cons a l ih => rw [List.foldl_cons, ih, h]

theorem rotF_inputs (k : Fin k0_t1_loop.trips) (g : Fin 4) (i : Fin 8) (σ : St F) : (rotF k g i σ).inputs = σ.inputs := by
  unfold rotF St.inputs; rfl
theorem scalesF_inputs (k : Fin k0_t1_loop.trips) (live : BitVec 32) (g : Fin 4) (σ : St F) : (scalesF k live g σ).inputs = σ.inputs := by
  unfold scalesF St.inputs; rfl
theorem quantF_inputs (k : Fin k0_t1_loop.trips) (g : Fin 4) (i : Fin 8) (σ : St F) : (quantF k g i σ).inputs = σ.inputs := by
  unfold quantF St.inputs; rfl
theorem deadF_inputs (k : Fin k0_t1_loop.trips) (σ : St F) : (deadF k σ).inputs = σ.inputs := by
  unfold deadF St.inputs; rfl

theorem groupF_inputs (k : Fin k0_t1_loop.trips) (live : BitVec 32) (g : Fin 4) (σ : St F) : (groupF k live g σ).inputs = σ.inputs := by
  unfold groupF
  exact ((foldl_inputs (fun σ i => quantF k g i σ) (fun σ i => quantF_inputs k g i σ) eight _).trans (scalesF_inputs k live g _)).trans
    (foldl_inputs (fun σ i => rotF k g i σ) (fun σ i => rotF_inputs k g i σ) eight σ)

theorem columnF_inputs (k : Fin k0_t1_loop.trips) (i : grid0.Coords) (v0 v2 : BitVec 32) (σ : St F) :
    (columnF k i v0 v2 σ).inputs = σ.inputs := by
  have hl : ∀ live (σ : St F), (liveF k live σ).inputs = σ.inputs := fun live σ =>
    foldl_inputs (fun σ g => groupF k live g σ) (fun σ g => groupF_inputs k live g σ) four σ
  have hd : ∀ σ : St F, (deadF k σ).inputs = σ.inputs := fun σ => deadF_inputs k σ
  unfold columnF
  dsimp only
  split <;> split <;> simp only [hl, hd]

theorem columnsF_inputs (i : grid0.Coords) (v0 v2 : BitVec 32) (σ : St F) (n : Nat) : (columnsF i v0 v2 σ n).inputs = σ.inputs := by
  induction n with
  | zero => rfl
  | succ n ih =>
    rw [columnsF]
    split
    · rw [columnF_inputs, ih]
    · exact ih

/-! ## One point -/

local notation "𝕄" => MT nD τ sig Unit (Elt F) ℕ (UR sig nD τ) ℕ

/-- Point `t`'s staging buffer of window `w`. -/
abbrev stg (w : Fin (Cf m).W) (t : Fin (Cf m).N) := ((Cf m).win w).stage ((Cf m).slots t w)

/-- The state a point ends in that starts from the blocks `b0` … `b3`, its outputs holding `x` and `y`, its scratch `a`, `b`, `d`. -/
def finishOf (pf : pre0.Contents (Elt F)) (i : grid0.Coords) (b0 b1 : S1x48x128.Idx → Elt F .f32) (b2 : S1x32x96x512.Idx → Elt F .i8)
    (b3 : S1x32x512.Idx → Elt F .f32) (x : S1x32x96x512.Idx → Elt F .i8) (y : S1x32x512.Idx → Elt F .f32)
    (a : S32x2x48x128.Idx → Elt F .f32) (b : S4x72x128.Idx → Elt F .f32) (d : S32x128.Idx → Elt F .f32) : St F :=
  columnsF i (firstToken i) (word pf i) ⟨b0, b1, b2, b3, x, y, a, b, d⟩ k0_t1_loop.trips

/-- The scratch buffers, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The body's half of the table. -/
def table (c : Dev nD) (pf : pre0.Contents (Elt F)) : sProp 𝕄 :=
  (((c : Thread nD τ).loc main_arg2) ↦{fullShare.right} (pf 0 : Buf (Elt F) ((c : Thread nD τ).loc main_arg2)))

/-- One point of the grid over any six staging buffers: the inputs stay, the outputs hold what the columns leave. -/
theorem point_of (c : Dev nD) (i : grid0.Coords) (pf : pre0.Contents (Elt F))
    (arg3 : Memref sig .tc .vmem S1x48x128 .f32) (harg3 : arg3.IsWhole) (arg4 : Memref sig .tc .vmem S1x48x128 .f32) (harg4 : arg4.IsWhole)
    (arg5 : Memref sig .tc .vmem S1x32x96x512 .i8) (harg5 : arg5.IsWhole) (arg6 : Memref sig .tc .vmem S1x32x512 .f32) (harg6 : arg6.IsWhole)
    (arg7 : Memref sig .tc .vmem S1x32x96x512 .i8) (harg7 : arg7.IsWhole) (arg8 : Memref sig .tc .vmem S1x32x512 .f32) (harg8 : arg8.IsWhole)
    (b0 b1 : S1x48x128.Idx → Elt F .f32) (b2 : S1x32x96x512.Idx → Elt F .i8)
    (b3 : S1x32x512.Idx → Elt F .f32) (x : S1x32x96x512.Idx → Elt F .i8) (y : S1x32x512.Idx → Elt F .f32) (R : sProp 𝕄) :
    iprop(((scratch (F := F) c ∗ R) ∗ table c pf)
        ∗ owns (c : Thread nD τ) arg3 fullShare b0 ∗ owns (c : Thread nD τ) arg4 fullShare b1 ∗ owns (c : Thread nD τ) arg5 fullShare b2
        ∗ owns (c : Thread nD τ) arg6 fullShare b3 ∗ owns (c : Thread nD τ) arg7 fullShare x ∗ owns (c : Thread nD τ) arg8 fullShare y)
      ⊢ (wp frame (wpE (defs₀ (F := F)) Variants.none (c : Thread nD τ) none) Set.univ
          (cc0_rope_shift (F := F) i (Memref.whole main_arg2) (Memref.isWhole_whole _) arg3 harg3 arg4 harg4 arg5 harg5 arg6 harg6 arg7 harg7
            arg8 harg8 (Memref.whole cc0_scratch0) (Memref.isWhole_whole _) (Memref.whole cc0_scratch1) (Memref.isWhole_whole _)
            (Memref.whole cc0_scratch2) (Memref.isWhole_whole _)) fun _ =>
        iprop(((scratch (F := F) c ∗ R) ∗ table c pf)
        ∗ owns (c : Thread nD τ) arg3 fullShare b0 ∗ owns (c : Thread nD τ) arg4 fullShare b1 ∗ owns (c : Thread nD τ) arg5 fullShare b2
        ∗ owns (c : Thread nD τ) arg6 fullShare b3
        ∗ ∃ a b d, owns (c : Thread nD τ) arg7 fullShare (finishOf pf i b0 b1 b2 b3 x y a b d).outCodes
          ∗ owns (c : Thread nD τ) arg8 fullShare (finishOf pf i b0 b1 b2 b3 x y a b d).outScale) : sProp 𝕄) := by
  iintro ⟨⟨⟨HA, HR⟩, HT⟩, H0, H1, H2, H3, H4, H5⟩
  unfold scratch table
  icases HA with ⟨⟨%a, Ha⟩, ⟨%b, Hb⟩, ⟨%d, Hd⟩⟩
  ihave HB := (run_body c Variants.none none Set.univ arg3 arg4 arg5 arg6 arg7 arg8
    (Memref.whole cc0_scratch0) (Memref.whole cc0_scratch1) (Memref.whole cc0_scratch2) i (Memref.isWhole_whole _)
    harg3 harg4 harg5 harg6 harg7 harg8
    (Memref.isWhole_whole _) (Memref.isWhole_whole _) (Memref.isWhole_whole _) pf fullShare.right ⟨b0, b1, b2, b3, x, y, a, b, d⟩) $$ [H0 H1 H2 H3 H4 H5 Ha Hb Hd HT]
  · unfold held
    simp only [owns_whole]
    isplitr [HT]
    · isplitl [H0]; · iexact H0
      isplitl [H1]; · iexact H1
      isplitl [H2]; · iexact H2
      isplitl [H3]; · iexact H3
      isplitl [H4]; · iexact H4
      isplitl [H5]; · iexact H5
      isplitl [Ha]; · iexact Ha
      isplitl [Hb]; · iexact Hb
      iexact Hd
    · iexact HT
  iapply (wp_wand _ _ _) $$ HB
  iintro %u ⟨HH, HT⟩
  have hin := columnsF_inputs i (firstToken i) (word pf i) ⟨b0, b1, b2, b3, x, y, a, b, d⟩ k0_t1_loop.trips
  have hfin : finishOf pf i b0 b1 b2 b3 x y a b d = columnsF i (firstToken i) (word pf i) ⟨b0, b1, b2, b3, x, y, a, b, d⟩ k0_t1_loop.trips := rfl
  rw [← hfin] at hin ⊢
  generalize hf : finishOf pf i b0 b1 b2 b3 x y a b d = σ at hin ⊢
  simp only [St.inputs, Prod.mk.injEq] at hin
  obtain ⟨h0, h1, h2, h3⟩ := hin
  unfold held
  rw [h0, h1, h2, h3]
  simp only [owns_whole]
  icases HH with ⟨H0, H1, H2, H3, H4, H5, Ha, Hb, Hd⟩
  isplitr [H0 H1 H2 H3 H4 H5]
  · isplitr [HT]
    · isplitr [HR]
      · isplitl [Ha]; · iexists _; iexact Ha
        isplitl [Hb]; · iexists _; iexact Hb
        iexists _; iexact Hd
      · iexact HR
    · iexact HT
  · isplitl [H0]; · iexact H0
    isplitl [H1]; · iexact H1
    isplitl [H2]; · iexact H2
    isplitl [H3]; · iexact H3
    iexists a; iexists b; iexists d
    rw [hf]
    isplitl [H4]; · iexact H4
    iexact H5

/-- The invariant in full: scratch buffers, generator, the body's half of the table. -/
theorem Φ_eq (c : Dev nD) (t : Fin ((Cf m).N + 1)) :
    (datsOf m Y 0 c).Φ t = iprop((scratch (F := F) c ∗ ∃ r, prngReg c r) ∗ table c (tbl m)) := by
  have hT : (Pipeline.prefHeld (Ix := Unit) (Name := ℕ) (U := UR sig nD τ) (Lvl := ℕ) pre0 c (fun _ => fullShare.right) (tbl m) : sProp 𝕄)
      = table c (tbl m) := bigSep_univ_eq_bigSepL [(0 : Fin 1)] (by decide) (by decide) _
  have hA : (Pipeline.ΦA (U := UR sig nD τ) spec0 c : sProp 𝕄) = iprop(scratch (F := F) c ∗ ∃ r, prngReg c r) := by
    unfold Pipeline.ΦA
    rw [scopedRest0_eq]
    rfl
  have h : (datsOf m Y 0 c).Φ t = iprop(Pipeline.ΦA (U := UR sig nD τ) spec0 c
      ∗ Pipeline.prefHeld (Ix := Unit) (Name := ℕ) (U := UR sig nD τ) (Lvl := ℕ) pre0 c (fun _ => fullShare.right) (tbl m)) := by chain_rfl
  rw [h, hA, hT]

/-- What the body is: the kernel at the point's coordinates and staging buffers. -/
theorem body_at (t : Fin (Cf m).N) :
    defs₀ (F := F) .tc (Cf m).body ((Cf m).bodyArgs t ((Cf m).slots t))
      = cc0_rope_shift (F := F) (grid0.coords t) (Memref.whole main_arg2) (Memref.isWhole_whole _)
          (stg m 0 t) (hstage0_0 (((Cf m).slots t 0).cast nbuf0_0)) (stg m 1 t) (hstage0_1 (((Cf m).slots t 1).cast nbuf0_1))
          (stg m 2 t) (hstage0_2 (((Cf m).slots t 2).cast nbuf0_2)) (stg m 3 t) (hstage0_3 (((Cf m).slots t 3).cast nbuf0_3))
          (stg m 4 t) (hstage0_4 (((Cf m).slots t 4).cast nbuf0_4)) (stg m 5 t) (hstage0_5 (((Cf m).slots t 5).cast nbuf0_5))
          (Memref.whole cc0_scratch0) (Memref.isWhole_whole _) (Memref.whole cc0_scratch1) (Memref.isWhole_whole _)
          (Memref.whole cc0_scratch2) (Memref.isWhole_whole _) := by chain_rfl

/-- The windows whose contents the frame does not name: the two outputs. -/
def outs : Fin (Cf m).W → Bool
  | 4 => true
  | 5 => true
  | _ => false

/-- A point from what the pipeline hands the body, to the outputs it leaves. -/
theorem point (c : Dev nD) (t : Fin (Cf m).N) :
    iprop(((scratch (F := F) c ∗ ∃ r, prngReg c r) ∗ table c (tbl m)) ∗ (datsOf m Y 0 c).owesAt () t.castSucc
        ∗ (∃ d, owns (c : Thread nD τ) (stg m 0 t) fullShare ((datsOf m Y 0 c).before 0 t d)) ∗ (∃ d, owns (c : Thread nD τ) (stg m 1 t) fullShare ((datsOf m Y 0 c).before 1 t d)) ∗ (∃ d, owns (c : Thread nD τ) (stg m 2 t) fullShare ((datsOf m Y 0 c).before 2 t d)) ∗ (∃ d, owns (c : Thread nD τ) (stg m 3 t) fullShare ((datsOf m Y 0 c).before 3 t d))
        ∗ (∃ X, owns (c : Thread nD τ) (stg m 4 t) fullShare X) ∗ (∃ X, owns (c : Thread nD τ) (stg m 5 t) fullShare X))
      ⊢ (wp frame (wpE (defs₀ (F := F)) Variants.none (c : Thread nD τ) none) Set.univ
          (cc0_rope_shift (F := F) (grid0.coords t) (Memref.whole main_arg2) (Memref.isWhole_whole _)
          (stg m 0 t) (hstage0_0 (((Cf m).slots t 0).cast nbuf0_0)) (stg m 1 t) (hstage0_1 (((Cf m).slots t 1).cast nbuf0_1))
          (stg m 2 t) (hstage0_2 (((Cf m).slots t 2).cast nbuf0_2)) (stg m 3 t) (hstage0_3 (((Cf m).slots t 3).cast nbuf0_3))
          (stg m 4 t) (hstage0_4 (((Cf m).slots t 4).cast nbuf0_4)) (stg m 5 t) (hstage0_5 (((Cf m).slots t 5).cast nbuf0_5))
          (Memref.whole cc0_scratch0) (Memref.isWhole_whole _) (Memref.whole cc0_scratch1) (Memref.isWhole_whole _)
          (Memref.whole cc0_scratch2) (Memref.isWhole_whole _)) fun _ =>
        iprop(((scratch (F := F) c ∗ ∃ r, prngReg c r) ∗ table c (tbl m)) ∗ (datsOf m Y 0 c).owesAt () t.succ
        ∗ owns (c : Thread nD τ) (stg m 0 t) fullShare ((datsOf m Y 0 c).after 0 t) ∗ owns (c : Thread nD τ) (stg m 1 t) fullShare ((datsOf m Y 0 c).after 1 t) ∗ owns (c : Thread nD τ) (stg m 2 t) fullShare ((datsOf m Y 0 c).after 2 t) ∗ owns (c : Thread nD τ) (stg m 3 t) fullShare ((datsOf m Y 0 c).after 3 t)
        ∗ ∃ x y a b d, owns (c : Thread nD τ) (stg m 4 t) fullShare (finishOf (tbl m) (grid0.coords t) (entryBlock m c 0 t) (entryBlock m c 1 t) (entryBlock m c 2 t) (entryBlock m c 3 t) x y a b d).outCodes ∗ owns (c : Thread nD τ) (stg m 5 t) fullShare (finishOf (tbl m) (grid0.coords t) (entryBlock m c 0 t) (entryBlock m c 1 t) (entryBlock m c 2 t) (entryBlock m c 3 t) x y a b d).outScale) : sProp 𝕄) := by
  have hp := fun x y => point_of (F := F) c (grid0.coords t) (tbl m) (stg m 0 t) (hstage0_0 (((Cf m).slots t 0).cast nbuf0_0)) (stg m 1 t) (hstage0_1 (((Cf m).slots t 1).cast nbuf0_1))
          (stg m 2 t) (hstage0_2 (((Cf m).slots t 2).cast nbuf0_2)) (stg m 3 t) (hstage0_3 (((Cf m).slots t 3).cast nbuf0_3))
          (stg m 4 t) (hstage0_4 (((Cf m).slots t 4).cast nbuf0_4)) (stg m 5 t) (hstage0_5 (((Cf m).slots t 5).cast nbuf0_5))
          (entryBlock m c 0 t) (entryBlock m c 1 t) (entryBlock m c 2 t) (entryBlock m c 3 t) x y iprop(∃ r, prngReg c r)
  iintro ⟨HΦ, HO, ⟨%d0, H0⟩, ⟨%d1, H1⟩, ⟨%d2, H2⟩, ⟨%d3, H3⟩, ⟨%x, H4⟩, ⟨%y, H5⟩⟩
  ihave H0 := (Entails.of_eq (congrArg (owns (c : Thread nD τ) (stg m 0 t) fullShare) (before_0 m Y c t d0))) $$ H0
  ihave H1 := (Entails.of_eq (congrArg (owns (c : Thread nD τ) (stg m 1 t) fullShare) (before_1 m Y c t d1))) $$ H1
  ihave H2 := (Entails.of_eq (congrArg (owns (c : Thread nD τ) (stg m 2 t) fullShare) (before_2 m Y c t d2))) $$ H2
  ihave H3 := (Entails.of_eq (congrArg (owns (c : Thread nD τ) (stg m 3 t) fullShare) (before_3 m Y c t d3))) $$ H3
  ihave HB := (hp x y) $$ [HΦ H0 H1 H2 H3 H4 H5]
  · isplitl [HΦ]; · iexact HΦ
    isplitl [H0]; · iexact H0
    isplitl [H1]; · iexact H1
    isplitl [H2]; · iexact H2
    isplitl [H3]; · iexact H3
    isplitl [H4]; · iexact H4
    iexact H5
  iapply (wp_wand _ _ _) $$ HB
  iintro %u ⟨HΦ, H0, H1, H2, H3, %a, %b, %d, H4, H5⟩
  isplitl [HΦ]; · iexact HΦ
  isplitl [HO]; · iexact HO
  isplitl [H0]; · iexact H0
  isplitl [H1]; · iexact H1
  isplitl [H2]; · iexact H2
  isplitl [H3]; · iexact H3
  iexists x; iexists y; iexists a; iexists b; iexists d
  isplitl [H4]; · iexact H4
  iexact H5

/-- Every point of the grid leaves its inputs' buffers as they were. -/
theorem body_forget (c : Dev nD) : BodyObligationLoose (datsOf m Y 0 c) defs₀ Variants.none () Set.univ (outs m) := by
  intro t
  rw [bigSep_W0, body_at, Φ_eq, Φ_eq]
  simp only [bigSep_W0]
  refine cast ?_ ((point m Y c t).trans (wp_mono _ _ _ fun _ => (?_ : _ ⊢ iprop(((scratch (F := F) c ∗ ∃ r, prngReg c r) ∗ table c (tbl m)) ∗ (datsOf m Y 0 c).owesAt () t.succ
        ∗ owns (c : Thread nD τ) (stg m 0 t) fullShare ((datsOf m Y 0 c).after 0 t) ∗ owns (c : Thread nD τ) (stg m 1 t) fullShare ((datsOf m Y 0 c).after 1 t) ∗ owns (c : Thread nD τ) (stg m 2 t) fullShare ((datsOf m Y 0 c).after 2 t) ∗ owns (c : Thread nD τ) (stg m 3 t) fullShare ((datsOf m Y 0 c).after 3 t)
        ∗ (∃ X, owns (c : Thread nD τ) (stg m 4 t) fullShare X) ∗ (∃ X, owns (c : Thread nD τ) (stg m 5 t) fullShare X)))))
  · chain_rfl
  · iintro ⟨HΦ, HO, H0, H1, H2, H3, %x, %y, %a, %b, %d, H4, H5⟩
    isplitl [HΦ]; · iexact HΦ
    isplitl [HO]; · iexact HO
    isplitl [H0]; · iexact H0
    isplitl [H1]; · iexact H1
    isplitl [H2]; · iexact H2
    isplitl [H3]; · iexact H3
    isplitl [H4]; · iexists _; iexact H4
    iexists _; iexact H5

/-! ## The run -/

theorem sfx_sub : ∀ ops ∈ [hostOps1 (F := F)], ∀ op ∈ ops, op.bufs ⊆ Pipeline.tailRefs (τ := τ) sig (pcfgs (F := F) 0).pre (Cf m).spec := by
  have h : (hostOps1 (F := F)).Forall fun op => ∀ k, Proc.devRef .tc ((pcfgs (F := F) 0).pre.ref k) ∉ op.bufs := by
    simp only [List.Forall, StableHlo.unary_bufs]
    constructor <;> decide
  intro ops hops op hop
  rw [List.mem_singleton] at hops
  subst hops
  exact Pipeline.sub_tailRefs _ _ op ((List.forall_iff_forall_mem.mp hostOps1_sub) op hop) ((List.forall_iff_forall_mem.mp h) op hop)

theorem sfx_fresh : ∀ ops ∈ [hostOps1 (F := F)], ∀ op ∈ ops, op.fresh = ∅ := by
  intro ops hops op hop
  rw [List.mem_singleton] at hops
  subst hops
  have h : (hostOps1 (F := F)).Forall fun op => op.fresh = ∅ := ⟨rfl, rfl⟩
  exact (List.forall_iff_forall_mem.mp h) op hop

theorem sfx_keeps : ∀ ops ∈ [hostOps1 (F := F)], ∀ op ∈ ops, ∀ w, Proc.devRef .tc (Pipeline.arrRef (Cf m).spec w) ∉ op.writes := by
  intro ops hops op hop
  rw [List.mem_singleton] at hops
  subst hops
  have h : (hostOps1 (F := F)).Forall fun op => ∀ w : Fin 6, Proc.devRef .tc (Pipeline.arrRef spec0 w) ∉ op.writes := by
    simp only [List.Forall, StableHlo.unary_writes, Finset.mem_singleton]
    constructor <;> decide
  exact (List.forall_iff_forall_mem.mp h) op hop

/-- The host buffers written after the region: the two results. -/
def written : Finset (Ref sig .tc) := {main_v25, main_v26}

theorem sfx_writes : ∀ ops ∈ [hostOps1 (F := F)], ∀ op ∈ ops, ∀ b : Ref sig .tc, Proc.devRef .tc b ∈ op.writes → b ∈ written := by
  intro ops hops op hop
  rw [List.mem_singleton] at hops
  subst hops
  have h : (hostOps1 (F := F)).Forall fun op => ∀ b : Ref sig .tc, Proc.devRef .tc b ∈ op.writes → b ∈ written := by
    simp only [List.Forall, StableHlo.unary_writes, Finset.mem_singleton]
    constructor
    · intro b hb; rw [Proc.devRef_injective _ hb]; decide
    · intro b hb; rw [Proc.devRef_injective _ hb]; decide
  exact (List.forall_iff_forall_mem.mp h) op hop

theorem hostOps0_fresh : [hostOps0 (F := F)].Forall fun ops => ops.Forall fun op => op.fresh = ∅ := by
  simp only [List.Forall]
  repeat' constructor

theorem hmain : Pipeline.HMainPK (Ix := Unit) (Name := ℕ) (U := UR sig nD τ) (Lvl := ℕ) (pcfgs (F := F)) 0 defs₀ Variants.none m main
    (fun c b => entry m c (Proc.devRef .tc b)) (fun _ => Pipeline.chain ([hostOps1 (F := F)].map StableHlo.seq)) := by
  have h := Pipeline.hmainP_around (Ix := Unit) (Name := ℕ) (U := UR sig nD τ) (Lvl := ℕ) (pcfgs (F := F)) 0 defs₀ Variants.none m main
    [hostOps0] [hostOps1] (by simpa only [List.Forall] using hostOps0_sub) hostOps0_fresh (fun c => main_chain c)
  exact h

theorem dev_eq (c : Dev nD) : c = 0 := Subsingleton.elim _ _

theorem tbl_entry (c : Dev nD) (k : Fin (pcfgs (F := F) 0).pre.K) :
    entry m c (Proc.devRef .tc ((pcfgs (F := F) 0).pre.ref k)) = ((adm m 0).1 k) := by
  rw [dev_eq c]
  match k with
  | 0 => rfl

set_option maxHeartbeats 1000000 in
/-- From every memory the program runs to its end; its arguments end unchanged, its semaphores at zero. -/
theorem frame_run (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  let Y : (c : Dev nD) → (w : Fin (Cf m).W) → (t : Fin (Cf m).N) → ((Cf m).win w).block.Idx → Elt F ((Cf m).win w).elt :=
    fun c w t => entryBlock m c w t
  refine Pipeline.θ_run_frameP_around_T_forget (pcfgs (F := F)) (adm m) (datsOf m Y) (0 : Fin 1) launch0 defs₀ Variants.none (outs m) written m g main
    (hbody := fun c => body_forget m Y c) (hshare := fun c w => ?_) (howed := fun _ _ => rfl) (V₀ := entry m) (opss := [hostOps1])
    (hsub := sfx_sub m) (hfresh := sfx_fresh) (hkeep := sfx_keeps m) (hT := sfx_writes)
    (hmain := hmain m) (hA := fun _ _ => rfl) (hpf := tbl_entry m) (hΦ := fun _ _ => rfl) (Q' := _) (hQ' := ?_)
  · unfold Dat.share
    split <;> rfl
  · rintro r ⟨h, hs⟩
    refine ⟨fun c => ?_, hs⟩
    have key : ∀ b : Ref sig .tc, b ∈ Pipeline.restRefs sig spec0 \ written → (b = main_arg0 ∨ b = main_arg1 ∨ b = main_arg2 ∨ b = main_arg3) →
        r.2.mem ((c.tc : Thread nD τ).loc b) = m ((c.tc : Thread nD τ).loc b) :=
      fun b hb hb' => ((h c).2 b hb).trans (entry_arg m c b hb')
    exact ⟨key _ (by decide) (.inl rfl), key _ (by decide) (.inr (.inl rfl)), key _ (by decide) (.inr (.inr (.inl rfl))),
      key _ (by decide) (.inr (.inr (.inr rfl)))⟩

end Cert.Kernel.Body

end
-- ==== Proof.Pieces.lean ====
/- Where the pieces of the buffers lie: what each store of the kernel leaves in its buffer, at every index of the buffer. -/
module

public import proofs.«01_k».proof.Proof.Column
public import Idealize.ShloMosaic.Lib.Pointwise

@[expose] public section

set_option maxRecDepth 16384

noncomputable section

namespace Cert.KernelIdeal.Body

open Idealize.ShloMosaic Idealize.ShloMosaic.Pointwise Cert.KernelIdeal Cert.KernelIdeal.Gen Cert.Steps

/-- A rectangle's contents at the index of one of its places. -/
theorem upd_in {s : Shape} {A : Type} (r : Rect s) (w : r.shape.Idx → A) (X : s.Idx → A) (y : s.Idx) (x : r.shape.Idx)
    (hx : ∀ a, r.off a + r.stride a * (x a).val = (y a).val) : upd r w X y = w x := by
  have h : r.emb x = y := by
    funext a
    exact Fin.ext (hx a)
  rw [← h, upd_emb]

/-- Off the rectangle the old contents stay. -/
theorem upd_out {s : Shape} {A : Type} (r : Rect s) (w : r.shape.Idx → A) (X : s.Idx → A) (y : s.Idx) (a : Fin s.rank)
    (hx : ∀ x : r.shape.Idx, r.off a + r.stride a * (x a).val ≠ (y a).val) : upd r w X y = X y :=
  upd_of_forall_ne r w X y fun x h => hx x (congrArg (fun z : s.Idx => (z a).val) h)

variable {A : Type} (k : Fin k0_t1_loop.trips)

/-- Lane of a token in its column. -/
abbrev lane (n : Fin 512) : Fin 128 := ⟨n.val % 128, Nat.mod_lt _ (by decide)⟩

theorem upd_codes (h : Fin 32) (w : S1x1x96x128.Idx → A) (X : S1x32x96x512.Idx → A) (y1 : Fin 32) (y2 : Fin 96) (y3 : Fin 512) :
    upd (codesRect k h) w X (ix4 0 y1 y2 y3) = if y1 = h ∧ y3.val / 128 = k.val then w (ix4 0 0 y2 (lane y3)) else X (ix4 0 y1 y2 y3) := by
  obtain ⟨hc, hk⟩ := col_eq k
  split
  · rename_i hy
    obtain ⟨rfl, h3⟩ := hy
    refine upd_in (codesRect k y1) w X _ (ix4 0 0 y2 (lane y3) : S1x1x96x128.Idx) fun a => ?_
    fin_cases a
    · rfl
    · show y1.val + 1 * 0 = y1.val; omega
    · show 0 + 1 * y2.val = y2.val; omega
    · show col k + 1 * (y3.val % 128) = y3.val; omega
  · rename_i hn
    by_cases h1 : y1 = h
    · refine upd_out _ _ _ _ (3 : Fin 4) fun x => ?_
      have hx : (x (3 : Fin 4)).val < 128 := (x (3 : Fin 4)).isLt
      show col k + 1 * (x (3 : Fin 4)).val ≠ y3.val
      have : ¬ y3.val / 128 = k.val := fun h3 => hn ⟨h1, h3⟩
      omega
    · refine upd_out _ _ _ _ (1 : Fin 4) fun x => ?_
      have hx : (x (1 : Fin 4)).val < 1 := (x (1 : Fin 4)).isLt
      show h.val + 1 * (x (1 : Fin 4)).val ≠ y1.val
      have : y1.val ≠ h.val := fun h' => h1 (Fin.ext h')
      omega

theorem upd_scale (g : Fin 4) (w : S1x8x128.Idx → A) (X : S1x32x512.Idx → A) (y1 : Fin 32) (y2 : Fin 512) :
    upd (scaleRect k g) w X (ix3 0 y1 y2)
      = if y1.val / 8 = g.val ∧ y2.val / 128 = k.val then w (ix3 0 ⟨y1.val % 8, Nat.mod_lt _ (by decide)⟩ (lane y2)) else X (ix3 0 y1 y2) := by
  obtain ⟨hc, hk⟩ := col_eq k
  split
  · rename_i h
    obtain ⟨h1, h2⟩ := h
    refine upd_in (scaleRect k g) w X _ (ix3 0 ⟨y1.val % 8, Nat.mod_lt _ (by decide)⟩ (lane y2) : S1x8x128.Idx) fun a => ?_
    fin_cases a
    · rfl
    · show g.val * 8 + 1 * (y1.val % 8) = y1.val; omega
    · show col k + 1 * (y2.val % 128) = y2.val; omega
  · rename_i hn
    by_cases h1 : y1.val / 8 = g.val
    · refine upd_out _ _ _ _ (2 : Fin 3) fun x => ?_
      have hx : (x (2 : Fin 3)).val < 128 := (x (2 : Fin 3)).isLt
      show col k + 1 * (x (2 : Fin 3)).val ≠ y2.val
      have : ¬ y2.val / 128 = k.val := fun h3 => hn ⟨h1, h3⟩
      omega
    · refine upd_out _ _ _ _ (1 : Fin 3) fun x => ?_
      have hx : (x (1 : Fin 3)).val < 8 := (x (1 : Fin 3)).isLt
      show g.val * 8 + 1 * (x (1 : Fin 3)).val ≠ y1.val
      omega

theorem upd_turn (h : Fin 32) (e : Fin 2) (w : S1x1x48x128.Idx → A) (X : S32x2x48x128.Idx → A) (y0 : Fin 32) (y1 : Fin 2) (y2 : Fin 48) (y3 : Fin 128) :
    upd (turnRect h e) w X (ix4 y0 y1 y2 y3) = if y0 = h ∧ y1 = e then w (ix4 0 0 y2 y3) else X (ix4 y0 y1 y2 y3) := by
  split
  · rename_i h
    obtain ⟨rfl, rfl⟩ := h
    refine upd_in (turnRect y0 y1) w X _ (ix4 0 0 y2 y3 : S1x1x48x128.Idx) fun a => ?_
    fin_cases a
    · show y0.val + 1 * 0 = y0.val; omega
    · show y1.val + 1 * 0 = y1.val; omega
    · show 0 + 1 * y2.val = y2.val; omega
    · show 0 + 1 * y3.val = y3.val; omega
  · rename_i hn
    by_cases h1 : y0 = h
    · refine upd_out _ _ _ _ (1 : Fin 4) fun x => ?_
      have hx : (x (1 : Fin 4)).val < 1 := (x (1 : Fin 4)).isLt
      show e.val + 1 * (x (1 : Fin 4)).val ≠ y1.val
      have : ¬ y1.val = e.val := fun h3 => hn ⟨h1, Fin.ext h3⟩
      omega
    · refine upd_out _ _ _ _ (0 : Fin 4) fun x => ?_
      have hx : (x (0 : Fin 4)).val < 1 := (x (0 : Fin 4)).isLt
      show h.val + 1 * (x (0 : Fin 4)).val ≠ y0.val
      have : y0.val ≠ h.val := fun h' => h1 (Fin.ext h')
      omega

theorem upd_slab (g : Fin 4) (i : Fin 8) (w : S1x8x128.Idx → A) (X : S4x72x128.Idx → A) (y0 : Fin 4) (y1 : Fin 72) (y2 : Fin 128) :
    upd (slabRow g i) w X (ix3 y0 y1 y2)
      = if y0 = g ∧ y1.val % 9 = i.val then w (ix3 0 ⟨y1.val / 9, by omega⟩ y2) else X (ix3 y0 y1 y2) := by
  split
  · rename_i h
    obtain ⟨rfl, h1⟩ := h
    refine upd_in (slabRow y0 i) w X _ (ix3 0 ⟨y1.val / 9, by omega⟩ y2 : S1x8x128.Idx) fun a => ?_
    fin_cases a
    · show y0.val + 1 * 0 = y0.val; omega
    · show i.val + 9 * (y1.val / 9) = y1.val; omega
    · show 0 + 1 * y2.val = y2.val; omega
  · rename_i hn
    by_cases h1 : y0 = g
    · refine upd_out _ _ _ _ (1 : Fin 3) fun x => ?_
      have hx : (x (1 : Fin 3)).val < 8 := (x (1 : Fin 3)).isLt
      show i.val + 9 * (x (1 : Fin 3)).val ≠ y1.val
      have : ¬ y1.val % 9 = i.val := fun h3 => hn ⟨h1, h3⟩
      omega
    · refine upd_out _ _ _ _ (0 : Fin 3) fun x => ?_
      have hx : (x (0 : Fin 3)).val < 1 := (x (0 : Fin 3)).isLt
      show g.val + 1 * (x (0 : Fin 3)).val ≠ y0.val
      have : y0.val ≠ g.val := fun h' => h1 (Fin.ext h')
      omega

theorem upd_factor (g : Fin 4) (w : S8x128.Idx → A) (X : S32x128.Idx → A) (y0 : Fin 32) (y1 : Fin 128) :
    upd (factorRect g) w X (ix2 y0 y1)
      = if y0.val / 8 = g.val then w (ix2 ⟨y0.val % 8, Nat.mod_lt _ (by decide)⟩ y1) else X (ix2 y0 y1) := by
  split
  · rename_i h
    refine upd_in (factorRect g) w X _ (ix2 ⟨y0.val % 8, Nat.mod_lt _ (by decide)⟩ y1 : S8x128.Idx) fun a => ?_
    fin_cases a
    · show g.val * 8 + 1 * (y0.val % 8) = y0.val; omega
    · show 0 + 1 * y1.val = y1.val; omega
  · rename_i hn
    refine upd_out _ _ _ _ (0 : Fin 2) fun x => ?_
    have hx : (x (0 : Fin 2)).val < 8 := (x (0 : Fin 2)).isLt
    show g.val * 8 + 1 * (x (0 : Fin 2)).val ≠ y0.val
    omega

theorem deadOff_eq : ∀ k : Fin k0_t1_loop.trips, k0_off38 k = ![0, 0, 0, 128 * k.val] ∧ k0_off39 k = ![0, 0, 128 * k.val] := by decide +kernel

theorem upd_deadCodes (w : S1x32x96x128.Idx → A) (X : S1x32x96x512.Idx → A) (y1 : Fin 32) (y2 : Fin 96) (y3 : Fin 512) :
    upd (deadCodes k) w X (ix4 0 y1 y2 y3) = if y3.val / 128 = k.val then w (ix4 0 y1 y2 (lane y3)) else X (ix4 0 y1 y2 y3) := by
  obtain ⟨hc, hk⟩ := col_eq k
  have ho := (deadOff_eq k).1
  split
  · rename_i h
    refine upd_in (deadCodes k) w X _ (ix4 0 y1 y2 (lane y3) : S1x32x96x128.Idx) fun a => ?_
    show k0_off38 k a + _ = _
    rw [ho]
    fin_cases a
    · rfl
    · show 0 + 1 * y1.val = y1.val; omega
    · show 0 + 1 * y2.val = y2.val; omega
    · show 128 * k.val + 1 * (y3.val % 128) = y3.val; omega
  · rename_i hn
    refine upd_out _ _ _ _ (3 : Fin 4) fun x => ?_
    have hx : (x (3 : Fin 4)).val < 128 := (x (3 : Fin 4)).isLt
    show k0_off38 k (3 : Fin 4) + 1 * (x (3 : Fin 4)).val ≠ y3.val
    rw [ho]
    show 128 * k.val + 1 * (x (3 : Fin 4)).val ≠ y3.val
    omega

theorem upd_deadScale (w : S1x32x128.Idx → A) (X : S1x32x512.Idx → A) (y1 : Fin 32) (y2 : Fin 512) :
    upd (deadScale k) w X (ix3 0 y1 y2) = if y2.val / 128 = k.val then w (ix3 0 y1 (lane y2)) else X (ix3 0 y1 y2) := by
  obtain ⟨hc, hk⟩ := col_eq k
  have ho := (deadOff_eq k).2
  split
  · rename_i h
    refine upd_in (deadScale k) w X _ (ix3 0 y1 (lane y2) : S1x32x128.Idx) fun a => ?_
    show k0_off39 k a + _ = _
    rw [ho]
    fin_cases a
    · rfl
    · show 0 + 1 * y1.val = y1.val; omega
    · show 128 * k.val + 1 * (y2.val % 128) = y2.val; omega
  · rename_i hn
    refine upd_out _ _ _ _ (2 : Fin 3) fun x => ?_
    have hx : (x (2 : Fin 3)).val < 128 := (x (2 : Fin 3)).isLt
    show k0_off39 k (2 : Fin 3) + 1 * (x (2 : Fin 3)).val ≠ y2.val
    rw [ho]
    show 128 * k.val + 1 * (x (2 : Fin 3)).val ≠ y2.val
    omega

end Cert.KernelIdeal.Body

end
-- ==== Proof.Block.lean ====
/- What the columns of one block leave in the two outputs, at every index, as functions of what the block reads: the stores of the heads and
   groups lie apart, so each index holds what the one store that reaches it put there. -/
module

public import proofs.«01_k».proof.Proof.Pieces
public import proofs.«01_k».proof.Proof.Launch

@[expose] public section

set_option maxRecDepth 16384

noncomputable section

namespace Cert.KernelIdeal.Body

open Idealize.ShloMosaic Idealize.ShloMosaic.Pointwise Cert.KernelIdeal Cert.KernelIdeal.Gen Cert.Steps

variable {F : FTy → Type} [FloatOps F]

/-- A fold each of whose steps either puts `T` in one place or leaves it. -/
theorem foldl_put {ι S A : Type} (f : S → ι → S) (get : S → A) (Inv : S → Prop) (D : ι → Prop) (T : A)
    (hI : ∀ σ i, Inv σ → Inv (f σ i)) (h1 : ∀ σ i, Inv σ → D i → get (f σ i) = T) (h0 : ∀ σ i, Inv σ → ¬ D i → get (f σ i) = get σ)
    (l : List ι) (σ : S) (hσ : Inv σ) :
    ((∃ i ∈ l, D i) → get (l.foldl f σ) = T) ∧ ((¬ ∃ i ∈ l, D i) → get (l.foldl f σ) = get σ) := by
  induction l generalizing σ with
  | nil => exact ⟨fun ⟨i, h, _⟩ => absurd h (List.not_mem_nil), fun _ => rfl⟩
  | cons a l ih =>
    obtain ⟨i1, i0⟩ := ih (f σ a) (hI σ a hσ)
    rw [List.foldl_cons]
    by_cases hl : ∃ i ∈ l, D i
    · refine ⟨fun _ => i1 hl, fun hn => absurd ?_ hn⟩
      obtain ⟨i, hi, hd⟩ := hl
      exact ⟨i, List.mem_cons_of_mem _ hi, hd⟩
    · by_cases hd : D a
      · exact ⟨fun _ => (i0 hl).trans (h1 σ a hσ hd), fun hn => absurd ⟨a, List.mem_cons_self, hd⟩ hn⟩
      · refine ⟨fun ⟨i, hi, hd'⟩ => ?_, fun _ => (i0 hl).trans (h0 σ a hσ hd)⟩
        rcases List.mem_cons.1 hi with rfl | hi
        · exact absurd hd' hd
        · exact absurd ⟨i, hi, hd'⟩ hl

theorem mem_eight : ∀ i : Fin 8, i ∈ eight := by decide
theorem mem_four : ∀ g : Fin 4, g ∈ four := by decide

/-! ## The values -/

variable (k : Fin k0_t1_loop.trips)

/-- The group of a head. -/
abbrev groupOf (h : Fin 32) : Fin 4 := ⟨h.val / 8, by omega⟩
/-- The place of a head in its group. -/
abbrev placeOf (h : Fin 32) : Fin 8 := ⟨h.val % 8, Nat.mod_lt _ (by decide)⟩

theorem head_group_place (h : Fin 32) : head (groupOf h) (placeOf h) = h := Fin.ext (by show h.val / 8 * 8 + h.val % 8 = h.val; omega)

/-- The peaks of the eight heads of group `g`: row `i` of the `j`-th array holds head `i`'s peak over the pairs `j`, `j + 8`, …. -/
def peaks (σ : St F) (g : Fin 4) : Fin 8 → Vec F S1x8x128 .f32 :=
  fun j x => headPeak (σ.v k (head g (x (1 : Fin 3)))) σ.c σ.s (ix2 j (x (2 : Fin 3)))

/-- Head `h`'s new scale at lane `l`. -/
def scaleAt (σ : St F) (live : BitVec 32) (h : Fin 32) (l : Fin 128) : Elt F .f32 :=
  newScale live (peaks k σ (groupOf h)) (σ.a k (groupOf h)) (ix2 (placeOf h) l)

/-- Head `h`'s factor, one row repeated eight times. -/
def factorOf (σ : St F) (live : BitVec 32) (h : Fin 32) : Vec F S8x128 .f32 :=
  fun x => ratio live (peaks k σ (groupOf h)) (σ.a k (groupOf h)) (ix2 (placeOf h) (x (1 : Fin 2)))

/-- Head `h`'s turned even codes. -/
def evenOf (σ : St F) (h : Fin 32) : Vec F S1x1x48x128 .f32 := fun x => turnEven (σ.v k h) σ.c σ.s (ix2 (x (2 : Fin 4)) (x (3 : Fin 4)))
/-- Head `h`'s turned odd codes. -/
def oddOf (σ : St F) (h : Fin 32) : Vec F S1x1x48x128 .f32 := fun x => turnOdd (σ.v k h) σ.c σ.s (ix2 (x (2 : Fin 4)) (x (3 : Fin 4)))

/-- Head `h`'s new code at coordinate `d` and lane `l`. -/
def codeAt (σ : St F) (live : BitVec 32) (h : Fin 32) (d : Fin 96) (l : Fin 128) : Elt F .i8 :=
  newCodes (factorOf k σ live h) (evenOf k σ h) (oddOf k σ h) (ix4 0 0 d l)

/-- The values depend on what the block reads only. -/
theorem values_congr {σ τ : St F} (h : σ.inputs = τ.inputs) :
    peaks k σ = peaks k τ ∧ scaleAt k σ = scaleAt k τ ∧ factorOf k σ = factorOf k τ ∧ evenOf k σ = evenOf k τ ∧ oddOf k σ = oddOf k τ
      ∧ codeAt k σ = codeAt k τ ∧ St.a k σ = St.a k τ := by
  have hc : σ.cos = τ.cos := congrArg (fun x => x.1) h
  have hs : σ.sin = τ.sin := congrArg (fun x => x.2.1) h
  have hk : σ.codes = τ.codes := congrArg (fun x => x.2.2.1) h
  have ha : σ.scale = τ.scale := congrArg (fun x => x.2.2.2) h
  have hV : St.v k σ = St.v k τ := by funext h; unfold St.v; rw [hk]
  have hC : St.c σ = St.c τ := by unfold St.c; rw [hc]
  have hS : St.s σ = St.s τ := by unfold St.s; rw [hs]
  have hA : St.a k σ = St.a k τ := by funext g; unfold St.a; rw [ha]
  have hP : peaks k σ = peaks k τ := by funext g; unfold peaks; rw [hV, hC, hS]
  have hF : factorOf k σ = factorOf k τ := by funext l h; unfold factorOf; rw [hP, hA]
  have hE : evenOf k σ = evenOf k τ := by funext h; unfold evenOf; rw [hV, hC, hS]
  have hO : oddOf k σ = oddOf k τ := by funext h; unfold oddOf; rw [hV, hC, hS]
  exact ⟨hP, by funext l h x; unfold scaleAt; rw [hP, hA], hF, hE, hO, by funext l h d x; unfold codeAt; rw [hF, hE, hO], hA⟩

/-! ## One head turned -/

theorem rotF_turned (g : Fin 4) (i : Fin 8) (σ : St F) : (rotF k g i σ).turned =
    upd (turnRect (head g i) 1) (shapeCast S1x1x48x128 (turnOdd (σ.v k (head g i)) σ.c σ.s) shapeCasts_S48x128_S1x1x48x128)
      (upd (turnRect (head g i) 0) (shapeCast S1x1x48x128 (turnEven (σ.v k (head g i)) σ.c σ.s) shapeCasts_S48x128_S1x1x48x128) σ.turned) := by
  unfold rotF; dsimp only

theorem rotF_slab (g : Fin 4) (i : Fin 8) (σ : St F) : (rotF k g i σ).slab =
    upd (slabRow g i) (shapeCast S1x8x128 (headPeak (σ.v k (head g i)) σ.c σ.s) shapeCasts_S8x128_S1x8x128) σ.slab := by
  unfold rotF; dsimp only

theorem cast_pairs (w : FVec F S48x128 .f32) (p : Fin 48) (l : Fin 128) :
    shapeCast S1x1x48x128 w shapeCasts_S48x128_S1x1x48x128 (ix4 0 0 p l) = w (ix2 p l) := by pointwise

theorem cast_rows (w : FVec F S8x128 .f32) (p : Fin 8) (l : Fin 128) :
    shapeCast S1x8x128 w shapeCasts_S8x128_S1x8x128 (ix3 0 p l) = w (ix2 p l) := by pointwise

theorem rot_even (g : Fin 4) (i : Fin 8) (σ : St F) (h : Fin 32) (p : Fin 48) (l : Fin 128) :
    (rotF k g i σ).turned (ix4 h 0 p l) = if h = head g i then evenOf k σ h (ix4 0 0 p l) else σ.turned (ix4 h 0 p l) := by
  rw [rotF_turned, upd_turn, if_neg (fun h => absurd h.2 (by decide)), upd_turn]
  by_cases hh : h = head g i
  · subst hh
    rw [if_pos ⟨rfl, rfl⟩, if_pos rfl, cast_pairs]; rfl
  · rw [if_neg (fun h => hh h.1), if_neg hh]

theorem rot_odd (g : Fin 4) (i : Fin 8) (σ : St F) (h : Fin 32) (p : Fin 48) (l : Fin 128) :
    (rotF k g i σ).turned (ix4 h 1 p l) = if h = head g i then oddOf k σ h (ix4 0 0 p l) else σ.turned (ix4 h 1 p l) := by
  rw [rotF_turned, upd_turn]
  by_cases hh : h = head g i
  · subst hh
    rw [if_pos ⟨rfl, rfl⟩, if_pos rfl, cast_pairs]; rfl
  · rw [if_neg (fun h => hh h.1), if_neg hh, upd_turn, if_neg (fun h => absurd h.2 (by decide))]

theorem rot_slab (g : Fin 4) (i : Fin 8) (σ : St F) (r : Fin 72) (l : Fin 128) :
    (rotF k g i σ).slab (ix3 g r l) = if r.val % 9 = i.val then headPeak (σ.v k (head g i)) σ.c σ.s (ix2 ⟨r.val / 9, by omega⟩ l) else σ.slab (ix3 g r l) := by
  rw [rotF_slab, upd_slab]
  by_cases hh : r.val % 9 = i.val
  · rw [if_pos ⟨rfl, hh⟩, if_pos hh, cast_rows]
  · rw [if_neg (fun h => hh h.2), if_neg hh]

/-- Eight heads turned. -/
def rots (g : Fin 4) (σ : St F) : St F := eight.foldl (fun σ i => rotF k g i σ) σ

theorem rots_inputs (g : Fin 4) (σ : St F) : (rots k g σ).inputs = σ.inputs :=
  foldl_inputs (fun σ i => rotF k g i σ) (fun σ i => rotF_inputs k g i σ) eight σ

theorem rots_even (g : Fin 4) (σ : St F) (i : Fin 8) (p : Fin 48) (l : Fin 128) :
    (rots k g σ).turned (ix4 (head g i) 0 p l) = evenOf k σ (head g i) (ix4 0 0 p l) := by
  refine (foldl_put (fun σ i => rotF k g i σ) (fun τ => τ.turned (ix4 (head g i) 0 p l)) (fun τ => τ.inputs = σ.inputs)
    (fun j => head g i = head g j) (evenOf k σ (head g i) (ix4 0 0 p l)) (fun τ j h => (rotF_inputs k g j τ).trans h)
    (fun τ j h hd => ?_) (fun τ j h hd => ?_) eight σ rfl).1 ⟨i, mem_eight i, rfl⟩
  · rw [rot_even, if_pos hd, (values_congr k h).2.2.2.1]
  · rw [rot_even, if_neg hd]

theorem rots_odd (g : Fin 4) (σ : St F) (i : Fin 8) (p : Fin 48) (l : Fin 128) :
    (rots k g σ).turned (ix4 (head g i) 1 p l) = oddOf k σ (head g i) (ix4 0 0 p l) := by
  refine (foldl_put (fun σ i => rotF k g i σ) (fun τ => τ.turned (ix4 (head g i) 1 p l)) (fun τ => τ.inputs = σ.inputs)
    (fun j => head g i = head g j) (oddOf k σ (head g i) (ix4 0 0 p l)) (fun τ j h => (rotF_inputs k g j τ).trans h)
    (fun τ j h hd => ?_) (fun τ j h hd => ?_) eight σ rfl).1 ⟨i, mem_eight i, rfl⟩
  · rw [rot_odd, if_pos hd, (values_congr k h).2.2.2.2.1]
  · rw [rot_odd, if_neg hd]

theorem rots_slab (g : Fin 4) (σ : St F) (i j : Fin 8) (l : Fin 128) :
    (rots k g σ).slab (ix3 g ⟨9 * j.val + i.val, by omega⟩ l) = peaks k σ g j (ix3 0 i l) := by
  refine (foldl_put (fun σ i => rotF k g i σ) (fun τ => τ.slab (ix3 g ⟨9 * j.val + i.val, by omega⟩ l)) (fun τ => τ.inputs = σ.inputs)
    (fun n => i = n) (peaks k σ g j (ix3 0 i l)) (fun τ n h => (rotF_inputs k g n τ).trans h)
    (fun τ n h hd => ?_) (fun τ n h hd => ?_) eight σ rfl).1 ⟨i, mem_eight i, rfl⟩
  · subst hd
    have e : (9 * j.val + i.val) % 9 = i.val := by omega
    rw [rot_slab, if_pos e, ← (values_congr k h).1]
    show headPeak _ _ _ (ix2 _ _) = headPeak _ _ _ (ix2 _ _)
    congr 2
    exact Fin.ext (by show (9 * j.val + i.val) / 9 = j.val; omega)
  · rw [rot_slab, if_neg]
    show ¬ (9 * j.val + i.val) % 9 = n.val
    intro h
    exact hd (Fin.ext (by omega))

theorem rots_p (g : Fin 4) (σ : St F) : (rots k g σ).p g = peaks k σ g := by
  funext j x
  have e : (rots k g σ).p g j x = (rots k g σ).slab ((slabRows g j).toLoadRect.idx x) := by
    fin_cases j <;> rfl
  rw [e]
  have hx : x = ix3 0 (x (1 : Fin 3)) (x (2 : Fin 3)) := by
    conv_lhs => rw [eq_ix3 x]
    congr 1
    exact Subsingleton.elim (α := Fin 1) _ _
  have hi : (slabRows g j).toLoadRect.idx x = ix3 g ⟨9 * j.val + (x (1 : Fin 3)).val, by have : (x (1 : Fin 3)).val < 8 := (x (1 : Fin 3)).isLt; omega⟩ (x (2 : Fin 3)) := by
    funext a
    have h0 : (x (0 : Fin 3)).val < 1 := (x (0 : Fin 3)).isLt
    fin_cases a
    · exact Fin.ext (by show g.val + 1 * (x (0 : Fin 3)).val = g.val; omega)
    · exact Fin.ext (by show 9 * j.val + 1 * (x (1 : Fin 3)).val = 9 * j.val + (x (1 : Fin 3)).val; omega)
    · exact Fin.ext (by show 0 + 1 * (x (2 : Fin 3)).val = (x (2 : Fin 3)).val; omega)
  exact (congrArg (rots k g σ).slab hi).trans ((rots_slab k g σ (x (1 : Fin 3)) j (x (2 : Fin 3))).trans (congrArg (peaks k σ g j) hx.symm))

/-! ## One group -/

theorem scalesF_outScale (live : BitVec 32) (g : Fin 4) (σ : St F) : (scalesF k live g σ).outScale =
    upd (scaleRect k g) (shapeCast S1x8x128 (newScale live (σ.p g) (σ.a k g)) shapeCasts_S8x128_S1x8x128) σ.outScale := by
  unfold scalesF; dsimp only
theorem scalesF_factor (live : BitVec 32) (g : Fin 4) (σ : St F) : (scalesF k live g σ).factor =
    upd (factorRect g) (shapeCast S8x128 (ratio live (σ.p g) (σ.a k g)) shapeCasts_S8x128_S8x128) σ.factor := by
  unfold scalesF; dsimp only
theorem scalesF_turned (live : BitVec 32) (g : Fin 4) (σ : St F) : (scalesF k live g σ).turned = σ.turned := by
  unfold scalesF; dsimp only
theorem scalesF_outCodes (live : BitVec 32) (g : Fin 4) (σ : St F) : (scalesF k live g σ).outCodes = σ.outCodes := by
  unfold scalesF; dsimp only
theorem quantF_outCodes (g : Fin 4) (i : Fin 8) (σ : St F) : (quantF k g i σ).outCodes =
    upd (codesRect k (head g i)) (newCodes (σ.r (head g i)) (σ.y (head g i) 0) (σ.y (head g i) 1)) σ.outCodes := by
  unfold quantF; dsimp only
theorem quantF_outScale (g : Fin 4) (i : Fin 8) (σ : St F) : (quantF k g i σ).outScale = σ.outScale := by
  unfold quantF; dsimp only
theorem quantF_turned (g : Fin 4) (i : Fin 8) (σ : St F) : (quantF k g i σ).turned = σ.turned := by
  unfold quantF; dsimp only
theorem quantF_factor (g : Fin 4) (i : Fin 8) (σ : St F) : (quantF k g i σ).factor = σ.factor := by
  unfold quantF; dsimp only
theorem rotF_outCodes (g : Fin 4) (i : Fin 8) (σ : St F) : (rotF k g i σ).outCodes = σ.outCodes := by
  unfold rotF; dsimp only
theorem rotF_outScale (g : Fin 4) (i : Fin 8) (σ : St F) : (rotF k g i σ).outScale = σ.outScale := by
  unfold rotF; dsimp only

theorem foldl_same {ι S A : Type} (f : S → ι → S) (get : S → A) (h : ∀ σ i, get (f σ i) = get σ) (l : List ι) (σ : S) :
    get (l.foldl f σ) = get σ := by
  induction l generalizing σ with
  | nil => rfl
  | cons a l ih => rw [List.foldl_cons, ih, h]

theorem rots_outCodes (g : Fin 4) (σ : St F) : (rots k g σ).outCodes = σ.outCodes :=
  foldl_same (fun σ i => rotF k g i σ) St.outCodes (fun σ i => rotF_outCodes k g i σ) eight σ
theorem rots_outScale (g : Fin 4) (σ : St F) : (rots k g σ).outScale = σ.outScale :=
  foldl_same (fun σ i => rotF k g i σ) St.outScale (fun σ i => rotF_outScale k g i σ) eight σ

theorem cast_same (w : FVec F S8x128 .f32) (p : Fin 8) (l : Fin 128) :
    shapeCast S8x128 w shapeCasts_S8x128_S8x128 (ix2 p l) = w (ix2 p l) := by pointwise

/-- The state with the group's factors formed: what requantising its heads reads. -/
structure Ready (live : BitVec 32) (g : Fin 4) (σ₀ σ : St F) : Prop where
  inputs : σ.inputs = σ₀.inputs
  even : ∀ i p l, σ.turned (ix4 (head g i) 0 p l) = evenOf k σ₀ (head g i) (ix4 0 0 p l)
  odd : ∀ i p l, σ.turned (ix4 (head g i) 1 p l) = oddOf k σ₀ (head g i) (ix4 0 0 p l)
  factor : ∀ (i : Fin 8) (n : Fin 8) l, σ.factor (ix2 (head g i) l) = factorOf k σ₀ live (head g i) (ix2 n l)

theorem group_head (g : Fin 4) (i : Fin 8) : groupOf (head g i) = g ∧ placeOf (head g i) = i :=
  ⟨Fin.ext (by show (g.val * 8 + i.val) / 8 = g.val; omega), Fin.ext (by show (g.val * 8 + i.val) % 8 = i.val; omega)⟩

theorem ready (live : BitVec 32) (g : Fin 4) (σ : St F) : Ready k live g σ (scalesF k live g (rots k g σ)) where
  inputs := (scalesF_inputs k live g _).trans (rots_inputs k g σ)
  even i p l := by rw [scalesF_turned, rots_even]
  odd i p l := by rw [scalesF_turned, rots_odd]
  factor i n l := by
    have e : (head g i).val / 8 = g.val := congrArg Fin.val (group_head g i).1
    rw [scalesF_factor, upd_factor, if_pos e, cast_same, rots_p, (values_congr k (rots_inputs k g σ)).2.2.2.2.2.2]
    show _ = ratio live (peaks k σ (groupOf (head g i))) (σ.a k (groupOf (head g i))) (ix2 (placeOf (head g i)) l)
    rw [(group_head g i).1]

theorem Ready.quant {live : BitVec 32} {g : Fin 4} {σ₀ σ : St F} (h : Ready k live g σ₀ σ) (i : Fin 8) : Ready k live g σ₀ (quantF k g i σ) where
  inputs := (quantF_inputs k g i σ).trans h.inputs
  even n p l := by rw [quantF_turned, h.even]
  odd n p l := by rw [quantF_turned, h.odd]
  factor n p l := by rw [quantF_factor, h.factor n p]

/-- What requantising head `i` of a ready group writes. -/
theorem Ready.codes {live : BitVec 32} {g : Fin 4} {σ₀ σ : St F} (h : Ready k live g σ₀ σ) (i : Fin 8) :
    newCodes (σ.r (head g i)) (σ.y (head g i) 0) (σ.y (head g i) 1)
      = newCodes (factorOf k σ₀ live (head g i)) (evenOf k σ₀ (head g i)) (oddOf k σ₀ (head g i)) := by
  have hr : σ.r (head g i) = factorOf k σ₀ live (head g i) := by
    funext x
    have hi : (factorRow (head g i)).idx x = ix2 (head g i) (x (1 : Fin 2)) := by
      funext a
      fin_cases a
      · exact Fin.ext (by show (head g i).val + 0 * (x (0 : Fin 2)).val = (head g i).val; omega)
      · exact Fin.ext (by show 0 + 1 * (x (1 : Fin 2)).val = (x (1 : Fin 2)).val; omega)
    exact (congrArg σ.factor hi).trans ((h.factor i (x (0 : Fin 2)) (x (1 : Fin 2))).trans (congrArg _ (eq_ix2 x).symm))
  have hi : ∀ (e : Fin 2) (x : S1x1x48x128.Idx), (turnRect (head g i) e).toLoadRect.idx x = ix4 (head g i) e (x (2 : Fin 4)) (x (3 : Fin 4)) := by
    intro e x
    have h0 : (x (0 : Fin 4)).val < 1 := (x (0 : Fin 4)).isLt
    have h1 : (x (1 : Fin 4)).val < 1 := (x (1 : Fin 4)).isLt
    funext a
    fin_cases a
    · exact Fin.ext (by show (head g i).val + 1 * (x (0 : Fin 4)).val = (head g i).val; omega)
    · exact Fin.ext (by show e.val + 1 * (x (1 : Fin 4)).val = e.val; omega)
    · exact Fin.ext (by show 0 + 1 * (x (2 : Fin 4)).val = (x (2 : Fin 4)).val; omega)
    · exact Fin.ext (by show 0 + 1 * (x (3 : Fin 4)).val = (x (3 : Fin 4)).val; omega)
  have he : σ.y (head g i) 0 = evenOf k σ₀ (head g i) := by
    funext x
    exact (congrArg σ.turned (hi 0 x)).trans (h.even i (x (2 : Fin 4)) (x (3 : Fin 4)))
  have ho : σ.y (head g i) 1 = oddOf k σ₀ (head g i) := by
    funext x
    exact (congrArg σ.turned (hi 1 x)).trans (h.odd i (x (2 : Fin 4)) (x (3 : Fin 4)))
  rw [hr, he, ho]

/-- The scales after one group. -/
theorem group_scale (live : BitVec 32) (g : Fin 4) (σ : St F) (h : Fin 32) (n : Fin 512) :
    (groupF k live g σ).outScale (ix3 0 h n)
      = if h.val / 8 = g.val ∧ n.val / 128 = k.val then scaleAt k σ live h (lane n) else σ.outScale (ix3 0 h n) := by
  have e : (groupF k live g σ).outScale = (scalesF k live g (rots k g σ)).outScale :=
    foldl_same (fun σ i => quantF k g i σ) St.outScale (fun σ i => quantF_outScale k g i σ) eight _
  rw [e, scalesF_outScale, upd_scale, rots_outScale]
  by_cases hh : h.val / 8 = g.val ∧ n.val / 128 = k.val
  · rw [if_pos hh, if_pos hh, cast_rows, rots_p, (values_congr k (rots_inputs k g σ)).2.2.2.2.2.2]
    have : groupOf h = g := Fin.ext hh.1
    unfold scaleAt
    rw [this]
  · rw [if_neg hh, if_neg hh]

/-- The codes after one group. -/
theorem group_codes (live : BitVec 32) (g : Fin 4) (σ : St F) (h : Fin 32) (d : Fin 96) (n : Fin 512) :
    (groupF k live g σ).outCodes (ix4 0 h d n)
      = if h.val / 8 = g.val ∧ n.val / 128 = k.val then codeAt k σ live h d (lane n) else σ.outCodes (ix4 0 h d n) := by
  have key := foldl_put (fun σ i => quantF k g i σ) (fun τ => τ.outCodes (ix4 0 h d n)) (Ready k live g σ)
    (fun i => h = head g i ∧ n.val / 128 = k.val) (codeAt k σ live h d (lane n)) (fun τ i r => r.quant k i)
    (fun τ i r hd => by
      show (quantF k g i τ).outCodes _ = _
      rw [quantF_outCodes, upd_codes, if_pos hd, r.codes k i, ← hd.1]; rfl)
    (fun τ i r hd => by
      show (quantF k g i τ).outCodes _ = _
      rw [quantF_outCodes, upd_codes, if_neg hd]) eight _ (ready k live g σ)
  by_cases hh : h.val / 8 = g.val ∧ n.val / 128 = k.val
  · rw [if_pos hh]
    refine key.1 ⟨placeOf h, mem_eight _, ?_, hh.2⟩
    have : groupOf h = g := Fin.ext hh.1
    rw [← this, head_group_place]
  · rw [if_neg hh]
    refine (key.2 ?_).trans ?_
    · rintro ⟨i, _, rfl, h2⟩
      exact hh ⟨congrArg Fin.val (group_head g i).1, h2⟩
    · show (scalesF k live g (rots k g σ)).outCodes _ = _
      rw [scalesF_outCodes, rots_outCodes]

/-! ## One column -/

theorem live_inputs (live : BitVec 32) (σ : St F) : (liveF k live σ).inputs = σ.inputs :=
  foldl_inputs (fun σ g => groupF k live g σ) (fun σ g => groupF_inputs k live g σ) four σ

theorem live_scale (live : BitVec 32) (σ : St F) (h : Fin 32) (n : Fin 512) :
    (liveF k live σ).outScale (ix3 0 h n) = if n.val / 128 = k.val then scaleAt k σ live h (lane n) else σ.outScale (ix3 0 h n) := by
  have key := foldl_put (fun σ g => groupF k live g σ) (fun τ => τ.outScale (ix3 0 h n)) (fun τ => τ.inputs = σ.inputs)
    (fun g => h.val / 8 = g.val ∧ n.val / 128 = k.val) (scaleAt k σ live h (lane n)) (fun τ g r => (groupF_inputs k live g τ).trans r)
    (fun τ g r hd => by
      show (groupF k live g τ).outScale _ = _
      rw [group_scale, if_pos hd, (values_congr k r).2.1])
    (fun τ g r hd => by
      show (groupF k live g τ).outScale _ = _
      rw [group_scale, if_neg hd]) four σ rfl
  by_cases hh : n.val / 128 = k.val
  · rw [if_pos hh]
    exact key.1 ⟨groupOf h, mem_four _, rfl, hh⟩
  · rw [if_neg hh]
    exact key.2 (fun ⟨g, _, _, h2⟩ => hh h2)

theorem live_codes (live : BitVec 32) (σ : St F) (h : Fin 32) (d : Fin 96) (n : Fin 512) :
    (liveF k live σ).outCodes (ix4 0 h d n) = if n.val / 128 = k.val then codeAt k σ live h d (lane n) else σ.outCodes (ix4 0 h d n) := by
  have key := foldl_put (fun σ g => groupF k live g σ) (fun τ => τ.outCodes (ix4 0 h d n)) (fun τ => τ.inputs = σ.inputs)
    (fun g => h.val / 8 = g.val ∧ n.val / 128 = k.val) (codeAt k σ live h d (lane n)) (fun τ g r => (groupF_inputs k live g τ).trans r)
    (fun τ g r hd => by
      show (groupF k live g τ).outCodes _ = _
      rw [group_codes, if_pos hd, (values_congr k r).2.2.2.2.2.1])
    (fun τ g r hd => by
      show (groupF k live g τ).outCodes _ = _
      rw [group_codes, if_neg hd]) four σ rfl
  by_cases hh : n.val / 128 = k.val
  · rw [if_pos hh]
    exact key.1 ⟨groupOf h, mem_four _, rfl, hh⟩
  · rw [if_neg hh]
    exact key.2 (fun ⟨g, _, _, h2⟩ => hh h2)

theorem deadF_outCodes (σ : St F) : (deadF k σ).outCodes = upd (deadCodes k) k0_pay2 σ.outCodes := by unfold deadF; dsimp only
theorem deadF_outScale (σ : St F) : (deadF k σ).outScale = upd (deadScale k) (k0_pay3 (F := F)) σ.outScale := by unfold deadF; dsimp only

/-- Whether column `k` of the point `i` has tokens of the cache. -/
theorem cond_eq (i : grid0.Coords) (v2 : BitVec 32) :
    (k0_cond1 i v2 k = 1#1 ↔ (0#32).slt (liveOf k (firstToken i) v2) = true)
      ∧ (k0_cond2 i v2 k = 1#1 ↔ ¬ (0#32).slt (liveOf k (firstToken i) v2) = true) := by
  generalize hl : liveOf k (firstToken i) v2 = live
  have e1 : k0_cond1 i v2 k = Scalar.cmpi .ne (Scalar.extui (Scalar.cmpi .sgt live 0#32) : BitVec 32) 0#32 := by rw [← hl]; rfl
  have e2 : k0_cond2 i v2 k = Scalar.cmpi .ne (Scalar.extui (Scalar.cmpi .sle live 0#32) : BitVec 32) 0#32 := by rw [← hl]; rfl
  have f1 : Scalar.cmpi .sgt live 0#32 = BitVec.ofBool ((0#32).slt live) := rfl
  have f2 : Scalar.cmpi .sle live 0#32 = BitVec.ofBool (live.sle 0#32) := rfl
  have f3 : live.sle 0#32 = !(0#32).slt live := BitVec.sle_eq_not_slt
  rw [e1, e2, f1, f2, f3]
  cases (0#32).slt live <;> decide

/-- What a column leaves at head `h`, coordinate `d`, lane `l`. -/
def codeOf (σ : St F) (live : BitVec 32) (h : Fin 32) (d : Fin 96) (l : Fin 128) : Elt F .i8 :=
  if (0#32).slt live = true then codeAt k σ live h d l else 0#8
def scaleOf (σ : St F) (live : BitVec 32) (h : Fin 32) (l : Fin 128) : Elt F .f32 :=
  if (0#32).slt live = true then scaleAt k σ live h l else Scalar.ofBits .f32 0x3F800000#32

theorem column_codes (i : grid0.Coords) (v2 : BitVec 32) (σ : St F) (h : Fin 32) (d : Fin 96) (n : Fin 512) :
    (columnF k i (firstToken i) v2 σ).outCodes (ix4 0 h d n)
      = if n.val / 128 = k.val then codeOf k σ (liveOf k (firstToken i) v2) h d (lane n) else σ.outCodes (ix4 0 h d n) := by
  obtain ⟨c1, c2⟩ := cond_eq k i v2
  unfold columnF codeOf
  by_cases hl : (0#32).slt (liveOf k (firstToken i) v2) = true
  · rw [if_pos (c1.2 hl), if_neg (fun hh => c2.1 hh hl), if_pos hl, live_codes]
  · rw [if_neg (fun hh => hl (c1.1 hh)), if_pos (c2.2 hl), if_neg hl, deadF_outCodes, upd_deadCodes]
    rfl

theorem column_scale (i : grid0.Coords) (v2 : BitVec 32) (σ : St F) (h : Fin 32) (n : Fin 512) :
    (columnF k i (firstToken i) v2 σ).outScale (ix3 0 h n)
      = if n.val / 128 = k.val then scaleOf k σ (liveOf k (firstToken i) v2) h (lane n) else σ.outScale (ix3 0 h n) := by
  obtain ⟨c1, c2⟩ := cond_eq k i v2
  unfold columnF scaleOf
  by_cases hl : (0#32).slt (liveOf k (firstToken i) v2) = true
  · rw [if_pos (c1.2 hl), if_neg (fun hh => c2.1 hh hl), if_pos hl, live_scale]
  · rw [if_neg (fun hh => hl (c1.1 hh)), if_pos (c2.2 hl), if_neg hl, deadF_outScale, upd_deadScale]
    rfl

/-! ## One block -/

theorem trips_eq : k0_t1_loop.trips = 4 := by decide +kernel

/-- The column of a token of the block. -/
abbrev columnOf (n : Fin 512) : Fin k0_t1_loop.trips := ⟨n.val / 128, by rw [trips_eq]; omega⟩

/-- What the columns done so far leave: the values of the block in those columns. -/
theorem columns_out (i : grid0.Coords) (v2 : BitVec 32) (σ : St F) (h : Fin 32) (n : Fin 512) (N : Nat) (hN : n.val / 128 < N) (hN4 : N ≤ 4) :
    (∀ d : Fin 96, (columnsF i (firstToken i) v2 σ N).outCodes (ix4 0 h d n)
        = codeOf (columnOf n) σ (liveOf (columnOf n) (firstToken i) v2) h d (lane n))
      ∧ (columnsF i (firstToken i) v2 σ N).outScale (ix3 0 h n)
        = scaleOf (columnOf n) σ (liveOf (columnOf n) (firstToken i) v2) h (lane n) := by
  induction N with
  | zero => omega
  | succ N ih =>
    have hlt : N < k0_t1_loop.trips := by rw [trips_eq]; omega
    rw [columnsF, dif_pos hlt, column_scale]
    by_cases hn : n.val / 128 = N
    · have ek : (⟨N, hlt⟩ : Fin k0_t1_loop.trips) = columnOf n := Fin.ext hn.symm
      have hv := values_congr (columnOf n) (columnsF_inputs i (firstToken i) v2 σ N)
      rw [ek]
      refine ⟨fun d => ?_, ?_⟩
      · rw [column_codes, if_pos rfl]
        unfold codeOf
        rw [hv.2.2.2.2.2.1]
      · rw [if_pos rfl]
        unfold scaleOf
        rw [hv.2.1]
    · obtain ⟨a, b⟩ := ih (by omega) (by omega)
      refine ⟨fun d => ?_, ?_⟩
      · rw [column_codes, if_neg hn, a]
      · rw [if_neg hn, b]

end Cert.KernelIdeal.Body

end
-- ==== Proof.Run.lean ====
/- The run of the program with its values: every point leaves its block of codes and scales, the blocks fill the two arrays, the host
   turns the arrays round. -/
module

public import proofs.«01_k».proof.Proof.Block

@[expose] public section

set_option maxRecDepth 16384

noncomputable section

namespace Cert.KernelIdeal.Body

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)
open Cert.KernelIdeal Cert.KernelIdeal.Gen Cert.Steps

variable {F : FTy → Type} [FloatOps F]

/-! ## The block a point leaves -/

/-- The four input blocks, with fixed contents in every buffer the point only writes. -/
def start (b0 b1 : S1x48x128.Idx → Elt F .f32) (b2 : S1x32x96x512.Idx → Elt F .i8) (b3 : S1x32x512.Idx → Elt F .f32) : St F :=
  ⟨b0, b1, b2, b3, b2, b3, fun _ => Scalar.ofBits .f32 0#32, fun _ => Scalar.ofBits .f32 0#32, fun _ => Scalar.ofBits .f32 0#32⟩

/-- The block of codes left at point `i`. -/
def codesBlock (pf : pre0.Contents (Elt F)) (i : grid0.Coords) (b0 b1 : S1x48x128.Idx → Elt F .f32)
    (b2 : S1x32x96x512.Idx → Elt F .i8) (b3 : S1x32x512.Idx → Elt F .f32) : S1x32x96x512.Idx → Elt F .i8 := fun y =>
  codeOf (columnOf (y 3)) (start b0 b1 b2 b3) (liveOf (columnOf (y 3)) (firstToken i) (word pf i)) (y 1) (y 2) (lane (y 3))

/-- The block of scales left at point `i`. -/
def scaleBlock (pf : pre0.Contents (Elt F)) (i : grid0.Coords) (b0 b1 : S1x48x128.Idx → Elt F .f32)
    (b2 : S1x32x96x512.Idx → Elt F .i8) (b3 : S1x32x512.Idx → Elt F .f32) : S1x32x512.Idx → Elt F .f32 := fun y =>
  scaleOf (columnOf (y 2)) (start b0 b1 b2 b3) (liveOf (columnOf (y 2)) (firstToken i) (word pf i)) (y 1) (lane (y 2))

variable (pf : pre0.Contents (Elt F)) (i : grid0.Coords) (b0 b1 : S1x48x128.Idx → Elt F .f32)
  (b2 : S1x32x96x512.Idx → Elt F .i8) (b3 : S1x32x512.Idx → Elt F .f32) (x : S1x32x96x512.Idx → Elt F .i8)
  (y : S1x32x512.Idx → Elt F .f32) (a : S32x2x48x128.Idx → Elt F .f32) (b : S4x72x128.Idx → Elt F .f32) (d : S32x128.Idx → Elt F .f32)

/-- The four columns leave the block of codes, whatever the other buffers held. -/
theorem finish_codes : (finishOf pf i b0 b1 b2 b3 x y a b d).outCodes = codesBlock pf i b0 b1 b2 b3 := by
  funext z
  obtain ⟨z0, z1, z2, z3, rfl⟩ : ∃ (z0 : Fin 1) (z1 : Fin 32) (z2 : Fin 96) (z3 : Fin 512), z = ix4 z0 z1 z2 z3 := ⟨_, _, _, _, eq_ix4 z⟩
  obtain rfl : z0 = 0 := Subsingleton.elim _ _
  have hN : z3.val / 128 < k0_t1_loop.trips := by rw [trips_eq]; have := z3.isLt; omega
  have h := (columns_out i (word pf i) ⟨b0, b1, b2, b3, x, y, a, b, d⟩ z1 z3 k0_t1_loop.trips hN (le_of_eq trips_eq)).1 z2
  have hv := values_congr (columnOf z3) (σ := ⟨b0, b1, b2, b3, x, y, a, b, d⟩) (τ := start b0 b1 b2 b3) rfl
  refine h.trans ?_
  show codeOf _ _ _ _ _ _ = codeOf _ _ _ _ _ _
  unfold codeOf
  rw [hv.2.2.2.2.2.1]
  rfl

/-- The four columns leave the block of scales, whatever the other buffers held. -/
theorem finish_scale : (finishOf pf i b0 b1 b2 b3 x y a b d).outScale = scaleBlock pf i b0 b1 b2 b3 := by
  funext z
  obtain ⟨z0, z1, z3, rfl⟩ : ∃ (z0 : Fin 1) (z1 : Fin 32) (z3 : Fin 512), z = ix3 z0 z1 z3 := ⟨_, _, _, eq_ix3 z⟩
  obtain rfl : z0 = 0 := Subsingleton.elim _ _
  have hN : z3.val / 128 < k0_t1_loop.trips := by rw [trips_eq]; have := z3.isLt; omega
  have h := (columns_out i (word pf i) ⟨b0, b1, b2, b3, x, y, a, b, d⟩ z1 z3 k0_t1_loop.trips hN (le_of_eq trips_eq)).2
  have hv := values_congr (columnOf z3) (σ := ⟨b0, b1, b2, b3, x, y, a, b, d⟩) (τ := start b0 b1 b2 b3) rfl
  refine h.trans ?_
  show scaleOf _ _ _ _ _ = scaleOf _ _ _ _ _
  unfold scaleOf
  rw [hv.2.1]
  rfl

variable (m : (ℓ : Loc nD τ sig) → Buf (Elt F) ℓ)

/-- The block of codes the region's point `t` leaves. -/
def codesAt (c : Dev nD) (t : Fin grid0.N) : S1x32x96x512.Idx → Elt F .i8 :=
  codesBlock (tbl m) (grid0.coords t) (entryBlock m c 0 t) (entryBlock m c 1 t) (entryBlock m c 2 t) (entryBlock m c 3 t)

/-- The block of scales the region's point `t` leaves. -/
def scalesAt (c : Dev nD) (t : Fin grid0.N) : S1x32x512.Idx → Elt F .f32 :=
  scaleBlock (tbl m) (grid0.coords t) (entryBlock m c 0 t) (entryBlock m c 1 t) (entryBlock m c 2 t) (entryBlock m c 3 t)

/-- What every window's buffer holds after its point. -/
def left (c : Dev nD) : (w : Fin (Cf m).W) → (t : Fin (Cf m).N) → ((Cf m).win w).block.Idx → Elt F ((Cf m).win w).elt
  | 0, t => entryBlock m c 0 t
  | 1, t => entryBlock m c 1 t
  | 2, t => entryBlock m c 2 t
  | 3, t => entryBlock m c 3 t
  | 4, t => codesAt m c t
  | 5, t => scalesAt m c t
  | ⟨_ + 6, h⟩, _ => absurd h (Nat.not_lt.2 (Nat.le_add_left _ _))

/-- Every point of the grid leaves its block of codes and of scales. -/
theorem body_value (c : Dev nD) : BodyObligationLoose (datsOf m (left m) 0 c) defs₀ Variants.none () Set.univ := by
  intro t
  rw [bigSep_W0, body_at, Φ_eq, Φ_eq]
  simp only [bigSep_W0]
  refine cast ?_ (((?_ : iprop(((scratch (F := F) c ∗ ∃ r, prngReg c r) ∗ table c (tbl m)) ∗ (datsOf m (left m) 0 c).owesAt () t.castSucc
        ∗ (∃ d, owns (c : Thread nD τ) (stg m 0 t) fullShare ((datsOf m (left m) 0 c).before 0 t d)) ∗ (∃ d, owns (c : Thread nD τ) (stg m 1 t) fullShare ((datsOf m (left m) 0 c).before 1 t d)) ∗ (∃ d, owns (c : Thread nD τ) (stg m 2 t) fullShare ((datsOf m (left m) 0 c).before 2 t d)) ∗ (∃ d, owns (c : Thread nD τ) (stg m 3 t) fullShare ((datsOf m (left m) 0 c).before 3 t d))
        ∗ (∃ d, owns (c : Thread nD τ) (stg m 4 t) fullShare ((datsOf m (left m) 0 c).before 4 t d)) ∗ (∃ d, owns (c : Thread nD τ) (stg m 5 t) fullShare ((datsOf m (left m) 0 c).before 5 t d))) ⊢ _).trans (point m (left m) c t)).trans (wp_mono _ _ _ fun _ => (?_ : _ ⊢ iprop(((scratch (F := F) c ∗ ∃ r, prngReg c r) ∗ table c (tbl m)) ∗ (datsOf m (left m) 0 c).owesAt () t.succ
        ∗ owns (c : Thread nD τ) (stg m 0 t) fullShare ((datsOf m (left m) 0 c).after 0 t) ∗ owns (c : Thread nD τ) (stg m 1 t) fullShare ((datsOf m (left m) 0 c).after 1 t) ∗ owns (c : Thread nD τ) (stg m 2 t) fullShare ((datsOf m (left m) 0 c).after 2 t) ∗ owns (c : Thread nD τ) (stg m 3 t) fullShare ((datsOf m (left m) 0 c).after 3 t)
        ∗ owns (c : Thread nD τ) (stg m 4 t) fullShare (codesBlock (tbl m) (grid0.coords t) (entryBlock m c 0 t) (entryBlock m c 1 t) (entryBlock m c 2 t) (entryBlock m c 3 t))
        ∗ owns (c : Thread nD τ) (stg m 5 t) fullShare (scaleBlock (tbl m) (grid0.coords t) (entryBlock m c 0 t) (entryBlock m c 1 t) (entryBlock m c 2 t) (entryBlock m c 3 t))))))
  · chain_rfl
  · iintro ⟨HΦ, HO, H0, H1, H2, H3, ⟨%d4, H4⟩, ⟨%d5, H5⟩⟩
    isplitl [HΦ]; · iexact HΦ
    isplitl [HO]; · iexact HO
    isplitl [H0]; · iexact H0
    isplitl [H1]; · iexact H1
    isplitl [H2]; · iexact H2
    isplitl [H3]; · iexact H3
    isplitl [H4]; · iexists _; iexact H4
    iexists _; iexact H5
  · iintro ⟨HΦ, HO, H0, H1, H2, H3, %x, %y, %a, %b, %d, H4, H5⟩
    isplitl [HΦ]; · iexact HΦ
    isplitl [HO]; · iexact HO
    isplitl [H0]; · iexact H0
    isplitl [H1]; · iexact H1
    isplitl [H2]; · iexact H2
    isplitl [H3]; · iexact H3
    isplitl [H4]
    · ihave H := (Entails.of_eq (congrArg (owns (c : Thread nD τ) (stg m 4 t) fullShare) (finish_codes (tbl m) (grid0.coords t) (entryBlock m c 0 t) (entryBlock m c 1 t) (entryBlock m c 2 t) (entryBlock m c 3 t) x y a b d))) $$ H4
      iexact H
    · ihave H := (Entails.of_eq (congrArg (owns (c : Thread nD τ) (stg m 5 t) fullShare) (finish_scale (tbl m) (grid0.coords t) (entryBlock m c 0 t) (entryBlock m c 1 t) (entryBlock m c 2 t) (entryBlock m c 3 t) x y a b d))) $$ H5
      iexact H

/-! ## The arrays the region leaves -/

/-- The grid point of batch row `b` and token block `e`. -/
def at_ (b : Fin 2) (e : Fin 8) : Fin grid0.N := ⟨8 * b.val + e.val, by rw [show grid0.N = 16 by decide]; have := b.isLt; have := e.isLt; omega⟩

/-- The batch row and the token block of a grid point. -/
def rowOf (t : Fin grid0.N) : Fin 2 := grid0.coords t 0
def tileOf (t : Fin grid0.N) : Fin 8 := grid0.coords t 1

theorem coords_at (b : Fin 2) (e : Fin 8) : rowOf (at_ b e) = b ∧ tileOf (at_ b e) = e := by
  have h : ∀ (b : Fin 2) (e : Fin 8), (rowOf (at_ b e)).val = b.val ∧ (tileOf (at_ b e)).val = e.val := by decide +kernel
  exact ⟨Fin.ext (h b e).1, Fin.ext (h b e).2⟩

theorem at_coords : ∀ t : Fin grid0.N, at_ (rowOf t) (tileOf t) = t := by decide +kernel

/-- The block of a token, and its place in it. -/
def blockOf (T : Fin 4096) : Fin 8 := ⟨T.val / 512, by have := T.isLt; omega⟩
def inBlock (T : Fin 4096) : Fin 512 := ⟨T.val % 512, by omega⟩
/-- The token at place `n` of block `e`. -/
def tokenOf (e : Fin 8) (n : Fin 512) : Fin 4096 := ⟨512 * e.val + n.val, by have := e.isLt; have := n.isLt; omega⟩

theorem blockOf_tokenOf (e : Fin 8) (n : Fin 512) : blockOf (tokenOf e n) = e := by
  apply Fin.ext; show (512 * e.val + n.val) / 512 = e.val; have := n.isLt; omega
theorem inBlock_tokenOf (e : Fin 8) (n : Fin 512) : inBlock (tokenOf e n) = n := by
  apply Fin.ext; show (512 * e.val + n.val) % 512 = n.val; have := n.isLt; omega
theorem tokenOf_blockOf (T : Fin 4096) : tokenOf (blockOf T) (inBlock T) = T := by
  apply Fin.ext; show 512 * (T.val / 512) + T.val % 512 = T.val; omega

/-- The codes' array, token innermost: at (b, h, d, T) the code the point of T's block leaves. -/
def codesArr (c : Dev nD) : S2x32x96x4096.Idx → Elt F .i8 := fun y =>
  codesAt m c (at_ (y 0) (blockOf (y 3))) (ix4 (0 : Fin 1) (y 1) (y 2) (inBlock (y 3)))

/-- The scales' array, token innermost. -/
def scaleArr (c : Dev nD) : S2x32x4096.Idx → Elt F .f32 := fun y =>
  scalesAt m c (at_ (y 0) (blockOf (y 2))) (ix3 (0 : Fin 1) (y 1) (inBlock (y 2)))

theorem flush_4 : ∀ t : Fin (Cf m).N, ((Cf m).win 4).flush t = true := by
  have h : ∀ t : Fin grid0.N, Pipeline.Window.flushOf grid0 true cc0_transform_4 t = true := by decide +kernel
  intro t
  exact h t

theorem flush_5 : ∀ t : Fin (Cf m).N, ((Cf m).win 5).flush t = true := by
  have h : ∀ t : Fin grid0.N, Pipeline.Window.flushOf grid0 true cc0_transform_5 t = true := by decide +kernel
  intro t
  exact h t

theorem map_4 : ∀ t : Fin grid0.N, cc0_transform_4 (grid0.coords t) = ![(rowOf t).val, 0, 0, (tileOf t).val] := by decide +kernel
theorem map_5 : ∀ t : Fin grid0.N, cc0_transform_5 (grid0.coords t) = ![(rowOf t).val, 0, (tileOf t).val] := by decide +kernel

/-- Where the block of codes of point `t` lies. -/
theorem emb_4 (t : Fin grid0.N) (j1 : Fin 32) (j2 : Fin 96) (j3 : Fin 512) :
    (((Cf m).win 4).blk t).view.emb (ix4 (0 : Fin 1) j1 j2 j3 : S1x32x96x512.Idx)
      = (ix4 (rowOf t) j1 j2 (tokenOf (tileOf t) j3) : S2x32x96x4096.Idx) := by
  have h : ∀ a : Fin 4, (((((Cf m).win 4).blk t).view.emb (ix4 (0 : Fin 1) j1 j2 j3 : S1x32x96x512.Idx)) a).val
      = cc0_transform_4 (grid0.coords t) a * S1x32x96x512.size a + 1 * ((ix4 (0 : Fin 1) j1 j2 j3 : S1x32x96x512.Idx) a).val := fun a => rfl
  refine funext fun a : Fin 4 => Fin.ext ((h a).trans ?_)
  rw [map_4]
  match a with
  | 0 => show (rowOf t).val * 1 + 1 * 0 = (rowOf t).val; omega
  | 1 => show 0 * 32 + 1 * j1.val = j1.val; omega
  | 2 => show 0 * 96 + 1 * j2.val = j2.val; omega
  | 3 => show (tileOf t).val * 512 + 1 * j3.val = 512 * (tileOf t).val + j3.val; omega

/-- Where the block of scales of point `t` lies. -/
theorem emb_5 (t : Fin grid0.N) (j1 : Fin 32) (j3 : Fin 512) :
    (((Cf m).win 5).blk t).view.emb (ix3 (0 : Fin 1) j1 j3 : S1x32x512.Idx)
      = (ix3 (rowOf t) j1 (tokenOf (tileOf t) j3) : S2x32x4096.Idx) := by
  have h : ∀ a : Fin 3, (((((Cf m).win 5).blk t).view.emb (ix3 (0 : Fin 1) j1 j3 : S1x32x512.Idx)) a).val
      = cc0_transform_5 (grid0.coords t) a * S1x32x512.size a + 1 * ((ix3 (0 : Fin 1) j1 j3 : S1x32x512.Idx) a).val := fun a => rfl
  refine funext fun a : Fin 3 => Fin.ext ((h a).trans ?_)
  rw [map_5]
  match a with
  | 0 => show (rowOf t).val * 1 + 1 * 0 = (rowOf t).val; omega
  | 1 => show 0 * 32 + 1 * j1.val = j1.val; omega
  | 2 => show (tileOf t).val * 512 + 1 * j3.val = 512 * (tileOf t).val + j3.val; omega

theorem read_4 (c : Dev nD) (t : Fin grid0.N) (j : S1x32x96x512.Idx) :
    codesAt m c t j = codesArr m c ((((Cf m).win 4).blk t).view.emb j) := by
  obtain ⟨j0, j1, j2, j3, rfl⟩ : ∃ (z0 : Fin 1) (z1 : Fin 32) (z2 : Fin 96) (z3 : Fin 512), j = ix4 z0 z1 z2 z3 := ⟨_, _, _, _, eq_ix4 j⟩
  obtain rfl : j0 = 0 := Subsingleton.elim _ _
  refine Eq.trans ?_ (congrArg (codesArr m c) (emb_4 m t j1 j2 j3)).symm
  show _ = codesAt m c (at_ (rowOf t) (blockOf (tokenOf (tileOf t) j3))) (ix4 (0 : Fin 1) j1 j2 (inBlock (tokenOf (tileOf t) j3)))
  rw [blockOf_tokenOf, inBlock_tokenOf, at_coords]

theorem read_5 (c : Dev nD) (t : Fin grid0.N) (j : S1x32x512.Idx) :
    scalesAt m c t j = scaleArr m c ((((Cf m).win 5).blk t).view.emb j) := by
  obtain ⟨j0, j1, j3, rfl⟩ : ∃ (z0 : Fin 1) (z1 : Fin 32) (z3 : Fin 512), j = ix3 z0 z1 z3 := ⟨_, _, _, eq_ix3 j⟩
  obtain rfl : j0 = 0 := Subsingleton.elim _ _
  refine Eq.trans ?_ (congrArg (scaleArr m c) (emb_5 m t j1 j3)).symm
  show _ = scalesAt m c (at_ (rowOf t) (blockOf (tokenOf (tileOf t) j3))) (ix3 (0 : Fin 1) j1 (inBlock (tokenOf (tileOf t) j3)))
  rw [blockOf_tokenOf, inBlock_tokenOf, at_coords]

theorem mem_4 (z : S2x32x96x4096.Idx) : ∃ t, ((Cf m).win 4).flush t = true ∧ z ∈ (((Cf m).win 4).blk t).view.set := by
  obtain ⟨z0, z1, z2, z3, rfl⟩ : ∃ (z0 : Fin 2) (z1 : Fin 32) (z2 : Fin 96) (z3 : Fin 4096), z = ix4 z0 z1 z2 z3 := ⟨_, _, _, _, eq_ix4 z⟩
  refine ⟨at_ z0 (blockOf z3), flush_4 m _, ?_⟩
  have h := emb_4 m (at_ z0 (blockOf z3)) z1 z2 (inBlock z3)
  rw [(coords_at _ _).1, (coords_at _ _).2, tokenOf_blockOf] at h
  rw [← h]
  exact View.emb_mem_set _ _

theorem mem_5 (z : S2x32x4096.Idx) : ∃ t, ((Cf m).win 5).flush t = true ∧ z ∈ (((Cf m).win 5).blk t).view.set := by
  obtain ⟨z0, z1, z3, rfl⟩ : ∃ (z0 : Fin 2) (z1 : Fin 32) (z3 : Fin 4096), z = ix3 z0 z1 z3 := ⟨_, _, _, eq_ix3 z⟩
  refine ⟨at_ z0 (blockOf z3), flush_5 m _, ?_⟩
  have h := emb_5 m (at_ z0 (blockOf z3)) z1 (inBlock z3)
  rw [(coords_at _ _).1, (coords_at _ _).2, tokenOf_blockOf] at h
  rw [← h]
  exact View.emb_mem_set _ _

/-- The region leaves the codes' array. -/
theorem arr_codes (c : Dev nD) : (datsOf m (left m) 0 c).arrAt 4 (Cf m).N = codesArr m c :=
  (datsOf m (left m) 0 c).arrAt_eq_of_cover 4 (codesArr m c) (fun t _ => cast (by chain_rfl) (funext (read_4 m c t))) (fun z => mem_4 m z)

/-- The region leaves the scales' array. -/
theorem arr_scale (c : Dev nD) : (datsOf m (left m) 0 c).arrAt 5 (Cf m).N = scaleArr m c :=
  (datsOf m (left m) 0 c).arrAt_eq_of_cover 5 (scaleArr m c) (fun t _ => cast (by chain_rfl) (funext (read_5 m c t))) (fun z => mem_5 m z)

/-! ## The run -/

/-- The first result: the codes, channels innermost again. -/
def resCodes (c : Dev nD) : S2x4096x32x96.Idx → Elt F .i8 :=
  transpose S2x4096x32x96 [0, 3, 1, 2] (codesArr m c) transposes_S2x32x96x4096_S2x4096x32x96_0_3_1_2

/-- The second result: the scales, heads innermost again. -/
def resScale (c : Dev nD) : S2x4096x32.Idx → Elt F .f32 :=
  transpose S2x4096x32 [0, 2, 1] (scaleArr m c) transposes_S2x32x4096_S2x4096x32_0_2_1

theorem arr_inj : Function.Injective (Pipeline.arrRef spec0) := by decide

theorem tail_1 (V : Valuation τ sig (Elt F)) :
    StableHlo.after (hostOps1 (F := F)) V (Proc.devRef .tc main_v25)
      = transpose S2x4096x32x96 [0, 3, 1, 2] (V (Proc.devRef .tc main_v24_0)) transposes_S2x32x96x4096_S2x4096x32x96_0_3_1_2 := by
  after_results_simp

theorem tail_2 (V : Valuation τ sig (Elt F)) :
    StableHlo.after (hostOps1 (F := F)) V (Proc.devRef .tc main_v26)
      = transpose S2x4096x32 [0, 2, 1] (V (Proc.devRef .tc main_v24_1)) transposes_S2x32x4096_S2x4096x32_0_2_1 := by
  after_results_simp

theorem tail_codes (c : Dev nD) :
    Pipeline.afterTail (pcfgs (F := F)) (adm m) (datsOf m (left m)) 0 (entry m) [hostOps1] c main_v25 = resCodes m c := by
  refine (tail_1 (Pipeline.withArrays spec0 c (entry m c) fun w => (datsOf m (left m) 0 c).arrAt w (Cf m).N)).trans ?_
  unfold resCodes
  rw [← arr_codes m c]
  exact congrArg (fun f => transpose S2x4096x32x96 [0, 3, 1, 2] f transposes_S2x32x96x4096_S2x4096x32x96_0_3_1_2)
    (Pipeline.withArrays_arr spec0 arr_inj c (entry m c) (fun w => (datsOf m (left m) 0 c).arrAt w (Cf m).N) 4)

theorem tail_scale (c : Dev nD) :
    Pipeline.afterTail (pcfgs (F := F)) (adm m) (datsOf m (left m)) 0 (entry m) [hostOps1] c main_v26 = resScale m c := by
  refine (tail_2 (Pipeline.withArrays spec0 c (entry m c) fun w => (datsOf m (left m) 0 c).arrAt w (Cf m).N)).trans ?_
  unfold resScale
  rw [← arr_scale m c]
  exact congrArg (fun f => transpose S2x4096x32 [0, 2, 1] f transposes_S2x32x4096_S2x4096x32_0_2_1)
    (Pipeline.withArrays_arr spec0 arr_inj c (entry m c) (fun w => (datsOf m (left m) 0 c).arrAt w (Cf m).N) 5)

/-- The arguments pass the host's last operations. -/
theorem tail_arg (c : Dev nD) (b : Ref sig .tc) (hb : b = main_arg0 ∨ b = main_arg1 ∨ b = main_arg2 ∨ b = main_arg3) :
    Pipeline.afterTail (pcfgs (F := F)) (adm m) (datsOf m (left m)) 0 (entry m) [hostOps1] c b = m ((c.tc : Thread nD τ).loc b) := by
  have h : StableHlo.after (hostOps1 (F := F)) (Pipeline.withArrays spec0 c (entry m c) fun w => (datsOf m (left m) 0 c).arrAt w (Cf m).N)
      (Proc.devRef .tc b) = Pipeline.withArrays spec0 c (entry m c) (fun w => (datsOf m (left m) 0 c).arrAt w (Cf m).N) (Proc.devRef .tc b) := by
    rcases hb with rfl | rfl | rfl | rfl <;> after_results_simp
  refine h.trans ((Pipeline.withArrays_of_ne spec0 c _ _ b ?_).trans (entry_arg m c b hb))
  rcases hb with rfl | rfl | rfl | rfl <;> decide

set_option maxHeartbeats 1000000 in
/-- From every memory the program runs to its end, its results hold the region's arrays turned round, its arguments are unchanged. -/
theorem value_run (g : Dev nD → PrngReg) :
    θ_run (defs (F := F)) (onTc (τ := τ) (main (F := F))) ⟨m, fun _ => 0, g⟩ (fun r => ∀ c : Dev nD,
      r.2.mem ((c.tc : Thread nD τ).loc main_v25) = resCodes m c
      ∧ r.2.mem ((c.tc : Thread nD τ).loc main_v26) = resScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_frameP_around (pcfgs (F := F)) (adm m) (datsOf m (left m)) (0 : Fin 1) launch0 defs₀ Variants.none m g main
    (hbody := fun c => body_value m c) (hshare := fun c w => ?_) (howed := fun _ _ => rfl) (V₀ := entry m) (opss := [hostOps1])
    (hsub := sfx_sub m) (hfresh := sfx_fresh) (hkeep := sfx_keeps m)
    (hmain := hmain m) (hA := fun _ _ => rfl) (hpf := tbl_entry m) (hΦ := fun _ _ => rfl) (Q' := _) (hQ' := ?_)
  · unfold Dat.share
    split <;> rfl
  · rintro r ⟨h, hs⟩ c
    have key : ∀ b : Ref sig .tc, b ∈ Pipeline.restRefs sig spec0 → (b = main_arg0 ∨ b = main_arg1 ∨ b = main_arg2 ∨ b = main_arg3) →
        r.2.mem ((c.tc : Thread nD τ).loc b) = m ((c.tc : Thread nD τ).loc b) :=
      fun b hb hb' => ((h c).2 b hb).trans (tail_arg m c b hb')
    exact ⟨((h c).2 main_v25 (by show _ ∈ Pipeline.restRefs sig spec0; decide)).trans (tail_codes m c), ((h c).2 main_v26 (by show _ ∈ Pipeline.restRefs sig spec0; decide)).trans (tail_scale m c),
      key _ (by decide) (.inl rfl), key _ (by decide) (.inr (.inl rfl)), key _ (by decide) (.inr (.inr (.inl rfl))),
      key _ (by decide) (.inr (.inr (.inr rfl)))⟩

end Cert.KernelIdeal.Body

end
-- ==== Proof.Token.lean ====
/- The numbers of one token's head: the angle of a pair of coordinates, the pair rotated, and the equation between the two ways of
   requantising it: rotate the scaled codes and divide by the new scale, or rotate the codes and multiply by the old scale over the new. -/
module

public import Idealize.ShloMosaic.Lib.IdealHost
public import Idealize.ShloMosaic.Lib.Pointwise

@[expose] public section

noncomputable section

namespace Cert.Token

open Idealize.ShloMosaic

/-! ## Constants -/

theorem c127 : Ideal.ofBits .f32 0x42FE0000#32 = ((127 : ℝ) : EReal) := by
  simp [Ideal.ofBits, Ideal.ieee, -EReal.coe_mul, -EReal.coe_neg]; norm_num
theorem cm127 : Ideal.ofBits .f32 0xC2FE0000#32 = ((-127 : ℝ) : EReal) := by
  simp [Ideal.ofBits, Ideal.ieee, -EReal.coe_mul, -EReal.coe_neg]; norm_num
theorem c96 : Ideal.ofBits .f32 0x42C00000#32 = ((96 : ℝ) : EReal) := by
  simp [Ideal.ofBits, Ideal.ieee, -EReal.coe_mul, -EReal.coe_neg]; norm_num
theorem c2 : Ideal.ofBits .f32 0x40000000#32 = ((2 : ℝ) : EReal) := by
  simp [Ideal.ofBits, Ideal.ieee, -EReal.coe_mul, -EReal.coe_neg]; norm_num
theorem cTheta : Ideal.ofBits .f32 0x48F42400#32 = ((500000 : ℝ) : EReal) := by
  simp [Ideal.ofBits, Ideal.ieee, -EReal.coe_mul, -EReal.coe_neg]; norm_num
theorem cInf : Ideal.ofBits .f32 0xFF800000#32 = (⊥ : EReal) := by
  simp [Ideal.ofBits, Ideal.ieee]

/-! ## The angle -/

/-- The angle by which a shift of `δ` turns pair `p` of a head. -/
def angle (δ : BitVec 32) (p : Fin 48) : EReal :=
  FloatOps.sitofp (F := Ideal) FTy.f32 δ *
      Ideal.pow (Ideal.ofBits FTy.f32 0x48F42400#32)
        (Ideal.div (-(Ideal.ofBits FTy.f32 0x40000000#32 * FloatOps.sitofp (F := Ideal) FTy.f32 (BitVec.ofNat 32 p.val)))
          (Ideal.ofBits FTy.f32 0x42C00000#32))

theorem angle_real (δ : BitVec 32) (p : Fin 48) : ∃ r : ℝ, angle δ p = (r : EReal) := by
  unfold angle
  rw [c96, c2, cTheta]
  have h1 : ∀ x : BitVec 32, FloatOps.sitofp (F := Ideal) FTy.f32 x = (((x.toInt : ℝ)) : EReal) := fun _ => rfl
  rw [h1, h1, Ideal.div, if_neg (by norm_num), ← EReal.coe_mul, ← EReal.coe_neg, ← EReal.coe_inv, ← EReal.coe_mul]
  exact ⟨_, (EReal.coe_mul _ _).symm⟩

/-- The cosine and the sine of an angle are real numbers of a point of the circle. -/
theorem circle (δ : BitVec 32) (p : Fin 48) : ∃ c s : ℝ, Ideal.cos (angle δ p) = (c : EReal) ∧ Ideal.sin (angle δ p) = (s : EReal) ∧ c * c + s * s = 1 := by
  obtain ⟨r, hr⟩ := angle_real δ p
  refine ⟨Real.cos r, Real.sin r, by rw [hr]; rfl, by rw [hr]; rfl, ?_⟩
  have := Real.cos_sq_add_sin_sq r
  nlinarith

/-! ## One head -/

/-- A magnitude, as the programs take it. -/
def mag (x : EReal) : EReal := max x (-x)

theorem mag_coe (r : ℝ) : mag (r : EReal) = ((|r| : ℝ) : EReal) := by
  unfold mag; rw [← EReal.coe_neg, abs_eq_max_neg]; norm_cast

/-- The new scale of a head whose largest magnitude is `P`. -/
def scale (P : EReal) : EReal := if P = 0 then 1 else Ideal.div P (Ideal.ofBits .f32 0x42FE0000#32)

/-- The new code of a rotated key over its scale: rounded, clipped, one byte. -/
def quant (x : EReal) : BitVec 8 :=
  BitVec.setWidth 8 (FloatOps.fptosi (F := Ideal) (φ := .f32) 32 (min (Ideal.ofBits .f32 0x42FE0000#32) (max (Ideal.ofBits .f32 0xC2FE0000#32)
    (Ideal.liftRound Ideal.roundHalfEven x))))

theorem quant_zero : quant 0 = 0#8 := by
  have hr : Ideal.liftRound Ideal.roundHalfEven 0 = ((0 : ℝ) : EReal) := by
    show ((Ideal.roundHalfEven 0 : ℝ) : EReal) = _
    simp [Ideal.roundHalfEven]
  unfold quant
  have h1 : max (((-127 : ℝ)) : EReal) ((0 : ℝ) : EReal) = ((0 : ℝ) : EReal) := max_eq_right (by exact_mod_cast (by norm_num : (-127 : ℝ) ≤ 0))
  have h2 : min (((127 : ℝ)) : EReal) ((0 : ℝ) : EReal) = ((0 : ℝ) : EReal) := min_eq_right (by exact_mod_cast (by norm_num : (0 : ℝ) ≤ 127))
  have h3 : FloatOps.fptosi (F := Ideal) (φ := .f32) 32 ((0 : ℝ) : EReal) = 0#32 := by
    show Ideal.fptosi 32 ((0 : ℝ) : EReal) = _
    simp [Ideal.fptosi, -EReal.coe_zero]
  rw [hr, c127, cm127, h1, h2, h3]
  rfl

variable (x w c s : ℝ) (σ : EReal)

/-- The even coordinate of a pair `(x, w)` of codes of scale `σ`, rotated … -/
def keyE : EReal := (x * σ) * c + (w * σ) * (-(s : EReal))
/-- … and the odd one. -/
def keyO : EReal := (w * σ) * c + (x * σ) * s
/-- The even coordinate of a pair of codes, rotated … -/
def codeE : EReal := (x : EReal) * c - w * s
/-- … and the odd one. -/
def codeO : EReal := (w : EReal) * c + x * s

theorem codeE_eq : codeE x w c s = ((x * c - w * s : ℝ) : EReal) := by unfold codeE; norm_cast
theorem codeO_eq : codeO x w c s = ((w * c + x * s : ℝ) : EReal) := by unfold codeO; norm_cast

theorem keyE_real (r : ℝ) : keyE x w c s r = (((x * c - w * s) * r : ℝ) : EReal) := by
  unfold keyE; norm_cast; ring
theorem keyO_real (r : ℝ) : keyO x w c s r = (((w * c + x * s) * r : ℝ) : EReal) := by
  unfold keyO; norm_cast; ring

/-- An infinite number. -/
def Inf (σ : EReal) : Prop := σ = ⊤ ∨ σ = ⊥

theorem inf_mul_coe {σ : EReal} (h : Inf σ) (r : ℝ) : (r ≠ 0 ∧ Inf ((r : EReal) * σ)) ∨ (r = 0 ∧ (r : EReal) * σ = 0) := by
  rcases lt_trichotomy r 0 with hr | hr | hr
  · left; refine ⟨hr.ne, ?_⟩
    rcases h with rfl | rfl
    · right; exact EReal.coe_mul_top_of_neg hr
    · left; exact EReal.coe_mul_bot_of_neg hr
  · right; subst hr; simp
  · left; refine ⟨hr.ne', ?_⟩
    rcases h with rfl | rfl
    · left; exact EReal.coe_mul_top_of_pos hr
    · right; exact EReal.coe_mul_bot_of_pos hr

theorem mag_inf {σ : EReal} (h : Inf σ) : mag σ = ⊤ := by
  rcases h with rfl | rfl <;> simp [mag]

theorem mag_add {a b : EReal} (ha : Inf a ∨ a = 0) (hb : Inf b ∨ b = 0) (h : a ≠ 0 ∨ b ≠ 0) : mag (a + b) = ⊤ := by
  apply mag_inf
  unfold Inf
  rcases ha with (rfl | rfl) | rfl <;> rcases hb with (rfl | rfl) | rfl <;> simp at h ⊢

/-- A pair of codes not both zero, of infinite scale, has a coordinate of infinite magnitude once rotated. -/
theorem key_inf (hcs : c * c + s * s = 1) (h : Inf σ) (hx : x ≠ 0 ∨ w ≠ 0) : mag (keyE x w c s σ) = ⊤ ∨ mag (keyO x w c s σ) = ⊤ := by
  have h2 : ∀ a b : ℝ, ((a : EReal) * σ) * b = ((a * b : ℝ) : EReal) * σ := fun a b => by
    rw [EReal.coe_mul, mul_assoc, mul_comm σ, ← mul_assoc]
  have hz : ∀ a : ℝ, Inf ((a : EReal) * σ) ∨ (a : EReal) * σ = 0 := fun a => by
    rcases inf_mul_coe h a with ⟨_, h⟩ | ⟨_, h⟩ <;> simp [h]
  have hn : ∀ a : ℝ, a ≠ 0 → (a : EReal) * σ ≠ 0 := fun a ha => by
    rcases inf_mul_coe h a with ⟨_, h⟩ | ⟨h, _⟩
    · intro h0; rw [h0] at h; rcases h with h | h <;> simp at h
    · exact absurd h ha
  unfold keyE keyO
  rw [← EReal.coe_neg, h2, h2, h2, h2]
  by_cases hE : x * c ≠ 0 ∨ w * -s ≠ 0
  · exact .inl (mag_add (hz _) (hz _) (hE.imp (hn _) (hn _)))
  · right
    refine mag_add (hz _) (hz _) ((?_ : w * c ≠ 0 ∨ x * s ≠ 0).imp (hn _) (hn _))
    by_contra hO
    push Not at hE hO
    rcases hx with hx | hx
    · have h1 : c = 0 := by simpa [hx] using hE.1
      have h3 : s = 0 := by simpa [hx] using hO.2
      rw [h1, h3] at hcs; norm_num at hcs
    · have h1 : s = 0 := by simpa [hx] using hE.2
      have h3 : c = 0 := by simpa [hx] using hO.1
      rw [h1, h3] at hcs; norm_num at hcs

/-- `P` is the largest of the numbers `f`. -/
def IsMax {ι : Type} (P : EReal) (f : ι → EReal) : Prop := (∃ i, f i = P) ∧ ∀ i, f i ≤ P

theorem IsMax.unique {ι : Type} {P Q : EReal} {f : ι → EReal} (hP : IsMax P f) (hQ : IsMax Q f) : P = Q := by
  obtain ⟨⟨i, hi⟩, hP⟩ := hP
  obtain ⟨⟨j, hj⟩, hQ⟩ := hQ
  exact le_antisymm (hi ▸ hQ i) (hj ▸ hP j)

/-- Of finitely many numbers one is the largest. -/
theorem exists_isMax {ι : Type} [Fintype ι] [Nonempty ι] (f : ι → EReal) : ∃ P, IsMax P f := by
  obtain ⟨i, _, hi⟩ := Finset.exists_max_image Finset.univ f Finset.univ_nonempty
  exact ⟨f i, ⟨i, rfl⟩, fun j => hi j (Finset.mem_univ j)⟩

/-- The coordinate of an even (0) or odd (1) member of a pair. -/
abbrev coord (i : Fin 48 × Fin 2) : Fin 96 := ⟨2 * i.1.val + i.2.val, by omega⟩

theorem coord_surjective : Function.Surjective coord := fun d =>
  ⟨(⟨d.val / 2, by omega⟩, ⟨d.val % 2, by omega⟩), Fin.ext (by show 2 * (d.val / 2) + d.val % 2 = d.val; omega)⟩

/-- The greatest value over a covering of the indices is the greatest. -/
theorem IsMax.reindex {ι κ : Type} {P : EReal} {f : κ → EReal} (e : ι → κ) (he : Function.Surjective e) (h : IsMax P fun i => f (e i)) : IsMax P f := by
  obtain ⟨⟨i, hi⟩, hle⟩ := h
  refine ⟨⟨e i, hi⟩, fun j => ?_⟩
  obtain ⟨i', rfl⟩ := he j
  exact hle i'

/-- The greatest of the greatest of each part is the greatest of all. -/
theorem IsMax.parts {ι κ : Type} {Q : EReal} {P : ι → EReal} {f : ι → κ → EReal} (hQ : IsMax Q P) (hP : ∀ i, IsMax (P i) (f i)) :
    IsMax Q fun j : ι × κ => f j.1 j.2 := by
  obtain ⟨⟨i, hi⟩, hle⟩ := hQ
  obtain ⟨⟨n, hn⟩, _⟩ := hP i
  exact ⟨⟨(i, n), hn.trans hi⟩, fun j => ((hP j.1).2 j.2).trans (hle j.1)⟩

theorem isMax_two (a b : EReal) : IsMax (max a b) fun e : Fin 2 => if e = 0 then a else b := by
  refine ⟨?_, fun e => ?_⟩
  · rcases le_total a b with h | h
    · exact ⟨1, by rw [max_eq_right h]; rfl⟩
    · exact ⟨0, by rw [max_eq_left h]; rfl⟩
  · dsimp only
    split
    · exact le_max_left a b
    · exact le_max_right a b

theorem isMax_eight (f : Fin 8 → EReal) :
    IsMax (max (max (max (max (max (max (max (f 0) (f 1)) (f 2)) (f 3)) (f 4)) (f 5)) (f 6)) (f 7)) f := by
  obtain ⟨P, hP⟩ := exists_isMax f
  have : max (max (max (max (max (max (max (f 0) (f 1)) (f 2)) (f 3)) (f 4)) (f 5)) (f 6)) (f 7) = P := by
    apply le_antisymm
    · simp only [max_le_iff, hP.2, and_self]
    · obtain ⟨i, rfl⟩ := hP.1
      fin_cases i <;> simp
  rw [this]
  exact hP

/-- A fold of maxima from the least number is the greatest value. -/
theorem fold_isMax {ι : Type} [Fintype ι] [Nonempty ι] (f : ι → EReal) : IsMax (Finset.fold max (⊥ : EReal) f Finset.univ) f := by
  obtain ⟨P, hP⟩ := exists_isMax f
  have : Finset.fold max (⊥ : EReal) f Finset.univ = P := by
    apply le_antisymm
    · rw [Finset.fold_max_le]
      exact ⟨bot_le, fun i _ => hP.2 i⟩
    · rw [Finset.le_fold_max]
      obtain ⟨i, hi⟩ := hP.1
      exact .inr ⟨i, Finset.mem_univ i, hi.ge⟩
  rw [this]
  exact hP

variable (X W C S : Fin 48 → ℝ)

/-- The rotated codes of a head, its pairs in order … -/
def codes (i : Fin 48 × Fin 2) : EReal := if i.2 = 0 then codeE (X i.1) (W i.1) (C i.1) (S i.1) else codeO (X i.1) (W i.1) (C i.1) (S i.1)
/-- … and its rotated keys. -/
def keys (i : Fin 48 × Fin 2) : EReal := if i.2 = 0 then keyE (X i.1) (W i.1) (C i.1) (S i.1) σ else keyO (X i.1) (W i.1) (C i.1) (S i.1) σ

theorem codes_real (i : Fin 48 × Fin 2) : ∃ r : ℝ, codes X W C S i = r ∧ ∀ q : ℝ, keys q X W C S i = ((r * q : ℝ) : EReal) := by
  unfold codes keys
  split
  · exact ⟨_, codeE_eq _ _ _ _, fun q => keyE_real _ _ _ _ q⟩
  · exact ⟨_, codeO_eq _ _ _ _, fun q => keyO_real _ _ _ _ q⟩

/-- If the rotated codes are all zero, so are the codes. -/
theorem codes_zero (hcs : ∀ p, C p * C p + S p * S p = 1) (h : ∀ i, codes X W C S i = 0) (p : Fin 48) : X p = 0 ∧ W p = 0 := by
  have hE := h (p, 0)
  have hO := h (p, 1)
  simp only [codes, codeE_eq, codeO_eq, reduceIte, one_ne_zero] at hE hO
  have hE : X p * C p - W p * S p = 0 := by exact_mod_cast hE
  have hO : W p * C p + X p * S p = 0 := by exact_mod_cast hO
  have hc := hcs p
  constructor
  · have : X p * (C p * C p + S p * S p) = 0 := by linear_combination C p * hE + S p * hO
    rwa [hc, mul_one] at this
  · have : W p * (C p * C p + S p * S p) = 0 := by linear_combination C p * hO - S p * hE
    rwa [hc, mul_one] at this

theorem keys_zero {p : Fin 48} (h : X p = 0 ∧ W p = 0) (e : Fin 2) : keys σ X W C S (p, e) = 0 := by
  unfold keys keyE keyO
  simp [h.1, h.2]

theorem codes_zero' {p : Fin 48} (h : X p = 0 ∧ W p = 0) (e : Fin 2) : codes X W C S (p, e) = 0 := by
  unfold codes codeE codeO
  simp [h.1, h.2]

theorem real_or_inf (σ : EReal) : (∃ r : ℝ, σ = r) ∨ Inf σ := by
  induction σ with
  | bot => exact .inr (.inr rfl)
  | top => exact .inr (.inl rfl)
  | coe r => exact .inl ⟨r, rfl⟩

/-- The largest magnitude of the rotated keys is that of the rotated codes times the scale's. -/
theorem peak_eq (hcs : ∀ p, C p * C p + S p * S p = 1) {M : EReal} (hM : IsMax M fun i => mag (codes X W C S i)) :
    IsMax (M * mag σ) fun i => mag (keys σ X W C S i) := by
  rcases real_or_inf σ with ⟨q, rfl⟩ | hσ
  · have hk : ∀ i, mag (keys q X W C S i) = mag (codes X W C S i) * mag q := fun i => by
      obtain ⟨r, h1, h2⟩ := codes_real X W C S i
      rw [h1, h2, mag_coe, mag_coe, mag_coe, abs_mul, EReal.coe_mul]
    obtain ⟨⟨i, hi⟩, hM⟩ := hM
    refine ⟨⟨i, by dsimp only; rw [hk]; dsimp only at hi; rw [hi]⟩, fun j => ?_⟩
    simp only [hk]
    exact mul_le_mul_of_nonneg_right (hM j) (by rw [mag_coe]; exact_mod_cast abs_nonneg q)
  · rw [mag_inf hσ]
    obtain ⟨⟨i, hi⟩, hM⟩ := hM
    obtain ⟨r, hr, -⟩ := codes_real X W C S i
    simp only [hr, mag_coe] at hi
    subst hi
    by_cases h0 : r = 0
    · have hz : ∀ j, codes X W C S j = 0 := fun j => by
        obtain ⟨r', hr', -⟩ := codes_real X W C S j
        have := hM j
        simp only [hr', mag_coe, h0, abs_zero] at this
        have : |r'| ≤ 0 := by exact_mod_cast this
        rw [hr', abs_nonpos_iff.mp this]; rfl
      have hk : ∀ j, keys σ X W C S j = 0 := fun j => keys_zero σ X W C S (codes_zero X W C S hcs hz j.1) j.2
      subst h0
      simp only [hk, abs_zero, EReal.coe_zero, zero_mul]
      exact ⟨⟨i, by simp [mag]⟩, fun _ => by simp [mag]⟩
    · have hx : X i.1 ≠ 0 ∨ W i.1 ≠ 0 := by
        by_contra hx
        push Not at hx
        have := codes_zero' X W C S hx i.2
        rw [Prod.mk.eta, hr] at this
        exact h0 (by exact_mod_cast this)
      rw [EReal.coe_mul_top_of_pos (abs_pos.mpr h0)]
      refine ⟨?_, fun _ => le_top⟩
      rcases key_inf (X i.1) (W i.1) (C i.1) (S i.1) σ (hcs i.1) hσ hx with h | h
      · exact ⟨(i.1, 0), by simpa [keys] using h⟩
      · exact ⟨(i.1, 1), by simpa [keys] using h⟩

/-- A rotated key over the new scale is the rotated code times the old scale over the new one. -/
theorem ratio_eq (hcs : ∀ p, C p * C p + S p * S p = 1) {M : EReal} (hM : IsMax M fun i => mag (codes X W C S i)) (i : Fin 48 × Fin 2) :
    Ideal.div (keys σ X W C S i) (scale (M * mag σ)) = codes X W C S i * Ideal.div σ (scale (M * mag σ)) := by
  obtain ⟨r, hr, hq⟩ := codes_real X W C S i
  have hP := peak_eq σ X W C S hcs hM
  rcases real_or_inf σ with ⟨q, rfl⟩ | hσ
  · obtain ⟨⟨j, hj⟩, -⟩ := hM
    obtain ⟨r', hr', -⟩ := codes_real X W C S j
    simp only [hr', mag_coe] at hj
    obtain ⟨z, hz, hz0⟩ : ∃ z : ℝ, scale (M * mag q) = z ∧ z ≠ 0 := by
      unfold scale
      rw [← hj, mag_coe, ← EReal.coe_mul, c127]
      split
      · exact ⟨1, rfl, one_ne_zero⟩
      · rename_i h
        rw [Ideal.div, if_neg (by norm_num), ← EReal.coe_inv, ← EReal.coe_mul]
        refine ⟨_, rfl, mul_ne_zero (fun h0 => h (by rw [h0]; rfl)) (by norm_num)⟩
    rw [hz, hr, hq, Ideal.div, Ideal.div, if_neg (by exact_mod_cast hz0), if_neg (by exact_mod_cast hz0)]
    rw [← EReal.coe_inv, ← EReal.coe_mul, ← EReal.coe_mul, ← EReal.coe_mul]
    congr 1
    ring
  · by_cases h0 : ∀ j, codes X W C S j = 0
    · have hk : keys σ X W C S i = 0 := keys_zero σ X W C S (codes_zero X W C S hcs h0 i.1) i.2
      obtain ⟨⟨j, hj⟩, -⟩ := hM
      have hM0 : M = 0 := by rw [← hj]; simp [h0, mag]
      rw [hk, h0, hM0]
      simp [scale, Ideal.div]
    · push Not at h0
      obtain ⟨j, hj⟩ := h0
      obtain ⟨r', hr', -⟩ := codes_real X W C S j
      have hr0 : r' ≠ 0 := fun h => hj (by rw [hr', h]; rfl)
      have hle := hM.2 j
      simp only [hr', mag_coe] at hle
      have hMpos : 0 < M := lt_of_lt_of_le (by exact_mod_cast abs_pos.mpr hr0) hle
      have hs : scale (M * mag σ) = ⊤ := by
        rw [mag_inf hσ, EReal.mul_top_of_pos hMpos]
        unfold scale
        rw [if_neg (by simp), c127, Ideal.div, if_neg (by norm_num), ← EReal.coe_inv, EReal.top_mul_coe_of_pos (by norm_num)]
      rw [hs, Ideal.div, Ideal.div]
      simp

end Cert.Token

end
-- ==== Proof.Values.lean ====
/- The values that a block of the kernel computes, over the extended reals: the turned codes, a head's peak, its scale, its new codes. -/
module

public import proofs.«01_k».proof.Proof.Block
public import proofs.«01_k».proof.Proof.Token
public import Idealize.ShloMosaic.Lib.BitcastPair

@[expose] public section

set_option maxRecDepth 16384

noncomputable section

namespace Cert.KernelIdeal.Body

open Idealize.ShloMosaic Idealize.ShloMosaic.Pointwise Cert.KernelIdeal Cert.KernelIdeal.Gen Cert.Steps

theorem evens_at (v : Vec Ideal S1x1x96x128 .i8) (p : Fin 48) (l : Fin 128) :
    evens v (ix2 p l) = (((v (ix4 0 0 (Token.coord (p, 0)) l)).toInt : ℝ) : EReal) := by
  pointwise [evens, asFloat]
  rfl
theorem odds_at (v : Vec Ideal S1x1x96x128 .i8) (p : Fin 48) (l : Fin 128) :
    odds v (ix2 p l) = (((v (ix4 0 0 (Token.coord (p, 1)) l)).toInt : ℝ) : EReal) := by
  pointwise [odds, asFloat]
  rfl

variable (v : Vec Ideal S1x1x96x128 .i8) (c s : Vec Ideal S1x48x128 .f32)

theorem turnEven_at (p : Fin 48) (l : Fin 128) :
    turnEven v c s (ix2 p l) = evens v (ix2 p l) * c (ix3 0 p l) - odds v (ix2 p l) * s (ix3 0 p l) := by
  pointwise [turnEven]
theorem turnOdd_at (p : Fin 48) (l : Fin 128) :
    turnOdd v c s (ix2 p l) = odds v (ix2 p l) * c (ix3 0 p l) + evens v (ix2 p l) * s (ix3 0 p l) := by
  pointwise [turnOdd]

theorem headPeak_at (j : Fin 8) (l : Fin 128) :
    headPeak v c s (ix2 j l) = Finset.fold max (⊥ : EReal)
      (fun n : Fin 6 => max (Token.mag (turnEven v c s (ix2 ⟨n.val * 8 + j.val, by omega⟩ l))) (Token.mag (turnOdd v c s (ix2 ⟨n.val * 8 + j.val, by omega⟩ l))))
      Finset.univ := by
  rw [← Token.cInf]
  pointwise [headPeak]
  rfl

variable (p : Fin 8 → Vec Ideal S1x8x128 .f32) (a : Vec Ideal S1x8x128 .f32) (live : BitVec 32)

theorem slabPeak_at (i : Fin 8) (l : Fin 128) : slabPeak p (ix2 i l) =
    max (max (max (max (max (max (max (p 0 (ix3 0 i l)) (p 1 (ix3 0 i l))) (p 2 (ix3 0 i l))) (p 3 (ix3 0 i l))) (p 4 (ix3 0 i l))) (p 5 (ix3 0 i l)))
      (p 6 (ix3 0 i l))) (p 7 (ix3 0 i l)) := by
  pointwise [slabPeak]

theorem newScale_at (i : Fin 8) (l : Fin 128) : newScale live p a (ix2 i l) =
    if (BitVec.ofNat 32 l.val).slt live = true then Token.scale (slabPeak p (ix2 i l) * Token.mag (a (ix3 0 i l))) else 1 := by
  pointwise [newScale, groupMax, validLanes]
  show Scalar.select (IntOp.andi (BitVec.ofBool ((BitVec.ofNat 32 l.val).slt live))
        (BitVec.ofBool (decide (slabPeak p (ix2 i l) * Token.mag (a (ix3 0 i l)) ≠ 0))))
      (Ideal.div (slabPeak p (ix2 i l) * Token.mag (a (ix3 0 i l))) (Ideal.ofBits FTy.f32 1123942400#32)) 1 = _
  unfold Token.scale
  generalize slabPeak p (ix2 i l) * Token.mag (a (ix3 0 i l)) = P
  cases (BitVec.ofNat 32 l.val).slt live <;> by_cases h : P = 0
  · rw [decide_eq_false (not_not.2 h)]; rfl
  · rw [decide_eq_true h]; rfl
  · rw [decide_eq_false (not_not.2 h), if_pos rfl, if_pos h]; rfl
  · rw [decide_eq_true h, if_pos rfl, if_neg h]; rfl

theorem ratio_at (i : Fin 8) (l : Fin 128) : ratio live p a (ix2 i l) =
    if (BitVec.ofNat 32 l.val).slt live = true then Ideal.div (a (ix3 0 i l)) (newScale live p a (ix2 i l)) else 0 := by
  pointwise [ratio, validLanes]
  show Scalar.select (BitVec.ofBool ((BitVec.ofNat 32 l.val).slt live)) _ _ = _
  cases (BitVec.ofNat 32 l.val).slt live <;> rfl

theorem quantise_at (y : Vec Ideal S1x1x48x128 .f32) (r : Vec Ideal S8x128 .f32) (q : Fin 48) (l : Fin 128) (f : EReal) (hr : ∀ n, r (ix2 n l) = f) :
    quantise y r (ix2 q l) = FloatOps.fptosi (F := Ideal) (φ := .f32) 32 (min (Ideal.ofBits .f32 0x42FE0000#32) (max (Ideal.ofBits .f32 0xC2FE0000#32)
    (Ideal.liftRound Ideal.roundHalfEven (y (ix4 0 0 q l) * f)))) := by
  pointwise [quantise, rows48]
  simp only [hr, dite_eq_ite, ite_self]

/-- The bits of two half words in one. -/
theorem append_bit (x y : BitVec 16) (i : Nat) :
    (y ++ x : BitVec 32).getLsbD i = if i < 16 then x.getLsbD i else y.getLsbD (i - 16) := BitVec.getLsbD_append

/-- Two half words in one: the lower is the first, the upper the second; each cut to a byte is the number's lowest byte. -/
theorem low_byte (x y : BitVec 32) :
    BitVec.setWidth 8 ((y.setWidth 16 ++ x.setWidth 16 : BitVec 32).extractLsb' (16 * 0) 16) = x.setWidth 8
      ∧ BitVec.setWidth 8 ((y.setWidth 16 ++ x.setWidth 16 : BitVec 32).extractLsb' (16 * 1) 16) = y.setWidth 8 := by
  constructor <;> refine BitVec.eq_of_getLsbD_eq fun i hi => ?_
  · have h1 : i < 16 := by omega
    simp [BitVec.getLsbD_setWidth, BitVec.getLsbD_extractLsb', append_bit, hi, h1]
  · have h1 : i < 16 := by omega
    simp [BitVec.getLsbD_setWidth, BitVec.getLsbD_extractLsb', append_bit, hi, h1]

theorem pack_eq (x y : IVec S48x128 32) (j : S48x128.Idx) :
    packElementwiseI16 x y j = (y j).setWidth 16 ++ (x j).setWidth 16 := by
  show (0#32 ||| (((x j).setWidth 16).setWidth 32 <<< (0 * 16))) ||| (((y j).setWidth 16).setWidth 32 <<< (1 * 16)) = _
  refine BitVec.eq_of_getLsbD_eq fun i hi => ?_
  rw [append_bit]
  by_cases h1 : i < 16
  · simp [BitVec.getLsbD_setWidth, BitVec.getLsbD_append, hi, h1]
  · have h2 : i - 16 < 16 := by omega
    have h3 : i - 16 < 32 := by omega
    simp [BitVec.getLsbD_setWidth, BitVec.getLsbD_append, hi, h1, h2, h3]

theorem newCodes_at (ye yo : Vec Ideal S1x1x48x128 .f32) (r : Vec Ideal S8x128 .f32) (i : Fin 48 × Fin 2) (l : Fin 128) (f : EReal)
    (hr : ∀ n, r (ix2 n l) = f) :
    newCodes r ye yo (ix4 0 0 (Token.coord i) l) = Token.quant ((if i.2 = 0 then ye (ix4 0 0 i.1 l) else yo (ix4 0 0 i.1 l)) * f) := by
  obtain ⟨q, e⟩ := i
  have h1 : newCodes r ye yo (ix4 0 0 (Token.coord (q, e)) l) = BitVec.setWidth 8
      (bitcast S96x128 16 (packElementwiseI16 (quantise ye r) (quantise yo r)) bitcasts_S48x128_w32_S96x128_w16 (ix2 (Token.coord (q, e)) l)) := by
    pointwise [newCodes]
  have hrow : S96x128.row (ix2 (Token.coord (q, e)) l) = 2 * q.val + e.val := rfl
  have hsrc : ∀ hp, (bitcasts_S48x128_w32_S96x128_w16).srcIdx (ix2 (Token.coord (q, e)) l) (S96x128.row (ix2 (Token.coord (q, e)) l) / 2) hp = ix2 q l := by
    intro hp
    funext a
    fin_cases a
    · exact Fin.ext (by show (2 * q.val + e.val) / 2 = q.val; omega)
    · rfl
  rw [h1, bitcast_32_16, hsrc, pack_eq, hrow]
  unfold Token.quant
  by_cases he : e = 0
  · subst he
    rw [if_pos rfl, ← quantise_at ye r q l f hr]
    have : (2 * q.val + ((0 : Fin 2) : Nat)) % 2 = 0 := by show (2 * q.val + 0) % 2 = 0; omega
    rw [this, (low_byte _ _).1]
  · obtain rfl : e = 1 := by omega
    rw [if_neg (show ¬ (1 : Fin 2) = 0 by decide), ← quantise_at yo r q l f hr]
    have : (2 * q.val + ((1 : Fin 2) : Nat)) % 2 = 1 := by show (2 * q.val + 1) % 2 = 1; omega
    rw [this, (low_byte _ _).2]

/-! ## A head at a lane -/

variable (k : Fin k0_t1_loop.trips) (σ : St Ideal) (h : Fin 32) (l : Fin 128)

/-- A head's even codes at a lane … -/
abbrev evensOf (q : Fin 48) : ℝ := ((St.v k σ h (ix4 0 0 (Token.coord (q, 0)) l)).toInt : ℝ)
/-- … and odd ones. -/
abbrev oddsOf (q : Fin 48) : ℝ := ((St.v k σ h (ix4 0 0 (Token.coord (q, 1)) l)).toInt : ℝ)

variable (C S : Fin 48 → ℝ) (hC : ∀ q, σ.c (ix3 0 q l) = (C q : EReal)) (hS : ∀ q, σ.s (ix3 0 q l) = (S q : EReal))
include hC hS

theorem even_codes (q : Fin 48) : turnEven (σ.v k h) σ.c σ.s (ix2 q l) = Token.codes (evensOf k σ h l) (oddsOf k σ h l) C S (q, 0) := by
  rw [turnEven_at, evens_at, odds_at, hC, hS]; rfl
theorem odd_codes (q : Fin 48) : turnOdd (σ.v k h) σ.c σ.s (ix2 q l) = Token.codes (evensOf k σ h l) (oddsOf k σ h l) C S (q, 1) := by
  rw [turnOdd_at, evens_at, odds_at, hC, hS]; rfl

/-- The slab's peak of a head is the greatest magnitude of its turned codes. -/
theorem slabPeak_isMax : Token.IsMax (slabPeak (peaks k σ (groupOf h)) (ix2 (placeOf h) l))
    fun i => Token.mag (Token.codes (evensOf k σ h l) (oddsOf k σ h l) C S i) := by
  have hp : ∀ j, peaks k σ (groupOf h) j (ix3 0 (placeOf h) l) = Finset.fold max (⊥ : EReal)
      (fun n : Fin 6 => max (Token.mag (Token.codes (evensOf k σ h l) (oddsOf k σ h l) C S (⟨n.val * 8 + j.val, by omega⟩, 0)))
        (Token.mag (Token.codes (evensOf k σ h l) (oddsOf k σ h l) C S (⟨n.val * 8 + j.val, by omega⟩, 1)))) Finset.univ := by
    intro j
    show headPeak (σ.v k (head (groupOf h) (placeOf h))) σ.c σ.s (ix2 j l) = _
    rw [head_group_place, headPeak_at]
    simp only [even_codes k σ h l C S hC hS, odd_codes k σ h l C S hC hS]
  have h8 := Token.isMax_eight fun j => peaks k σ (groupOf h) j (ix3 0 (placeOf h) l)
  have key := (h8.parts fun j => by rw [hp j]; exact Token.fold_isMax _).parts fun jn => Token.isMax_two _ _
  rw [slabPeak_at]
  refine Token.IsMax.reindex (fun i : (Fin 8 × Fin 6) × Fin 2 => ((⟨i.1.2.val * 8 + i.1.1.val, by omega⟩, i.2) : Fin 48 × Fin 2)) ?_ ?_
  · rintro ⟨q, e⟩
    exact ⟨((⟨q.val % 8, by omega⟩, ⟨q.val / 8, by omega⟩), e), Prod.ext (Fin.ext (by show q.val / 8 * 8 + q.val % 8 = q.val; omega)) rfl⟩
  · convert key using 2 with i
    obtain ⟨⟨j, n⟩, e⟩ := i
    by_cases he : e = 0
    · subst he; rfl
    · obtain rfl : e = 1 := by omega
      rfl

variable (live : BitVec 32)

/-- A lane in the cache: the scale and codes are those of the head's greatest magnitude. -/
theorem lane_inside (hl : (BitVec.ofNat 32 l.val).slt live = true) {M : EReal}
    (hM : Token.IsMax M fun i => Token.mag (Token.codes (evensOf k σ h l) (oddsOf k σ h l) C S i)) :
    scaleAt k σ live h l = Token.scale (M * Token.mag (σ.a k (groupOf h) (ix3 0 (placeOf h) l)))
      ∧ ∀ i, codeAt k σ live h (Token.coord i) l = Token.quant (Token.codes (evensOf k σ h l) (oddsOf k σ h l) C S i
        * Ideal.div (σ.a k (groupOf h) (ix3 0 (placeOf h) l)) (Token.scale (M * Token.mag (σ.a k (groupOf h) (ix3 0 (placeOf h) l))))) := by
  have hP := (slabPeak_isMax k σ h l C S hC hS).unique hM
  refine ⟨?_, fun i => ?_⟩
  · unfold scaleAt
    rw [newScale_at, if_pos hl, hP]
  · unfold codeAt
    have hr : ∀ n, factorOf k σ live h (ix2 n l) = Ideal.div (σ.a k (groupOf h) (ix3 0 (placeOf h) l)) (Token.scale (M * Token.mag (σ.a k (groupOf h) (ix3 0 (placeOf h) l)))) := fun n => by
      show ratio live (peaks k σ (groupOf h)) (σ.a k (groupOf h)) (ix2 (placeOf h) l) = _
      rw [ratio_at, if_pos hl, newScale_at, if_pos hl, hP]
    rw [newCodes_at _ _ _ i l _ hr]
    congr 2
    obtain ⟨q, e⟩ := i
    by_cases he : e = 0
    · subst he; exact even_codes k σ h l C S hC hS q
    · obtain rfl : e = 1 := by omega
      exact odd_codes k σ h l C S hC hS q

omit hC hS in
/-- A lane past the cache: scale one, codes zero. -/
theorem lane_past (hl : ¬ (BitVec.ofNat 32 l.val).slt live = true) :
    scaleAt k σ live h l = 1 ∧ ∀ i, codeAt k σ live h (Token.coord i) l = 0#8 := by
  refine ⟨?_, fun i => ?_⟩
  · unfold scaleAt
    rw [newScale_at, if_neg hl]
  · unfold codeAt
    have hr : ∀ n, factorOf k σ live h (ix2 n l) = 0 := fun n => by
      show ratio live (peaks k σ (groupOf h)) (σ.a k (groupOf h)) (ix2 (placeOf h) l) = _
      rw [ratio_at, if_neg hl]
    rw [newCodes_at _ _ _ i l _ hr, mul_zero, Token.quant_zero]

end Cert.KernelIdeal.Body

end
-- ==== Proof.Entry.lean ====
/- What a point finds: the table's word, and its four input blocks in terms of the arguments. -/
module

public import proofs.«01_k».proof.Proof.Run
public import proofs.«01_k».proof.Proof.Values

@[expose] public section

set_option maxRecDepth 16384

noncomputable section

namespace Cert.KernelIdeal.Body

open Idealize.ShloMosaic Idealize.ShloMosaic.TcCoe Idealize.ShloMosaic.Tactic Idealize.ShloMosaic.Pointwise
open Cert.KernelIdeal Cert.KernelIdeal.Gen Cert.Steps

variable (m : (ℓ : Loc nD τ sig) → Buf (Elt Ideal) ℓ)

/-- The arguments: the codes, their scales, the lengths, the shifts. -/
def argK (c : Dev nD) : S2x4096x32x96.Idx → BitVec 8 := m ((c.tc : Thread nD τ).loc main_arg0)
def argA (c : Dev nD) : S2x4096x32.Idx → EReal := m ((c.tc : Thread nD τ).loc main_arg1)
def argL (c : Dev nD) : S2.Idx → BitVec 32 := m ((c.tc : Thread nD τ).loc main_arg2)
def argD (c : Dev nD) : S2.Idx → BitVec 32 := m ((c.tc : Thread nD τ).loc main_arg3)

/-- The angle of each sequence and pair of coordinates, as the host computes it. -/
def angle (D : IVec S2 32) : FVec Ideal S2x48 .f32 :=
  mulf (broadcastInDim S2x48 ![0, 1] bcast_S2x1_S2x48_0_1 (broadcastInDim S2x1 ![0] bcast_S2_S2x1_0 (sitofp .f32 D)))
    (broadcastInDim S2x48 ![0, 1] bcast_S1x48_S2x48_0_1 (broadcastInDim S1x48 ![1] bcast_S48_S1x48_1
      (Host.powf (broadcastInDim S48 ![] bcast_S_S48 (constant S_ .f32 0x48F42400#32))
        (Host.divf (Host.negf (addf (broadcastInDim S48 ![] bcast_S_S48 (constant S_ .f32 0x00000000#32))
          (mulf (broadcastInDim S48 ![] bcast_S_S48 (constant S_ .f32 0x40000000#32)) (sitofp .f32 (iotaInDim S48 32 0)))))
          (broadcastInDim S48 ![] bcast_S_S48 (constant S_ .f32 0x42C00000#32))))))

/-- A table over the lanes. -/
def overLanes (x : FVec Ideal S2x48 .f32) : FVec Ideal S2x48x128 .f32 :=
  broadcastInDim S2x48x128 ![0, 1, 2] bcast_S2x48x1_S2x48x128_0_1_2 (broadcastInDim S2x48x1 ![0, 1] bcast_S2x48_S2x48x1_0_1 x)

theorem cos_at (D : IVec S2 32) (b : Fin 2) (p : Fin 48) (l : Fin 128) :
    overLanes (Host.cos (angle D)) (ix3 b p l) = Ideal.cos (Token.angle (D (ix1 b)) p) := by
  pointwise [overLanes, angle, Token.angle]
theorem sin_at (D : IVec S2 32) (b : Fin 2) (p : Fin 48) (l : Fin 128) :
    overLanes (Host.sin (angle D)) (ix3 b p l) = Ideal.sin (Token.angle (D (ix1 b)) p) := by
  pointwise [overLanes, angle, Token.angle]

theorem entry_cos (c : Dev nD) : entry m c (Proc.devRef .tc main_v19) = overLanes (Host.cos (angle (argD m c))) := by
  unfold entry
  after_results_simp
  rfl
theorem entry_sin (c : Dev nD) : entry m c (Proc.devRef .tc main_v21) = overLanes (Host.sin (angle (argD m c))) := by
  unfold entry
  after_results_simp
  rfl
theorem entry_codes (c : Dev nD) : entry m c (Proc.devRef .tc main_v22)
    = transpose S2x32x96x4096 [0, 2, 3, 1] (argK m c) transposes_S2x4096x32x96_S2x32x96x4096_0_2_3_1 := by
  unfold entry
  after_results_simp
  rfl
theorem entry_scales (c : Dev nD) : entry m c (Proc.devRef .tc main_v23)
    = transpose S2x32x4096 [0, 2, 1] (argA m c) transposes_S2x4096x32_S2x32x4096_0_2_1 := by
  unfold entry
  after_results_simp
  rfl

/-- The table's word is the length of the point's sequence. -/
theorem word_eq (t : Fin grid0.N) : word (tbl m) (grid0.coords t) = argL m 0 (ix1 (rowOf t)) := by
  have h : tbl m 0 = argL m 0 := entry_arg m 0 main_arg2 (.inr (.inr (.inl rfl)))
  have hi : ∀ b : Fin 2, (Scalar.indexCast (BitVec.ofNat 32 b.val)).toNat = b.val := by decide
  unfold word
  show (tbl m 0) _ = _
  rw [h]
  refine congrArg (argL m 0) (funext fun a : Fin 1 => Fin.ext ?_)
  match a with
  | 0 => exact (hi (rowOf t))

/-- The token block whose codes and scales point `t` fetches. -/
def fetched (t : Fin grid0.N) : Fin 8 := ⟨(last (tbl m) (grid0.coords t)).toNat, Nat.lt_of_le_of_lt (last_le _ _) (grid0.coords t 1).isLt⟩

theorem row_toNat (t : Fin grid0.N) : (BitVec.ofNat 32 (grid0.coords t 0).val).toNat = (rowOf t).val := by
  have hi : ∀ b : Fin 2, (BitVec.ofNat 32 b.val).toNat = b.val := by decide
  exact hi (rowOf t)

theorem map_0 : ∀ t : Fin grid0.N, cc0_transform_0 (grid0.coords t) = ![(rowOf t).val, 0, 0] := by decide +kernel
theorem map_1 : ∀ t : Fin grid0.N, cc0_transform_1 (grid0.coords t) = ![(rowOf t).val, 0, 0] := by decide +kernel
theorem map_2 (t : Fin grid0.N) : cc0_transform_2 k0_off1_inb numel1_S1 (tbl m) (grid0.coords t)
    = ![(rowOf t).val, 0, 0, (fetched m t).val] := by
  have h : cc0_transform_2 k0_off1_inb numel1_S1 (tbl m) (grid0.coords t)
    = ![(BitVec.ofNat 32 (grid0.coords t 0).val).toNat, 0, 0, (fetched m t).val] := by chain_rfl
  rw [h, row_toNat]
theorem map_3 (t : Fin grid0.N) : cc0_transform_3 k0_off1_inb numel1_S1 (tbl m) (grid0.coords t)
    = ![(rowOf t).val, 0, (fetched m t).val] := by
  have h : cc0_transform_3 k0_off1_inb numel1_S1 (tbl m) (grid0.coords t)
    = ![(BitVec.ofNat 32 (grid0.coords t 0).val).toNat, 0, (fetched m t).val] := by chain_rfl
  rw [h, row_toNat]

theorem emb_0 (t : Fin grid0.N) (p : Fin 48) (l : Fin 128) :
    (((Cf m).win 0).blk t).view.emb (ix3 (0 : Fin 1) p l : S1x48x128.Idx) = (ix3 (rowOf t) p l : S2x48x128.Idx) := by
  have h : ∀ a : Fin 3, (((((Cf m).win 0).blk t).view.emb (ix3 (0 : Fin 1) p l : S1x48x128.Idx)) a).val
      = cc0_transform_0 (grid0.coords t) a * S1x48x128.size a + 1 * ((ix3 (0 : Fin 1) p l : S1x48x128.Idx) a).val := fun a => rfl
  refine funext fun a : Fin 3 => Fin.ext ((h a).trans ?_)
  rw [map_0]
  match a with
  | 0 => show (rowOf t).val * 1 + 1 * 0 = (rowOf t).val; omega
  | 1 => show 0 * 48 + 1 * p.val = p.val; omega
  | 2 => show 0 * 128 + 1 * l.val = l.val; omega

theorem emb_1 (t : Fin grid0.N) (p : Fin 48) (l : Fin 128) :
    (((Cf m).win 1).blk t).view.emb (ix3 (0 : Fin 1) p l : S1x48x128.Idx) = (ix3 (rowOf t) p l : S2x48x128.Idx) := by
  have h : ∀ a : Fin 3, (((((Cf m).win 1).blk t).view.emb (ix3 (0 : Fin 1) p l : S1x48x128.Idx)) a).val
      = cc0_transform_1 (grid0.coords t) a * S1x48x128.size a + 1 * ((ix3 (0 : Fin 1) p l : S1x48x128.Idx) a).val := fun a => rfl
  refine funext fun a : Fin 3 => Fin.ext ((h a).trans ?_)
  rw [map_1]
  match a with
  | 0 => show (rowOf t).val * 1 + 1 * 0 = (rowOf t).val; omega
  | 1 => show 0 * 48 + 1 * p.val = p.val; omega
  | 2 => show 0 * 128 + 1 * l.val = l.val; omega

theorem emb_2 (t : Fin grid0.N) (j1 : Fin 32) (j2 : Fin 96) (j3 : Fin 512) :
    (((Cf m).win 2).blk t).view.emb (ix4 (0 : Fin 1) j1 j2 j3 : S1x32x96x512.Idx)
      = (ix4 (rowOf t) j1 j2 (tokenOf (fetched m t) j3) : S2x32x96x4096.Idx) := by
  have h : ∀ a : Fin 4, (((((Cf m).win 2).blk t).view.emb (ix4 (0 : Fin 1) j1 j2 j3 : S1x32x96x512.Idx)) a).val
      = cc0_transform_2 k0_off1_inb numel1_S1 (tbl m) (grid0.coords t) a * S1x32x96x512.size a + 1 * ((ix4 (0 : Fin 1) j1 j2 j3 : S1x32x96x512.Idx) a).val := fun a => rfl
  refine funext fun a : Fin 4 => Fin.ext ((h a).trans ?_)
  rw [map_2]
  match a with
  | 0 => show (rowOf t).val * 1 + 1 * 0 = (rowOf t).val; omega
  | 1 => show 0 * 32 + 1 * j1.val = j1.val; omega
  | 2 => show 0 * 96 + 1 * j2.val = j2.val; omega
  | 3 => show (fetched m t).val * 512 + 1 * j3.val = 512 * (fetched m t).val + j3.val; omega

theorem emb_3 (t : Fin grid0.N) (j1 : Fin 32) (j3 : Fin 512) :
    (((Cf m).win 3).blk t).view.emb (ix3 (0 : Fin 1) j1 j3 : S1x32x512.Idx)
      = (ix3 (rowOf t) j1 (tokenOf (fetched m t) j3) : S2x32x4096.Idx) := by
  have h : ∀ a : Fin 3, (((((Cf m).win 3).blk t).view.emb (ix3 (0 : Fin 1) j1 j3 : S1x32x512.Idx)) a).val
      = cc0_transform_3 k0_off1_inb numel1_S1 (tbl m) (grid0.coords t) a * S1x32x512.size a + 1 * ((ix3 (0 : Fin 1) j1 j3 : S1x32x512.Idx) a).val := fun a => rfl
  refine funext fun a : Fin 3 => Fin.ext ((h a).trans ?_)
  rw [map_3]
  match a with
  | 0 => show (rowOf t).val * 1 + 1 * 0 = (rowOf t).val; omega
  | 1 => show 0 * 32 + 1 * j1.val = j1.val; omega
  | 2 => show (fetched m t).val * 512 + 1 * j3.val = 512 * (fetched m t).val + j3.val; omega

/-- The blocks of cosines and sines. -/
theorem block_cos (c : Dev nD) (t : Fin grid0.N) (p : Fin 48) (l : Fin 128) :
    entryBlock m c 0 t (ix3 (0 : Fin 1) p l : S1x48x128.Idx) = Ideal.cos (Token.angle (argD m c (ix1 (rowOf t))) p) := by
  have h : entryBlock m c 0 t (ix3 (0 : Fin 1) p l : S1x48x128.Idx)
      = (entry m c (Proc.devRef .tc main_v19)) ((((Cf m).win 0).blk t).view.emb (ix3 (0 : Fin 1) p l : S1x48x128.Idx)) := rfl
  exact h.trans ((congrArg _ (emb_0 m t p l)).trans ((congrFun (entry_cos m c) _).trans (cos_at _ _ _ _)))
theorem block_sin (c : Dev nD) (t : Fin grid0.N) (p : Fin 48) (l : Fin 128) :
    entryBlock m c 1 t (ix3 (0 : Fin 1) p l : S1x48x128.Idx) = Ideal.sin (Token.angle (argD m c (ix1 (rowOf t))) p) := by
  have h : entryBlock m c 1 t (ix3 (0 : Fin 1) p l : S1x48x128.Idx)
      = (entry m c (Proc.devRef .tc main_v21)) ((((Cf m).win 1).blk t).view.emb (ix3 (0 : Fin 1) p l : S1x48x128.Idx)) := rfl
  exact h.trans ((congrArg _ (emb_1 m t p l)).trans ((congrFun (entry_sin m c) _).trans (sin_at _ _ _ _)))

theorem turn_codes (K : S2x4096x32x96.Idx → BitVec 8) (b : Fin 2) (h : Fin 32) (d : Fin 96) (T : Fin 4096) :
    transpose S2x32x96x4096 [0, 2, 3, 1] K transposes_S2x4096x32x96_S2x32x96x4096_0_2_3_1 (ix4 b h d T) = K (ix4 b T h d) := by
  pointwise []
theorem turn_scales (A : S2x4096x32.Idx → EReal) (b : Fin 2) (h : Fin 32) (T : Fin 4096) :
    transpose S2x32x4096 [0, 2, 1] A transposes_S2x4096x32_S2x32x4096_0_2_1 (ix3 b h T) = A (ix3 b T h) := by
  pointwise []

/-- The block of codes: those of the fetched tokens. -/
theorem block_codes (c : Dev nD) (t : Fin grid0.N) (h : Fin 32) (d : Fin 96) (n : Fin 512) :
    entryBlock m c 2 t (ix4 (0 : Fin 1) h d n : S1x32x96x512.Idx) = argK m c (ix4 (rowOf t) (tokenOf (fetched m t) n) h d) := by
  have e : entryBlock m c 2 t (ix4 (0 : Fin 1) h d n : S1x32x96x512.Idx)
      = (entry m c (Proc.devRef .tc main_v22)) ((((Cf m).win 2).blk t).view.emb (ix4 (0 : Fin 1) h d n : S1x32x96x512.Idx)) := rfl
  exact e.trans ((congrArg _ (emb_2 m t h d n)).trans ((congrFun (entry_codes m c) _).trans (turn_codes _ _ _ _ _)))
theorem block_scales (c : Dev nD) (t : Fin grid0.N) (h : Fin 32) (n : Fin 512) :
    entryBlock m c 3 t (ix3 (0 : Fin 1) h n : S1x32x512.Idx) = argA m c (ix3 (rowOf t) (tokenOf (fetched m t) n) h) := by
  have e : entryBlock m c 3 t (ix3 (0 : Fin 1) h n : S1x32x512.Idx)
      = (entry m c (Proc.devRef .tc main_v23)) ((((Cf m).win 3).blk t).view.emb (ix3 (0 : Fin 1) h n : S1x32x512.Idx)) := rfl
  exact e.trans ((congrArg _ (emb_3 m t h n)).trans ((congrFun (entry_scales m c) _).trans (turn_scales _ _ _ _)))

/-- The results at an index. -/
theorem resCodes_at (c : Dev nD) (b : Fin 2) (T : Fin 4096) (h : Fin 32) (d : Fin 96) :
    resCodes m c (ix4 b T h d) = codesAt m c (at_ b (blockOf T)) (ix4 (0 : Fin 1) h d (inBlock T)) := by
  have e : ∀ G : S2x32x96x4096.Idx → BitVec 8, transpose S2x4096x32x96 [0, 3, 1, 2] G transposes_S2x32x96x4096_S2x4096x32x96_0_3_1_2 (ix4 b T h d)
      = G (ix4 b h d T) := by intro G; pointwise []
  exact (e _).trans rfl
theorem resScale_at (c : Dev nD) (b : Fin 2) (T : Fin 4096) (h : Fin 32) :
    resScale m c (ix3 b T h) = scalesAt m c (at_ b (blockOf T)) (ix3 (0 : Fin 1) h (inBlock T)) := by
  have e : ∀ G : S2x32x4096.Idx → EReal, transpose S2x4096x32 [0, 2, 1] G transposes_S2x32x4096_S2x4096x32_0_2_1 (ix3 b T h)
      = G (ix3 b h T) := by intro G; pointwise []
  exact (e _).trans rfl

end Cert.KernelIdeal.Body

end
-- ==== Proof.Live.lean ====
/- The arithmetic of the lengths: which lanes of a column hold tokens, and which block a point fetches. -/
module

public import proofs.«01_k».proof.Proof.Entry

@[expose] public section

set_option maxRecDepth 16384

noncomputable section

namespace Cert.KernelIdeal.Body

open Idealize.ShloMosaic Cert.KernelIdeal Cert.KernelIdeal.Gen Cert.Steps

theorem toInt_small (n : Nat) (h : n < 2 ^ 31) : (BitVec.ofNat 32 n).toInt = n := by
  rw [BitVec.toInt_ofNat']
  have : ((n : Int)) % 2 ^ 32 = n := Int.emod_eq_of_lt (by omega) (by omega)
  simp only [Int.bmod_def]
  push_cast
  omega

theorem bmod_small (x : Int) (h1 : -2 ^ 31 ≤ x) (h2 : x < 2 ^ 31) : x.bmod (2 ^ 32) = x := by
  rw [Int.bmod_def]; push_cast; omega

/-- A length at which none of the sums and differences of the block overflows. -/
def Clear (L : BitVec 32) : Prop := 3968 - 2 ^ 31 ≤ L.toInt ∧ L.toInt ≤ 2 ^ 31 - 512

variable (L : BitVec 32) (hL : Clear L)

include hL in
/-- The number of tokens from a column's first on, as an integer. -/
theorem live_toInt (i : grid0.Coords) (k : Fin k0_t1_loop.trips) :
    (liveOf k (firstToken i) L).toInt = L.toInt - 512 * (i 1).val - 128 * k.val := by
  obtain ⟨h1, h2⟩ := hL
  have hk : k.val < 4 := lt_of_lt_of_eq k.isLt trips_eq
  have hi : (i 1).val < 8 := (i 1).isLt
  show ((L - BitVec.ofNat 32 (i 1).val * 512#32) - (0#32 + BitVec.ofNat 32 k.val * 1#32) * 128#32).toInt = _
  have e1 : BitVec.ofNat 32 (i 1).val * 512#32 = BitVec.ofNat 32 ((i 1).val * 512) := by rw [BitVec.ofNat_mul]
  have e2 : (0#32 + BitVec.ofNat 32 k.val * 1#32) * 128#32 = BitVec.ofNat 32 (k.val * 128) := by
    rw [BitVec.zero_add, BitVec.mul_one, BitVec.ofNat_mul]
  rw [e1, e2, BitVec.toInt_sub, BitVec.toInt_sub, toInt_small _ (by omega), toInt_small _ (by omega),
    bmod_small (L.toInt - (((i 1).val * 512 : Nat) : Int)) (by omega) (by omega), bmod_small _ (by omega) (by omega)]
  push_cast
  omega

include hL in
/-- A lane of a column holds a token exactly when the token is in the cache. -/
theorem lane_iff (i : grid0.Coords) (n : Fin 512) :
    (BitVec.ofNat 32 (lane n).val).slt (liveOf (columnOf n) (firstToken i) L) = true
      ↔ (BitVec.ofNat 32 (tokenOf (i 1) n).val).slt L = true := by
  have hn := n.isLt
  have hi : (i 1).val < 8 := (i 1).isLt
  rw [BitVec.slt_iff_toInt_lt, BitVec.slt_iff_toInt_lt, live_toInt L hL, toInt_small _ (by have := (lane n).isLt; omega), toInt_small _ (by have := (tokenOf (i 1) n).isLt; omega)]
  show ((n.val % 128 : Nat) : Int) < L.toInt - 512 * (i 1).val - 128 * ((n.val / 128 : Nat) : Int) ↔ ((512 * (i 1).val + n.val : Nat) : Int) < L.toInt
  push_cast
  omega

include hL in
/-- A column with no token left holds none in any lane. -/
theorem dead_lane (i : grid0.Coords) (n : Fin 512) (h : ¬ (0#32).slt (liveOf (columnOf n) (firstToken i) L) = true) :
    ¬ (BitVec.ofNat 32 (tokenOf (i 1) n).val).slt L = true := by
  rw [← lane_iff L hL]
  rw [BitVec.slt_iff_toInt_lt] at h ⊢
  rw [toInt_small _ (by have := (lane n).isLt; omega)]
  have h0 : (0#32 : BitVec 32).toInt = 0 := rfl
  omega

include hL in
/-- The token block that holds the last token, or an earlier one: the block itself, where it holds a token. -/
theorem block_own (e : Fin 8) (n : Fin 512) (h : (BitVec.ofNat 32 (tokenOf e n).val).slt L = true) :
    (Scalar.minsi (BitVec.ofNat 32 e.val)
      (Scalar.maxsi (Scalar.subi (Scalar.divsi (Scalar.addi L 511#32) 512#32) 1#32) 0#32)).toNat = e.val := by
  obtain ⟨h1, h2⟩ := hL
  have he := e.isLt
  rw [BitVec.slt_iff_toInt_lt, toInt_small _ (by have := (tokenOf e n).isLt; omega)] at h
  have hT : (512 * e.val + n.val : Int) < L.toInt := by
    have : ((tokenOf e n).val : Int) = 512 * e.val + n.val := by show ((512 * e.val + n.val : Nat) : Int) = _; push_cast; rfl
    omega
  have a1 : (L + 511#32).toInt = L.toInt + 511 := by
    rw [BitVec.toInt_add, show (511#32 : BitVec 32).toInt = 511 from rfl, bmod_small _ (by omega) (by omega)]
  have a2 : (Scalar.divsi (Scalar.addi L 511#32) 512#32) = (L + 511#32).sdiv 512#32 := by
    show IntOp.divsi .scalar _ _ = _
    unfold IntOp.divsi
    rw [if_neg]
    · rfl
    · rintro (h | ⟨_, h⟩) <;> exact absurd h (by decide)
  have a3 : ((L + 511#32).sdiv 512#32).toInt = (L.toInt + 511) / 512 := by
    rw [BitVec.toInt_sdiv, a1, show (512#32 : BitVec 32).toInt = 512 from rfl, Int.tdiv_eq_ediv_of_nonneg (by omega)]
    exact bmod_small _ (by omega) (by omega)
  have a4 : (Scalar.subi (Scalar.divsi (Scalar.addi L 511#32) 512#32) 1#32).toInt = (L.toInt + 511) / 512 - 1 := by
    rw [a2]
    show ((L + 511#32).sdiv 512#32 - 1#32).toInt = _
    rw [BitVec.toInt_sub, a3, show (1#32 : BitVec 32).toInt = 1 from rfl, bmod_small _ (by omega) (by omega)]
  generalize Scalar.subi (Scalar.divsi (Scalar.addi L 511#32) 512#32) 1#32 = q at a4
  have a5 : (Scalar.maxsi q 0#32).toInt = q.toInt := by
    show (IntOp.maxsi q 0#32).toInt = _
    unfold IntOp.maxsi
    split
    · rfl
    · rename_i hq
      rw [BitVec.slt_iff_toInt_lt] at hq
      have h0 : (0#32 : BitVec 32).toInt = 0 := rfl
      omega
  show (IntOp.minsi _ _).toNat = _
  unfold IntOp.minsi
  have hN : (BitVec.ofNat 32 e.val).toNat = e.val := by rw [BitVec.toNat_ofNat]; omega
  split
  · exact hN
  · rename_i hq
    rw [BitVec.slt_iff_toInt_lt, a5, toInt_small _ (by omega)] at hq
    have hm := BitVec.toInt_eq_toNat_cond (Scalar.maxsi q 0#32)
    have hb := (Scalar.maxsi q 0#32).isLt
    split at hm <;> omega

/-- The same of any word equal to that block's number. -/
theorem own_of (L : BitVec 32) (e : Fin 8) (hL : Clear L) (x : BitVec 32) (n : Fin 512) (hv : (BitVec.ofNat 32 (tokenOf e n).val).slt L = true)
   (hx : x = Scalar.minsi (BitVec.ofNat 32 e.val)
      (Scalar.maxsi (Scalar.subi (Scalar.divsi (Scalar.addi L 511#32) 512#32) 1#32) 0#32)) : x.toNat = e.val := by
  rw [hx]
  exact block_own L hL e n hv

end Cert.KernelIdeal.Body

end
-- ==== Proof.Reference.lean ====
/- What the reference computes, read element by element: a rotated key, its mask, the scale of a token and head, its codes. -/
module

public import proofs.«01_k».proof.Proof.Gen.ReferenceIdeal.Run
public import Idealize.ShloMosaic.Lib.Pointwise
public import Idealize.ShloMosaic.Lib.Pipeline.Regions
public import proofs.«01_k».proof.Proof.Token

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.Pointwise

/-! ## The reference's pieces -/

/-- The divisor two, as the remainder's guard passes it. -/
def two : IVec S_ 32 := select (cmpi .eq (id (constantI S_ 32 2#32)) (constantI S_ 32 0#32)) (constantI S_ 32 1#32) (id (constantI S_ 32 2#32))
/-- The remainder of each coordinate by two. -/
def rem : IVec S96 32 := Host.remsi (iotaInDim S96 32 0) (broadcastInDim S96 ![] bcast_S_S96 two)
/-- Which coordinates of a head are even. -/
def even : IVec S96 1 :=
  cmpi .eq (select (andi (cmpi .ne (cmpi .slt rem (broadcastInDim S96 ![] bcast_S_S96 (constantI S_ 32 0#32)))
    (broadcastInDim S96 ![] bcast_S_S96 (cmpi .slt two (constantI S_ 32 0#32))))
    (cmpi .ne rem (broadcastInDim S96 ![] bcast_S_S96 (constantI S_ 32 0#32))))
    (addi rem (broadcastInDim S96 ![] bcast_S_S96 two)) rem) (broadcastInDim S96 ![] bcast_S_S96 (constantI S_ 32 0#32))

theorem even_eq : ∀ d : Fin 96, even (ix1 d) = if d.val % 2 = 0 then 1#1 else 0#1 := by decide +kernel

variable (K : IVec S2x4096x32x96 8) (A : FVec Ideal S2x4096x32 .f32) (L : IVec S2 32) (D : IVec S2 32)

/-- The angle of each sequence and pair of coordinates. -/
def angle : FVec Ideal S2x48 .f32 :=
  mulf (broadcastInDim S2x48 ![0, 1] bcast_S2x1_S2x48_0_1 (broadcastInDim S2x1 ![0] bcast_S2_S2x1_0 (sitofp .f32 D)))
    (broadcastInDim S2x48 ![0, 1] bcast_S1x48_S2x48_0_1 (broadcastInDim S1x48 ![1] bcast_S48_S1x48_1
      (Host.powf (broadcastInDim S48 ![] bcast_S_S48 (constant S_ .f32 0x48F42400#32))
        (Host.divf (Host.negf (addf (broadcastInDim S48 ![] bcast_S_S48 (constant S_ .f32 0x00000000#32))
          (mulf (broadcastInDim S48 ![] bcast_S_S48 (constant S_ .f32 0x40000000#32)) (sitofp .f32 (iotaInDim S48 32 0)))))
          (broadcastInDim S48 ![] bcast_S_S48 (constant S_ .f32 0x42C00000#32))))))

/-- The keys, the heads of a token side by side. -/
def keys : FVec Ideal S2x4096x3072 .f32 :=
  shapeCast S2x4096x3072 (mulf (sitofp .f32 (extsi 32 K natLt_8_32))
    (broadcastInDim S2x4096x32x96 ![0, 1, 2, 3] bcast_S2x4096x32x1_S2x4096x32x96_0_1_2_3
      (broadcastInDim S2x4096x32x1 ![0, 1, 2] bcast_S2x4096x32_S2x4096x32x1_0_1_2 A))) shapeCasts_S2x4096x32x96_S2x4096x3072

/-- Sequence by coordinate to sequence by all coordinates of all heads. -/
def tiled (v : FVec Ideal S2x96 .f32) : FVec Ideal S2x4096x3072 .f32 :=
  broadcastInDim S2x4096x3072 ![0, 1, 2] bcast_S2x1x3072_S2x4096x3072_0_1_2 (broadcastInDim S2x1x3072 ![0, 2] bcast_S2x3072_S2x1x3072_0_2
    (shapeCast S2x3072 (broadcastInDim S1x2x32x96 ![0, 1, 2, 3] bcast_S1x2x1x96_S1x2x32x96_0_1_2_3
      (shapeCast S1x2x1x96 v shapeCasts_S2x96_S1x2x1x96)) shapeCasts_S1x2x32x96_S2x3072))

/-- Each pair's number at both of its coordinates. -/
def twice (v : FVec Ideal S2x48 .f32) : FVec Ideal S2x96 .f32 :=
  shapeCast S2x96 (broadcastInDim S2x48x2 ![0, 1] bcast_S2x48_S2x48x2_0_1 v) shapeCasts_S2x48x2_S2x96

/-- The sines, negated at the even coordinates. -/
def signed : FVec Ideal S2x96 .f32 :=
  select (broadcastInDim S2x96 ![0, 1] bcast_S1x96_S2x96_0_1 (broadcastInDim S1x96 ![1] bcast_S96_S1x96_1 even))
    (Host.negf (twice (Host.sin (angle D)))) (twice (Host.sin (angle D)))

/-- Each coordinate's partner. -/
def partner (X : FVec Ideal S2x4096x3072 .f32) : FVec Ideal S2x4096x3072 .f32 :=
  select (broadcastInDim S2x4096x3072 ![0, 1, 2] bcast_S1x1x3072_S2x4096x3072_0_1_2 (broadcastInDim S1x1x3072 ![2] bcast_S3072_S1x1x3072_2
      (shapeCast S3072 (broadcastInDim S32x96 ![0, 1] bcast_S1x96_S32x96_0_1 (shapeCast S1x96 even shapeCasts_S96_S1x96)) shapeCasts_S32x96_S3072)))
    (concatenate S2x4096x3072 2 [⟨S2x4096x3071, (extractStridedSlice S2x4096x3071 ![0, 0, 1] X slices_S2x4096x3072_S2x4096x3071_0_0_1)⟩,
      ⟨S2x4096x1, (extractStridedSlice S2x4096x1 ![0, 0, 0] X slices_S2x4096x3072_S2x4096x1_0_0_0)⟩] concatenates_S2x4096x3071_S2x4096x1_S2x4096x3072_d2)
    (concatenate S2x4096x3072 2 [⟨S2x4096x1, (extractStridedSlice S2x4096x1 ![0, 0, 3071] X slices_S2x4096x3072_S2x4096x1_0_0_3071)⟩,
      ⟨S2x4096x3071, (extractStridedSlice S2x4096x3071 ![0, 0, 0] X slices_S2x4096x3072_S2x4096x3071_0_0_0)⟩] concatenates_S2x4096x1_S2x4096x3071_S2x4096x3072_d2)

/-- Which tokens are in the cache. -/
def valid : IVec S2x4096 1 :=
  cmpi .slt (broadcastInDim S2x4096 ![0, 1] bcast_S1x4096_S2x4096_0_1 (broadcastInDim S1x4096 ![1] bcast_S4096_S1x4096_1 (iotaInDim S4096 32 0)))
    (broadcastInDim S2x4096 ![0, 1] bcast_S2x1_S2x4096_0_1 (broadcastInDim S2x1 ![0] bcast_S2_S2x1_0 L))

/-- The keys rotated. -/
def turned : FVec Ideal S2x4096x3072 .f32 :=
  addf (mulf (keys K A) (tiled (twice (Host.cos (angle D))))) (mulf (partner (keys K A)) (tiled (signed D)))

/-- The keys rotated, zero past the cache. -/
def masked : FVec Ideal S2x4096x32x96 .f32 :=
  shapeCast S2x4096x32x96 (select (broadcastInDim S2x4096x3072 ![0, 1, 2] bcast_S2x4096x1_S2x4096x3072_0_1_2
    (broadcastInDim S2x4096x1 ![0, 1] bcast_S2x4096_S2x4096x1_0_1 (valid L))) (turned K A D)
    (broadcastInDim S2x4096x3072 ![] bcast_S_S2x4096x3072 (constant S_ .f32 0x00000000#32))) shapeCasts_S2x4096x3072_S2x4096x32x96

/-- The largest magnitude of each token and head. -/
def peak (X : FVec Ideal S2x4096x32x96 .f32) : FVec Ideal S2x4096x32 .f32 :=
  Host.reduce FloatOps.maximumf (Host.absf X) (constant S_ .f32 0xFF800000#32) reducesTo_S2x4096x32x96_S2x4096x32_d3 h_S_

/-- The new scale. -/
def scaleOf (p : FVec Ideal S2x4096x32 .f32) : FVec Ideal S2x4096x32 .f32 :=
  select (cmpf .oeq p (broadcastInDim S2x4096x32 ![] bcast_S_S2x4096x32 (constant S_ .f32 0x00000000#32)))
    (broadcastInDim S2x4096x32 ![] bcast_S_S2x4096x32 (constant S_ .f32 0x3F800000#32))
    (Host.divf p (broadcastInDim S2x4096x32 ![] bcast_S_S2x4096x32 (constant S_ .f32 0x42FE0000#32)))

/-- The new codes. -/
def codesOf (X : FVec Ideal S2x4096x32x96 .f32) (s : FVec Ideal S2x4096x32 .f32) : IVec S2x4096x32x96 8 :=
  trunci 8 (fptosi 32 (minimumf (broadcastInDim S2x4096x32x96 ![] bcast_S_S2x4096x32x96 (id (constant S_ .f32 0x42FE0000#32)))
    (maximumf (broadcastInDim S2x4096x32x96 ![] bcast_S_S2x4096x32x96 (id (constant S_ .f32 0xC2FE0000#32)))
      (Host.roundeven (Host.divf X (broadcastInDim S2x4096x32x96 ![0, 1, 2, 3] bcast_S2x4096x32x1_S2x4096x32x96_0_1_2_3
        (broadcastInDim S2x4096x32x1 ![0, 1, 2] bcast_S2x4096x32_S2x4096x32x1_0_1_2 s))))))) natLt_8_32

theorem res_scale (m : (ℓ : Loc nD τ sig) → Buf (Elt Ideal) ℓ) (c : Dev nD) :
    res_main_v70 (F := Ideal) m c = scaleOf (peak (masked (m ((c.tc : Thread nD τ).loc main_arg0)) (m ((c.tc : Thread nD τ).loc main_arg1))
      (m ((c.tc : Thread nD τ).loc main_arg2)) (m ((c.tc : Thread nD τ).loc main_arg3)))) := by
  chain_rfl

theorem res_codes (m : (ℓ : Loc nD τ sig) → Buf (Elt Ideal) ℓ) (c : Dev nD) :
    res_main_v77 (F := Ideal) m c = codesOf (masked (m ((c.tc : Thread nD τ).loc main_arg0)) (m ((c.tc : Thread nD τ).loc main_arg1))
      (m ((c.tc : Thread nD τ).loc main_arg2)) (m ((c.tc : Thread nD τ).loc main_arg3)))
      (scaleOf (peak (masked (m ((c.tc : Thread nD τ).loc main_arg0)) (m ((c.tc : Thread nD τ).loc main_arg1))
      (m ((c.tc : Thread nD τ).loc main_arg2)) (m ((c.tc : Thread nD τ).loc main_arg3))))) := by
  chain_rfl

/-! ## Read element by element -/

theorem masked_at (b : Fin 2) (t : Fin 4096) (h : Fin 32) (d : Fin 96) : masked K A L D (ix4 b t h d)
    = Scalar.select (IntOp.cmpi .slt (BitVec.ofNat 32 t.val) (L (ix1 b))) (turned K A D (ix3 b t ⟨h.val * 96 + d.val, by omega⟩)) (0 : EReal) := by
  pointwise [masked, valid]

theorem keys_at (b : Fin 2) (t : Fin 4096) (h : Fin 32) (d : Fin 96) (n : Fin 3072) (hn : n.val = h.val * 96 + d.val) : keys K A (ix3 b t n)
    = (((K (ix4 b t h d)).toInt : ℝ) : EReal) * A (ix3 b t h) := by
  have e : keys K A (ix3 b t n) = FloatOps.sitofp (F := Ideal) .f32 (BitVec.signExtend 32 (K (ix4 b t ⟨n.val / 96, by omega⟩ ⟨n.val % 96, by omega⟩)))
      * A (ix3 b t ⟨n.val / 96, by omega⟩) := by pointwise [keys]
  have h1 : (⟨n.val / 96, by omega⟩ : Fin 32) = h := Fin.ext (by show n.val / 96 = h.val; omega)
  have h2 : (⟨n.val % 96, by omega⟩ : Fin 96) = d := Fin.ext (by show n.val % 96 = d.val; omega)
  rw [e, h1, h2]
  show ((((BitVec.signExtend 32 (K (ix4 b t h d))).toInt : ℝ)) : EReal) * _ = _
  rw [BitVec.toInt_signExtend_of_le (by decide)]

theorem tiled_at (v : FVec Ideal S2x96 .f32) (b : Fin 2) (t : Fin 4096) (n : Fin 3072) :
    tiled v (ix3 b t n) = v (ix2 b ⟨n.val % 96, by omega⟩) := by
  pointwise [tiled]

theorem twice_at (v : FVec Ideal S2x48 .f32) (b : Fin 2) (d : Fin 96) : twice v (ix2 b d) = v (ix2 b ⟨d.val / 2, by omega⟩) := by
  pointwise [twice]

theorem partner_at (X : FVec Ideal S2x4096x3072 .f32) (b : Fin 2) (t : Fin 4096) (n : Fin 3072) : partner X (ix3 b t n)
    = Scalar.select (even (ix1 ⟨n.val % 96, by omega⟩))
        (if hn : n.val < 3071 then X (ix3 b t ⟨1 + n.val, by omega⟩) else X (ix3 b t ⟨n.val - 3071, by omega⟩))
        (if hn : n.val < 1 then X (ix3 b t ⟨3071 + n.val, by omega⟩) else X (ix3 b t ⟨n.val - 1, by omega⟩)) := by
  pointwise [partner]

theorem signed_at (b : Fin 2) (d : Fin 96) : signed D (ix2 b d)
    = Scalar.select (even (ix1 d)) (-(twice (Host.sin (angle D)) (ix2 b d))) (twice (Host.sin (angle D)) (ix2 b d)) := by
  pointwise [signed]

theorem peak_at (X : FVec Ideal S2x4096x32x96 .f32) (b : Fin 2) (t : Fin 4096) (h : Fin 32) : peak X (ix3 b t h)
    = Finset.fold max (⊥ : EReal) (fun d : Fin 96 => Token.mag (X (ix4 b t h d))) Finset.univ := by
  rw [← Token.cInf]
  pointwise [peak]
  rfl

theorem scaleOf_at (p : FVec Ideal S2x4096x32 .f32) (b : Fin 2) (t : Fin 4096) (h : Fin 32) : scaleOf p (ix3 b t h) = Token.scale (p (ix3 b t h)) := by
  pointwise [scaleOf, Token.scale]

theorem codesOf_at (X : FVec Ideal S2x4096x32x96 .f32) (s : FVec Ideal S2x4096x32 .f32) (b : Fin 2) (t : Fin 4096) (h : Fin 32) (d : Fin 96) :
    codesOf X s (ix4 b t h d) = Token.quant (Ideal.div (X (ix4 b t h d)) (s (ix3 b t h))) := by
  pointwise [codesOf, Token.quant]
  rfl

theorem cos_at (b : Fin 2) (p : Fin 48) : Host.cos (angle D) (ix2 b p) = Ideal.cos (Token.angle (D (ix1 b)) p) := by
  pointwise [angle, Token.angle]

theorem sin_at (b : Fin 2) (p : Fin 48) : Host.sin (angle D) (ix2 b p) = Ideal.sin (Token.angle (D (ix1 b)) p) := by
  pointwise [angle, Token.angle]

/-! ## Together -/

/-- A code as a number. -/
abbrev num (k : BitVec 8) : ℝ := (k.toInt : ℝ)
/-- A head's even codes … -/
abbrev evens (b : Fin 2) (t : Fin 4096) (h : Fin 32) (p : Fin 48) : ℝ := num (K (ix4 b t h (Token.coord (p, 0))))
/-- … and odd ones. -/
abbrev odds (b : Fin 2) (t : Fin 4096) (h : Fin 32) (p : Fin 48) : ℝ := num (K (ix4 b t h (Token.coord (p, 1))))

/-- A rotated key of the reference is the rotated pair of keys at its coordinate. -/
theorem turned_eq (b : Fin 2) (t : Fin 4096) (h : Fin 32) (i : Fin 48 × Fin 2) (C S : Fin 48 → ℝ)
    (hC : ∀ p, Ideal.cos (Token.angle (D (ix1 b)) p) = (C p : EReal)) (hS : ∀ p, Ideal.sin (Token.angle (D (ix1 b)) p) = (S p : EReal)) :
    turned K A D (ix3 b t ⟨h.val * 96 + (Token.coord i).val, by omega⟩) = Token.keys (A (ix3 b t h)) (evens K b t h) (odds K b t h) C S i := by
  obtain ⟨p, e⟩ := i
  have hd : (⟨(h.val * 96 + (2 * p.val + e.val)) % 96, by omega⟩ : Fin 96) = Token.coord (p, e) := Fin.ext (by show (h.val * 96 + (2 * p.val + e.val)) % 96 = 2 * p.val + e.val; omega)
  have hp : (⟨(Token.coord (p, e)).val / 2, by omega⟩ : Fin 48) = p := Fin.ext (by show (2 * p.val + e.val) / 2 = p.val; omega)
  show keys K A _ * tiled _ _ + partner (keys K A) _ * tiled _ _ = _
  rw [tiled_at, tiled_at, partner_at]
  dsimp only [Token.coord]
  rw [hd, signed_at, twice_at, twice_at, hp, cos_at, sin_at, hC, hS, even_eq, keys_at K A b t h (Token.coord (p, e)) _ rfl]
  unfold Token.keys Token.keyE Token.keyO
  by_cases he : e = 0
  · subst he
    have e2 : (Token.coord (p, 0)).val % 2 = 0 := by show (2 * p.val + 0) % 2 = 0; omega
    have n1 : h.val * 96 + (2 * p.val + ((0 : Fin 2) : Nat)) < 3071 := by show h.val * 96 + (2 * p.val + 0) < 3071; omega
    rw [if_pos e2, dif_pos n1, keys_at K A b t h (Token.coord (p, 1)) _ (by show 1 + (h.val * 96 + (2 * p.val + 0)) = h.val * 96 + (2 * p.val + 1); omega)]
    rfl
  · obtain rfl : e = 1 := by omega
    have e2 : ¬ (Token.coord (p, 1)).val % 2 = 0 := by show ¬ (2 * p.val + 1) % 2 = 0; omega
    have n1 : ¬ h.val * 96 + (2 * p.val + ((1 : Fin 2) : Nat)) < 1 := by show ¬ h.val * 96 + (2 * p.val + 1) < 1; omega
    rw [if_neg e2, dif_neg n1, keys_at K A b t h (Token.coord (p, 0)) _ (by show h.val * 96 + (2 * p.val + 1) - 1 = h.val * 96 + (2 * p.val + 0); omega)]
    rfl

/-- Past the cache the reference's scale is that of a zero head and its codes are zero. -/
theorem past (b : Fin 2) (t : Fin 4096) (h : Fin 32) (hv : ¬ (BitVec.ofNat 32 t.val).slt (L (ix1 b)) = true) :
    scaleOf (peak (masked K A L D)) (ix3 b t h) = 1
      ∧ ∀ d, codesOf (masked K A L D) (scaleOf (peak (masked K A L D))) (ix4 b t h d) = 0#8 := by
  have hm : ∀ d, masked K A L D (ix4 b t h d) = 0 := fun d => by
    rw [masked_at]
    show Scalar.select (BitVec.ofBool _) _ _ = _
    rw [Bool.not_eq_true] at hv
    rw [hv]; rfl
  have hP : peak (masked K A L D) (ix3 b t h) = 0 := by
    rw [peak_at]
    refine (Token.fold_isMax _).unique ⟨⟨0, ?_⟩, fun d => ?_⟩ <;> dsimp only <;> rw [hm] <;> simp [Token.mag]
  refine ⟨by rw [scaleOf_at, hP, Token.scale, if_pos rfl], fun d => ?_⟩
  rw [codesOf_at, hm, scaleOf_at, hP, Token.scale, if_pos rfl]
  have : Ideal.div 0 1 = 0 := by unfold Ideal.div; simp
  rw [this, Token.quant_zero]

/-- In the cache the reference's scale and codes are those of the rotated keys. -/
theorem inside (b : Fin 2) (t : Fin 4096) (h : Fin 32) (hv : (BitVec.ofNat 32 t.val).slt (L (ix1 b)) = true) (C S : Fin 48 → ℝ)
    (hC : ∀ p, Ideal.cos (Token.angle (D (ix1 b)) p) = (C p : EReal)) (hS : ∀ p, Ideal.sin (Token.angle (D (ix1 b)) p) = (S p : EReal))
    (hcs : ∀ p, C p * C p + S p * S p = 1) {M : EReal} (hM : Token.IsMax M fun i => Token.mag (Token.codes (evens K b t h) (odds K b t h) C S i)) :
    scaleOf (peak (masked K A L D)) (ix3 b t h) = Token.scale (M * Token.mag (A (ix3 b t h)))
      ∧ ∀ i, codesOf (masked K A L D) (scaleOf (peak (masked K A L D))) (ix4 b t h (Token.coord i))
        = Token.quant (Token.codes (evens K b t h) (odds K b t h) C S i * Ideal.div (A (ix3 b t h)) (Token.scale (M * Token.mag (A (ix3 b t h))))) := by
  have hm : ∀ i, masked K A L D (ix4 b t h (Token.coord i)) = Token.keys (A (ix3 b t h)) (evens K b t h) (odds K b t h) C S i := fun i => by
    rw [masked_at, turned_eq K A D b t h i C S hC hS]
    show Scalar.select (BitVec.ofBool _) _ _ = _
    rw [hv]; rfl
  have hP : peak (masked K A L D) (ix3 b t h) = M * Token.mag (A (ix3 b t h)) := by
    rw [peak_at]
    refine (Token.fold_isMax _).unique (Token.IsMax.reindex Token.coord Token.coord_surjective ?_)
    simp only [hm]
    exact Token.peak_eq _ _ _ _ _ hcs hM
  have hs : scaleOf (peak (masked K A L D)) (ix3 b t h) = Token.scale (M * Token.mag (A (ix3 b t h))) := by rw [scaleOf_at, hP]
  refine ⟨hs, fun i => ?_⟩
  rw [codesOf_at, hm, hs, Token.ratio_eq _ _ _ _ _ hcs hM]

end Cert.ReferenceIdeal.Value

end
-- ==== Proof.Equation.lean ====
/- The equation: at every token, head and coordinate the program's results are the reference's. -/
module

public import proofs.«01_k».proof.Proof.Live
public import proofs.«01_k».proof.Proof.Reference

@[expose] public section

set_option maxRecDepth 16384

noncomputable section

namespace Cert.KernelIdeal.Body

open Idealize.ShloMosaic Idealize.ShloMosaic.TcCoe Idealize.ShloMosaic.Pointwise
open Cert.KernelIdeal Cert.KernelIdeal.Gen Cert.Steps

/-! ## What a column reads of its block -/

variable {F : FTy → Type} [FloatOps F] (b0 b1 : S1x48x128.Idx → Elt F .f32)
  (b2 : S1x32x96x512.Idx → Elt F .i8) (b3 : S1x32x512.Idx → Elt F .f32)

theorem read_codes (h : Fin 32) (d : Fin 96) (n : Fin 512) :
    St.v (columnOf n) (start b0 b1 b2 b3) h (ix4 0 0 d (lane n)) = b2 (ix4 0 h d n) := by
  obtain ⟨hc, hk⟩ := col_eq (columnOf n)
  have hk' : (columnOf n).val = n.val / 128 := rfl
  refine congrArg b2 (funext fun a : Fin 4 => Fin.ext ?_)
  match a with
  | 0 => rfl
  | 1 => show h.val + 1 * 0 = h.val; omega
  | 2 => show 0 + 1 * d.val = d.val; omega
  | 3 => show col (columnOf n) + 1 * (n.val % 128) = n.val; omega

theorem read_scale (h : Fin 32) (n : Fin 512) :
    St.a (columnOf n) (start b0 b1 b2 b3) (groupOf h) (ix3 0 (placeOf h) (lane n)) = b3 (ix3 0 h n) := by
  obtain ⟨hc, hk⟩ := col_eq (columnOf n)
  have hk' : (columnOf n).val = n.val / 128 := rfl
  refine congrArg b3 (funext fun a : Fin 3 => Fin.ext ?_)
  match a with
  | 0 => rfl
  | 1 => show (h.val / 8) * 8 + 1 * (h.val % 8) = h.val; omega
  | 2 => show col (columnOf n) + 1 * (n.val % 128) = n.val; omega

theorem read_cos (q : Fin 48) (l : Fin 128) : (start b0 b1 b2 b3).c (ix3 0 q l) = b0 (ix3 0 q l) := by
  refine congrArg b0 (funext fun a : Fin 3 => Fin.ext ?_)
  match a with
  | 0 => rfl
  | 1 => show 0 + 1 * q.val = q.val; omega
  | 2 => show 0 + 1 * l.val = l.val; omega

theorem read_sin (q : Fin 48) (l : Fin 128) : (start b0 b1 b2 b3).s (ix3 0 q l) = b1 (ix3 0 q l) := by
  refine congrArg b1 (funext fun a : Fin 3 => Fin.ext ?_)
  match a with
  | 0 => rfl
  | 1 => show 0 + 1 * q.val = q.val; omega
  | 2 => show 0 + 1 * l.val = l.val; omega

/-! ## What a point leaves, in terms of the arguments -/

variable (m : (ℓ : Loc nD τ sig) → Buf (Elt Ideal) ℓ) (t : Fin grid0.N) (n : Fin 512) (h : Fin 32)

/-- The tokens left for the column of place `n` at point `t`. -/
def leftFor : BitVec 32 := liveOf (columnOf n) (firstToken (grid0.coords t)) (argL m 0 (ix1 (rowOf t)))

/-- What the point reads. -/
def found (c : Dev nD) : St Ideal := start (entryBlock m c 0 t) (entryBlock m c 1 t) (entryBlock m c 2 t) (entryBlock m c 3 t)

theorem codesAt_eq (c : Dev nD) (d : Fin 96) :
    codesAt m c t (ix4 (0 : Fin 1) h d n) = codeOf (columnOf n) (found m t c) (leftFor m t n) h d (lane n) := by
  unfold leftFor
  rw [← word_eq]
  rfl

theorem scalesAt_eq (c : Dev nD) :
    scalesAt m c t (ix3 (0 : Fin 1) h n) = scaleOf (columnOf n) (found m t c) (leftFor m t n) h (lane n) := by
  unfold leftFor
  rw [← word_eq]
  rfl

theorem one_bits : Ideal.ofBits FTy.f32 0x3F800000#32 = (1 : EReal) := by
  have h : Ideal.ofBits FTy.f32 0x3F800000#32 = ((1 : ℝ) : EReal) := by
    simp [Ideal.ofBits, Ideal.ieee, -EReal.coe_mul, -EReal.coe_neg]; norm_num
  exact h

/-- Past the cache a point leaves scale one and code zero. -/
theorem point_past (c : Dev nD) (hL : Clear (argL m 0 (ix1 (rowOf t))))
    (hv : ¬ (BitVec.ofNat 32 (tokenOf (tileOf t) n).val).slt (argL m 0 (ix1 (rowOf t))) = true) :
    scalesAt m c t (ix3 (0 : Fin 1) h n) = (1 : EReal) ∧ ∀ d, codesAt m c t (ix4 (0 : Fin 1) h d n) = 0#8 := by
  have hl : ¬ (BitVec.ofNat 32 (lane n).val).slt (leftFor m t n) = true := fun h' => hv ((lane_iff _ hL (grid0.coords t) n).1 h')
  refine ⟨?_, fun d => ?_⟩
  · rw [scalesAt_eq]
    unfold scaleOf
    split
    · exact (lane_past _ _ h _ _ hl).1
    · exact one_bits
  · rw [codesAt_eq]
    unfold codeOf
    split
    · obtain ⟨i, rfl⟩ := Token.coord_surjective d
      exact (lane_past _ _ h _ _ hl).2 i
    · rfl

/-- A point that holds a token of the cache fetches its own block. -/
theorem fetched_own (hL : Clear (argL m 0 (ix1 (rowOf t))))
    (hv : (BitVec.ofNat 32 (tokenOf (tileOf t) n).val).slt (argL m 0 (ix1 (rowOf t))) = true) : fetched m t = tileOf t := by
  have h1 : last (tbl m) (grid0.coords t) = Scalar.minsi (BitVec.ofNat 32 (tileOf t).val)
      (Scalar.maxsi (Scalar.subi (Scalar.divsi (Scalar.addi (argL m 0 (ix1 (rowOf t))) 511#32) 512#32) 1#32) 0#32) := by
    unfold last
    rw [word_eq]
    rfl
  have h2 := own_of _ _ hL _ n hv h1
  have h3 : (fetched m t).val = (last (tbl m) (grid0.coords t)).toNat := by chain_rfl
  generalize last (tbl m) (grid0.coords t) = y at h2 h3
  have h4 := h3.trans h2
  generalize fetched m t = x at h4
  exact Fin.ext h4

theorem found_codes (c : Dev nD) (d : Fin 96) :
    St.v (columnOf n) (found m t c) h (ix4 0 0 d (lane n)) = argK m c (ix4 (rowOf t) (tokenOf (fetched m t) n) h d) :=
  (read_codes _ _ _ _ h d n).trans (block_codes m c t h d n)
theorem found_scale (c : Dev nD) :
    St.a (columnOf n) (found m t c) (groupOf h) (ix3 0 (placeOf h) (lane n)) = argA m c (ix3 (rowOf t) (tokenOf (fetched m t) n) h) :=
  (read_scale _ _ _ _ h n).trans (block_scales m c t h n)
theorem found_cos (c : Dev nD) (q : Fin 48) (l : Fin 128) :
    (found m t c).c (ix3 0 q l) = Ideal.cos (Token.angle (argD m c (ix1 (rowOf t))) q) :=
  (read_cos _ _ _ _ q _).trans (block_cos m c t q _)
theorem found_sin (c : Dev nD) (q : Fin 48) (l : Fin 128) :
    (found m t c).s (ix3 0 q l) = Ideal.sin (Token.angle (argD m c (ix1 (rowOf t))) q) :=
  (read_sin _ _ _ _ q _).trans (block_sin m c t q _)

/-- In the cache a point leaves the scale and codes of the token's rotated codes. -/
theorem point_inside (c : Dev nD) (hL : Clear (argL m 0 (ix1 (rowOf t))))
    (hv : (BitVec.ofNat 32 (tokenOf (tileOf t) n).val).slt (argL m 0 (ix1 (rowOf t))) = true) (C S : Fin 48 → ℝ)
    (hC : ∀ p, Ideal.cos (Token.angle (argD m c (ix1 (rowOf t))) p) = (C p : EReal))
    (hS : ∀ p, Ideal.sin (Token.angle (argD m c (ix1 (rowOf t))) p) = (S p : EReal)) {M : EReal}
    (hM : Token.IsMax M fun i => Token.mag (Token.codes
      (Cert.ReferenceIdeal.Value.evens (argK m c) (rowOf t) (tokenOf (tileOf t) n) h)
      (Cert.ReferenceIdeal.Value.odds (argK m c) (rowOf t) (tokenOf (tileOf t) n) h) C S i)) :
    scalesAt m c t (ix3 (0 : Fin 1) h n) = Token.scale (M * Token.mag (argA m c (ix3 (rowOf t) (tokenOf (tileOf t) n) h)))
      ∧ ∀ i, codesAt m c t (ix4 (0 : Fin 1) h (Token.coord i) n) = Token.quant (Token.codes
          (Cert.ReferenceIdeal.Value.evens (argK m c) (rowOf t) (tokenOf (tileOf t) n) h)
          (Cert.ReferenceIdeal.Value.odds (argK m c) (rowOf t) (tokenOf (tileOf t) n) h) C S i
        * Ideal.div (argA m c (ix3 (rowOf t) (tokenOf (tileOf t) n) h))
            (Token.scale (M * Token.mag (argA m c (ix3 (rowOf t) (tokenOf (tileOf t) n) h))))) := by
  have hl : (BitVec.ofNat 32 (lane n).val).slt (leftFor m t n) = true := (lane_iff _ hL (grid0.coords t) n).2 hv
  have hlive : (0#32).slt (leftFor m t n) = true := by
    by_contra h0
    exact dead_lane _ hL (grid0.coords t) n h0 hv
  have hf := fetched_own m t n hL hv
  have hcodes : ∀ d, St.v (columnOf n) (found m t c) h (ix4 0 0 d (lane n)) = argK m c (ix4 (rowOf t) (tokenOf (tileOf t) n) h d) := fun d =>
    (found_codes m t n h c d).trans (congrArg (fun e => argK m c (ix4 (rowOf t) (tokenOf e n) h d)) hf)
  have ha : St.a (columnOf n) (found m t c) (groupOf h) (ix3 0 (placeOf h) (lane n)) = argA m c (ix3 (rowOf t) (tokenOf (tileOf t) n) h) :=
    (found_scale m t n h c).trans (congrArg (fun e => argA m c (ix3 (rowOf t) (tokenOf e n) h)) hf)
  have hE : evensOf (columnOf n) (found m t c) h (lane n) = Cert.ReferenceIdeal.Value.evens (argK m c) (rowOf t) (tokenOf (tileOf t) n) h :=
    funext fun q => congrArg (fun k : BitVec 8 => (k.toInt : ℝ)) (hcodes _)
  have hO : oddsOf (columnOf n) (found m t c) h (lane n) = Cert.ReferenceIdeal.Value.odds (argK m c) (rowOf t) (tokenOf (tileOf t) n) h :=
    funext fun q => congrArg (fun k : BitVec 8 => (k.toInt : ℝ)) (hcodes _)
  have key := lane_inside (columnOf n) (found m t c) h (lane n) C S
    (fun q => (found_cos m t c q _).trans (hC q))
    (fun q => (found_sin m t c q _).trans (hS q)) (leftFor m t n) hl (M := M)
    (by rw [hE, hO]; exact hM)
  rw [hE, hO, ha] at key
  refine ⟨?_, fun i => ?_⟩
  · rw [scalesAt_eq]
    unfold scaleOf
    rw [if_pos hlive]
    exact key.1
  · rw [codesAt_eq]
    unfold codeOf
    rw [if_pos hlive]
    exact key.2 i

/-! ## The results -/

/-- At every token and head the program's scale and codes are the reference's. -/
theorem token_eq (c : Dev nD) (hL : ∀ b, Clear (argL m 0 (ix1 b))) (hLc : argL m c = argL m 0) (b : Fin 2) (T : Fin 4096) (h : Fin 32) :
    resScale m c (ix3 b T h) = Cert.ReferenceIdeal.Value.scaleOf (Cert.ReferenceIdeal.Value.peak
        (Cert.ReferenceIdeal.Value.masked (argK m c) (argA m c) (argL m c) (argD m c))) (ix3 b T h)
      ∧ ∀ d, resCodes m c (ix4 b T h d) = Cert.ReferenceIdeal.Value.codesOf
          (Cert.ReferenceIdeal.Value.masked (argK m c) (argA m c) (argL m c) (argD m c))
          (Cert.ReferenceIdeal.Value.scaleOf (Cert.ReferenceIdeal.Value.peak
            (Cert.ReferenceIdeal.Value.masked (argK m c) (argA m c) (argL m c) (argD m c)))) (ix4 b T h d) := by
  rw [resScale_at]
  simp only [resCodes_at]
  have hb := (coords_at b (blockOf T)).1
  have he := (coords_at b (blockOf T)).2
  have hT : tokenOf (tileOf (at_ b (blockOf T))) (inBlock T) = T := by rw [he, tokenOf_blockOf]
  have hF : Clear (argL m 0 (ix1 (rowOf (at_ b (blockOf T))))) := hL _
  by_cases hv : (BitVec.ofNat 32 T.val).slt (argL m c (ix1 b)) = true
  · choose C S hC hS hcs using fun p => Token.circle (argD m c (ix1 b)) p
    obtain ⟨M, hM⟩ := Token.exists_isMax fun i => Token.mag (Token.codes (Cert.ReferenceIdeal.Value.evens (argK m c) b T h)
      (Cert.ReferenceIdeal.Value.odds (argK m c) b T h) C S i)
    have hp := point_inside m (at_ b (blockOf T)) (inBlock T) h c hF (by rw [hT, hb, ← hLc]; exact hv) C S
      (by rw [hb]; exact hC) (by rw [hb]; exact hS) (M := M) (by rw [hT, hb]; exact hM)
    rw [hT, hb] at hp
    have hr := Cert.ReferenceIdeal.Value.inside (argK m c) (argA m c) (argL m c) (argD m c) b T h hv C S hC hS hcs hM
    refine ⟨hp.1.trans hr.1.symm, fun d => ?_⟩
    obtain ⟨i, rfl⟩ := Token.coord_surjective d
    exact (hp.2 i).trans (hr.2 i).symm
  · have hp := point_past m (at_ b (blockOf T)) (inBlock T) h c hF (by rw [hT, hb, ← hLc]; exact hv)
    have hr := Cert.ReferenceIdeal.Value.past (argK m c) (argA m c) (argL m c) (argD m c) b T h hv
    exact ⟨hp.1.trans hr.1.symm, fun d => (hp.2 d).trans (hr.2 d).symm⟩

/-- The second result is the reference's scales. -/
theorem scale_eq (c : Dev nD) (hL : ∀ b, Clear (argL m 0 (ix1 b))) (hLc : argL m c = argL m 0) :
    resScale m c = Cert.ReferenceIdeal.Value.scaleOf (Cert.ReferenceIdeal.Value.peak
        (Cert.ReferenceIdeal.Value.masked (argK m c) (argA m c) (argL m c) (argD m c))) := by
  funext z
  obtain ⟨b, T, h, rfl⟩ : ∃ (b : Fin 2) (T : Fin 4096) (h : Fin 32), z = ix3 b T h := ⟨_, _, _, eq_ix3 z⟩
  exact (token_eq m c hL hLc b T h).1

/-- The first result is the reference's codes. -/
theorem codes_eq (c : Dev nD) (hL : ∀ b, Clear (argL m 0 (ix1 b))) (hLc : argL m c = argL m 0) :
    resCodes m c = Cert.ReferenceIdeal.Value.codesOf
          (Cert.ReferenceIdeal.Value.masked (argK m c) (argA m c) (argL m c) (argD m c))
          (Cert.ReferenceIdeal.Value.scaleOf (Cert.ReferenceIdeal.Value.peak
            (Cert.ReferenceIdeal.Value.masked (argK m c) (argA m c) (argL m c) (argD m c)))) := by
  funext z
  obtain ⟨b, T, h, d, rfl⟩ : ∃ (b : Fin 2) (T : Fin 4096) (h : Fin 32) (d : Fin 96), z = ix4 b T h d := ⟨_, _, _, _, eq_ix4 z⟩
  exact (token_eq m c hL hLc b T h).2 d

end Cert.KernelIdeal.Body

end
-- ==== Proof.Precondition.lean ====
/- The precondition, read: every length is clear of overflow. -/
module

public import proofs.«01_k».proof.Proof.Live
public import proofs.«01_k».proof.Pre_lengths_clear_of_overflow
public import Idealize.ShloMosaic.Lib.ReduceAll

@[expose] public section

set_option maxRecDepth 16384

noncomputable section

namespace Cert.Pre_lengths_clear_of_overflow

open Idealize.ShloMosaic Idealize.ShloMosaic.Pointwise

/-- The shape relations of the precondition's operations. -/
instance facts : Facts where
  bcast_S_S2 := by decide
  reducesTo_S2_S_d0 := by decide
  h_S_ := by decide

instance : Subsingleton S_.Idx := ⟨fun i j => funext fun a => a.elim0⟩

/-- Where the precondition holds, both lengths are clear of overflow. -/
theorem clear [Facts] (K : IVec S2x4096x32x96 8) (A : FVec Ideal S2x4096x32 .f32) (L D : IVec S2 32)
    (h : fn (F := Ideal) K A L D = fun _ => 1#1) (b : Fin 2) : Cert.KernelIdeal.Body.Clear (L (ix1 b)) := by
  have h0 := congrFun h (fun a => a.elim0)
  unfold fn at h0
  dsimp only at h0
  obtain ⟨h1, h2⟩ := IntOp.andi_eq_one.1 h0
  have e1 := Host.reduce_andi_all _ _ _ _ _ h1 (ix1 b)
  have e2 := Host.reduce_andi_all _ _ _ _ _ h2 (ix1 b)
  have g1 : IntOp.cmpi .sge (L (ix1 b)) 2147487616#32 = 1#1 := e1
  have g2 : IntOp.cmpi .sle (L (ix1 b)) 2147483136#32 = 1#1 := e2
  constructor
  · have : ((2147487616#32 : BitVec 32).sle (L (ix1 b))) = true := by
      by_contra hc
      have : (BitVec.ofBool ((2147487616#32 : BitVec 32).sle (L (ix1 b)))) = 1#1 := g1
      rw [Bool.not_eq_true] at hc
      rw [hc] at this
      exact absurd this (by decide)
    rw [BitVec.sle_iff_toInt_le] at this
    have h0 : (2147487616#32 : BitVec 32).toInt = 3968 - 2 ^ 31 := by decide
    omega
  · have : ((L (ix1 b)).sle (2147483136#32 : BitVec 32)) = true := by
      by_contra hc
      have : (BitVec.ofBool ((L (ix1 b)).sle (2147483136#32 : BitVec 32))) = 1#1 := g2
      rw [Bool.not_eq_true] at hc
      rw [hc] at this
      exact absurd this (by decide)
    rw [BitVec.sle_iff_toInt_le] at this
    have h0 : (2147483136#32 : BitVec 32).toInt = 2 ^ 31 - 512 := by decide
    omega

end Cert.Pre_lengths_clear_of_overflow

end
-- ==== Proof.lean ====
module

public import proofs.«01_k».proof.Defs
public import proofs.«01_k».proof.Proof.Launch
public import proofs.«01_k».proof.Proof.LaunchBits
public import proofs.«01_k».proof.Proof.Equation
public import proofs.«01_k».proof.Proof.Precondition
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Bf16Pair

@[expose] public section

noncomputable section

namespace Cert.Proof

open Idealize.ShloMosaic Idealize.SL.Sem Cert.Kernel

/-- The kernel's frame. -/
theorem frame_k : Cert.quiescent_Kernel := fun m g _ => Cert.Kernel.Body.frame_run m g

/-- The idealized kernel's frame. -/
theorem frame_ki : Cert.quiescent_KernelIdeal := fun m g _ => Cert.KernelIdeal.Body.frame_run m g

/-- The idealized reference's frame. -/
theorem frame_ri : Cert.quiescent_ReferenceIdeal := fun m g _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m g)

/-- The idealized kernel is the kernel's idealization. -/
theorem preserves : Cert.preserves_Kernel_KernelIdeal := IdealRules.bf16_pair.statement _ _

/-- The frames again, of the inputs that meet the precondition. -/
theorem frame_ki_clear : Cert.quiescent_KernelIdeal_pre_lengths_clear_of_overflow := fun m g _ => frame_ki m g trivial
theorem frame_ri_clear : Cert.quiescent_ReferenceIdeal_pre_lengths_clear_of_overflow := fun m g _ => frame_ri m g trivial

/-- Over the extended reals the kernel's codes and scales are the reference's, wherever the lengths are clear of overflow. -/
theorem algebraic : Cert.algebraic_KernelIdeal_ReferenceIdeal_pre_lengths_clear_of_overflow := by
  intro m g m' g' hpre hargs
  have hL : ∀ b, Cert.KernelIdeal.Body.Clear (Cert.KernelIdeal.Body.argL m 0 (ix1 b)) := fun b =>
    Cert.Pre_lengths_clear_of_overflow.clear _ _ _ _ (hpre 0) b
  have hLc : ∀ c, Cert.KernelIdeal.Body.argL m c = Cert.KernelIdeal.Body.argL m 0 := fun c => by
    rw [Cert.KernelIdeal.Body.dev_eq c]
  refine ⟨Cert.KernelIdeal.Body.resCodes m, Cert.KernelIdeal.Body.resScale m, Cert.KernelIdeal.Body.value_run m g, ?_⟩
  refine (θ_run Cert.ReferenceIdeal.defs _ _).mono (fun r h c => ?_) (Cert.ReferenceIdeal.Value.run (F := Ideal) m' g')
  obtain ⟨h0, h1, h2⟩ := h c
  obtain ⟨e0, e1, e2, e3⟩ := hargs c
  refine ⟨h0.trans ?_, h1.trans ?_, h2⟩
  · rw [Cert.ReferenceIdeal.Value.res_codes, e0, e1, e2, e3]
    exact (Cert.KernelIdeal.Body.codes_eq m c hL (hLc c)).symm
  · rw [Cert.ReferenceIdeal.Value.res_scale, e0, e1, e2, e3]
    exact (Cert.KernelIdeal.Body.scale_eq m c hL (hLc c)).symm

theorem claim : Cert.Claim := ⟨Cert.Kernel.Gen.facts, Cert.KernelIdeal.Gen.facts, Cert.ReferenceIdeal.Gen.facts,
  Cert.Pre_lengths_clear_of_overflow.facts, frame_k, frame_ki, frame_ki_clear, frame_ri, frame_ri_clear, preserves, algebraic⟩

end Cert.Proof

end
